-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def Pre_KernelDc (m : (ℓ : Loc Cert.KernelDc.nD Cert.KernelDc.τ Cert.KernelDc.sig) → Buf (Elt Bits) ℓ) : Prop :=
  True

def Pre_KernelDcIdeal (m : (ℓ : Loc Cert.KernelDcIdeal.nD Cert.KernelDcIdeal.τ Cert.KernelDcIdeal.sig) → Buf (Elt Ideal) ℓ) : Prop :=
  True

def Pre_ReferenceDcIdeal (m : (ℓ : Loc Cert.ReferenceDcIdeal.nD Cert.ReferenceDcIdeal.τ Cert.ReferenceDcIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3)
      ∧ r.2.mem ((c.tc : Thread Cert.KernelDx.nD Cert.KernelDx.τ).loc Cert.KernelDx.main_arg4) = m ((c.tc : Thread Cert.KernelDx.nD Cert.KernelDx.τ).loc Cert.KernelDx.main_arg4)
      ∧ r.2.mem ((c.tc : Thread Cert.KernelDx.nD Cert.KernelDx.τ).loc Cert.KernelDx.main_arg5) = m ((c.tc : Thread Cert.KernelDx.nD Cert.KernelDx.τ).loc Cert.KernelDx.main_arg5))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
      ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4)
      ∧ r.2.mem ((c.tc : Thread Cert.ReferenceDxIdeal.nD Cert.ReferenceDxIdeal.τ).loc Cert.ReferenceDxIdeal.main_arg5) = m ((c.tc : Thread Cert.ReferenceDxIdeal.nD Cert.ReferenceDxIdeal.τ).loc Cert.ReferenceDxIdeal.main_arg5))
      ∧ r.2.sem = fun _ => 0)

def quiescent_KernelDc [hKernelDc : Cert.KernelDc.Facts] : Prop :=
  ∀ (m : (ℓ : Loc Cert.KernelDc.nD Cert.KernelDc.τ Cert.KernelDc.sig) → Buf (Elt Bits) ℓ) (g : Dev Cert.KernelDc.nD → PrngReg), Pre_KernelDc m →
    θ_run (Cert.KernelDc.defs (F := Bits)) (onTc (τ := Cert.KernelDc.τ) (Cert.KernelDc.main (F := Bits))) ⟨m, fun _ => 0, g⟩ (fun r => (∀ c : Dev Cert.KernelDc.nD,
      r.2.mem ((c.tc : Thread Cert.KernelDc.nD Cert.KernelDc.τ).loc Cert.KernelDc.main_arg0) = m ((c.tc : Thread Cert.KernelDc.nD Cert.KernelDc.τ).loc Cert.KernelDc.main_arg0))
      ∧ r.2.sem = fun _ => 0)

def quiescent_KernelDcIdeal [hKernelDcIdeal : Cert.KernelDcIdeal.Facts] : Prop :=
  ∀ (m : (ℓ : Loc Cert.KernelDcIdeal.nD Cert.KernelDcIdeal.τ Cert.KernelDcIdeal.sig) → Buf (Elt Ideal) ℓ) (g : Dev Cert.KernelDcIdeal.nD → PrngReg), Pre_KernelDcIdeal m →
    θ_run (Cert.KernelDcIdeal.defs (F := Ideal)) (onTc (τ := Cert.KernelDcIdeal.τ) (Cert.KernelDcIdeal.main (F := Ideal))) ⟨m, fun _ => 0, g⟩ (fun r => (∀ c : Dev Cert.KernelDcIdeal.nD,
      r.2.mem ((c.tc : Thread Cert.KernelDcIdeal.nD Cert.KernelDcIdeal.τ).loc Cert.KernelDcIdeal.main_arg0) = m ((c.tc : Thread Cert.KernelDcIdeal.nD Cert.KernelDcIdeal.τ).loc Cert.KernelDcIdeal.main_arg0))
      ∧ r.2.sem = fun _ => 0)

def quiescent_ReferenceDcIdeal [hReferenceDcIdeal : Cert.ReferenceDcIdeal.Facts] : Prop :=
  ∀ (m : (ℓ : Loc Cert.ReferenceDcIdeal.nD Cert.ReferenceDcIdeal.τ Cert.ReferenceDcIdeal.sig) → Buf (Elt Ideal) ℓ) (g : Dev Cert.ReferenceDcIdeal.nD → PrngReg), Pre_ReferenceDcIdeal m →
    θ_run (Cert.ReferenceDcIdeal.defs (F := Ideal)) (onTc (τ := Cert.ReferenceDcIdeal.τ) (Cert.ReferenceDcIdeal.main (F := Ideal))) ⟨m, fun _ => 0, g⟩ (fun r => (∀ c : Dev Cert.ReferenceDcIdeal.nD,
      r.2.mem ((c.tc : Thread Cert.ReferenceDcIdeal.nD Cert.ReferenceDcIdeal.τ).loc Cert.ReferenceDcIdeal.main_arg0) = m ((c.tc : Thread Cert.ReferenceDcIdeal.nD Cert.ReferenceDcIdeal.τ).loc Cert.ReferenceDcIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelDx_KernelDxIdeal : Prop :=
  IdealRules.bf16_pair.PackStatement Cert.KernelDxIdeal.S8x128
  ∧ IdealRules.bf16_pair.Statement Cert.KernelDxIdeal.S1x8x2x128 Cert.KernelDxIdeal.S1x8x1x128

def algebraic_KernelDxIdeal_ReferenceDxIdeal [hKernelDxIdeal : Cert.KernelDxIdeal.Facts] [hReferenceDxIdeal : Cert.ReferenceDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)
      ∧ m' ((c.tc : Thread Cert.ReferenceDxIdeal.nD Cert.ReferenceDxIdeal.τ).loc Cert.ReferenceDxIdeal.main_arg3) = m ((c.tc : Thread Cert.KernelDxIdeal.nD Cert.KernelDxIdeal.τ).loc Cert.KernelDxIdeal.main_arg3)
      ∧ m' ((c.tc : Thread Cert.ReferenceDxIdeal.nD Cert.ReferenceDxIdeal.τ).loc Cert.ReferenceDxIdeal.main_arg4) = m ((c.tc : Thread Cert.KernelDxIdeal.nD Cert.KernelDxIdeal.τ).loc Cert.KernelDxIdeal.main_arg4)
      ∧ m' ((c.tc : Thread Cert.ReferenceDxIdeal.nD Cert.ReferenceDxIdeal.τ).loc Cert.ReferenceDxIdeal.main_arg5) = m ((c.tc : Thread Cert.KernelDxIdeal.nD Cert.KernelDxIdeal.τ).loc Cert.KernelDxIdeal.main_arg5)) →
    ∃ (v0 : (c : Dev Cert.KernelDxIdeal.nD) → Buf (Elt Ideal) ((c.tc : Thread Cert.KernelDxIdeal.nD Cert.KernelDxIdeal.τ).loc Cert.KernelDxIdeal.main_v14)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v14) = v0 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
          ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
          ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v40) = v0 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2)
          ∧ r.2.mem ((c.tc : Thread Cert.ReferenceDxIdeal.nD Cert.ReferenceDxIdeal.τ).loc Cert.ReferenceDxIdeal.main_arg3) = m' ((c.tc : Thread Cert.ReferenceDxIdeal.nD Cert.ReferenceDxIdeal.τ).loc Cert.ReferenceDxIdeal.main_arg3)
          ∧ r.2.mem ((c.tc : Thread Cert.ReferenceDxIdeal.nD Cert.ReferenceDxIdeal.τ).loc Cert.ReferenceDxIdeal.main_arg4) = m' ((c.tc : Thread Cert.ReferenceDxIdeal.nD Cert.ReferenceDxIdeal.τ).loc Cert.ReferenceDxIdeal.main_arg4)
          ∧ r.2.mem ((c.tc : Thread Cert.ReferenceDxIdeal.nD Cert.ReferenceDxIdeal.τ).loc Cert.ReferenceDxIdeal.main_arg5) = m' ((c.tc : Thread Cert.ReferenceDxIdeal.nD Cert.ReferenceDxIdeal.τ).loc Cert.ReferenceDxIdeal.main_arg5))

def preserves_KernelDc_KernelDcIdeal : Prop :=
  True

def algebraic_KernelDcIdeal_ReferenceDcIdeal [hKernelDcIdeal : Cert.KernelDcIdeal.Facts] [hReferenceDcIdeal : Cert.ReferenceDcIdeal.Facts] : Prop :=
  ∀ (m : (ℓ : Loc Cert.KernelDcIdeal.nD Cert.KernelDcIdeal.τ Cert.KernelDcIdeal.sig) → Buf (Elt Ideal) ℓ) (g : Dev Cert.KernelDcIdeal.nD → PrngReg)
    (m' : (ℓ : Loc Cert.ReferenceDcIdeal.nD Cert.ReferenceDcIdeal.τ Cert.ReferenceDcIdeal.sig) → Buf (Elt Ideal) ℓ) (g' : Dev Cert.ReferenceDcIdeal.nD → PrngReg), Pre_KernelDcIdeal m →
    (∀ c : Dev Cert.KernelDcIdeal.nD,
      m' ((c.tc : Thread Cert.ReferenceDcIdeal.nD Cert.ReferenceDcIdeal.τ).loc Cert.ReferenceDcIdeal.main_arg0) = m ((c.tc : Thread Cert.KernelDcIdeal.nD Cert.KernelDcIdeal.τ).loc Cert.KernelDcIdeal.main_arg0)) →
    ∃ (v0 : (c : Dev Cert.KernelDcIdeal.nD) → Buf (Elt Ideal) ((c.tc : Thread Cert.KernelDcIdeal.nD Cert.KernelDcIdeal.τ).loc Cert.KernelDcIdeal.main_v4)),
      θ_run (Cert.KernelDcIdeal.defs (F := Ideal)) (onTc (τ := Cert.KernelDcIdeal.τ) (Cert.KernelDcIdeal.main (F := Ideal))) ⟨m, fun _ => 0, g⟩ (fun r => ∀ c : Dev Cert.KernelDcIdeal.nD,
          r.2.mem ((c.tc : Thread Cert.KernelDcIdeal.nD Cert.KernelDcIdeal.τ).loc Cert.KernelDcIdeal.main_v4) = v0 c
          ∧ r.2.mem ((c.tc : Thread Cert.KernelDcIdeal.nD Cert.KernelDcIdeal.τ).loc Cert.KernelDcIdeal.main_arg0) = m ((c.tc : Thread Cert.KernelDcIdeal.nD Cert.KernelDcIdeal.τ).loc Cert.KernelDcIdeal.main_arg0))
      ∧ θ_run (Cert.ReferenceDcIdeal.defs (F := Ideal)) (onTc (τ := Cert.ReferenceDcIdeal.τ) (Cert.ReferenceDcIdeal.main (F := Ideal))) ⟨m', fun _ => 0, g'⟩ (fun r => ∀ c : Dev Cert.ReferenceDcIdeal.nD,
          r.2.mem ((c.tc : Thread Cert.ReferenceDcIdeal.nD Cert.ReferenceDcIdeal.τ).loc Cert.ReferenceDcIdeal.main_v3) = v0 c
          ∧ r.2.mem ((c.tc : Thread Cert.ReferenceDcIdeal.nD Cert.ReferenceDcIdeal.τ).loc Cert.ReferenceDcIdeal.main_arg0) = m' ((c.tc : Thread Cert.ReferenceDcIdeal.nD Cert.ReferenceDcIdeal.τ).loc Cert.ReferenceDcIdeal.main_arg0))

def Claim : Prop :=
  ∃ (hKernel : Cert.Kernel.Facts) (hKernelIdeal : Cert.KernelIdeal.Facts) (hReferenceIdeal : Cert.ReferenceIdeal.Facts) (hKernelDx : Cert.KernelDx.Facts) (hKernelDxIdeal : Cert.KernelDxIdeal.Facts) (hReferenceDxIdeal : Cert.ReferenceDxIdeal.Facts) (hKernelDc : Cert.KernelDc.Facts) (hKernelDcIdeal : Cert.KernelDcIdeal.Facts) (hReferenceDcIdeal : Cert.ReferenceDcIdeal.Facts),
    quiescent_Kernel (hKernel := hKernel)
    ∧ quiescent_KernelIdeal (hKernelIdeal := hKernelIdeal)
    ∧ quiescent_ReferenceIdeal (hReferenceIdeal := hReferenceIdeal)
    ∧ quiescent_KernelDx (hKernelDx := hKernelDx)
    ∧ quiescent_KernelDxIdeal (hKernelDxIdeal := hKernelDxIdeal)
    ∧ quiescent_ReferenceDxIdeal (hReferenceDxIdeal := hReferenceDxIdeal)
    ∧ quiescent_KernelDc (hKernelDc := hKernelDc)
    ∧ quiescent_KernelDcIdeal (hKernelDcIdeal := hKernelDcIdeal)
    ∧ quiescent_ReferenceDcIdeal (hReferenceDcIdeal := hReferenceDcIdeal)
    ∧ preserves_Kernel_KernelIdeal
    ∧ algebraic_KernelIdeal_ReferenceIdeal (hKernelIdeal := hKernelIdeal) (hReferenceIdeal := hReferenceIdeal)
    ∧ preserves_KernelDx_KernelDxIdeal
    ∧ algebraic_KernelDxIdeal_ReferenceDxIdeal (hKernelDxIdeal := hKernelDxIdeal) (hReferenceDxIdeal := hReferenceDxIdeal)
    ∧ preserves_KernelDc_KernelDcIdeal
    ∧ algebraic_KernelDcIdeal_ReferenceDcIdeal (hKernelDcIdeal := hKernelDcIdeal) (hReferenceDcIdeal := hReferenceDcIdeal)
-- ==== Kernel.lean ====
abbrev S3x384x4096 : Shape := ⟨3, ![3, 384, 4096]⟩
abbrev S3x384x14336 : Shape := ⟨3, ![3, 384, 14336]⟩
abbrev S3x384 : Shape := ⟨2, ![3, 384]⟩
abbrev S2x14336x512 : Shape := ⟨3, ![2, 14336, 512]⟩
abbrev S2x256x8 : Shape := ⟨3, ![2, 256, 8]⟩
abbrev S14336 : Shape := ⟨1, ![14336]⟩
abbrev S1152x14336 : Shape := ⟨2, ![1152, 14336]⟩
abbrev S1152x16x32x8 : Shape := ⟨4, ![1152, 16, 32, 8]⟩
abbrev S16x8x32x1152 : Shape := ⟨4, ![16, 8, 32, 1152]⟩
abbrev S4096x1152 : Shape := ⟨2, ![4096, 1152]⟩
abbrev S1152x1 : Shape := ⟨2, ![1152, 1]⟩
abbrev S1152x128 : Shape := ⟨2, ![1152, 128]⟩
abbrev S2x256x4 : Shape := ⟨3, ![2, 256, 4]⟩
abbrev S_ : Shape := ⟨0, ![]⟩
abbrev S2x4x256 : Shape := ⟨3, ![2, 4, 256]⟩
abbrev S2x4x2x1x128 : Shape := ⟨5, ![2, 4, 2, 1, 128]⟩
abbrev S2x4x2x8x128 : Shape := ⟨5, ![2, 4, 2, 8, 128]⟩
abbrev S1x14336 : Shape := ⟨2, ![1, 14336]⟩
abbrev S16x8x32x2048 : Shape := ⟨4, ![16, 8, 32, 2048]⟩
abbrev S512x2048 : Shape := ⟨2, ![512, 2048]⟩
abbrev S1x2048 : Shape := ⟨2, ![1, 2048]⟩
abbrev S1152x512 : Shape := ⟨2, ![1152, 512]⟩
abbrev S2x512x512 : Shape := ⟨3, ![2, 512, 512]⟩
abbrev S1x512 : Shape := ⟨2, ![1, 512]⟩
abbrev S16x8x32x512 : Shape := ⟨4, ![16, 8, 32, 512]⟩
abbrev S512x512 : Shape := ⟨2, ![512, 512]⟩
abbrev S1x512x512 : Shape := ⟨3, ![1, 512, 512]⟩
abbrev S8x128 : Shape := ⟨2, ![8, 128]⟩
abbrev S256x1152 : Shape := ⟨2, ![256, 1152]⟩
abbrev S256x512 : Shape := ⟨2, ![256, 512]⟩
abbrev S1x128 : Shape := ⟨2, ![1, 128]⟩
abbrev S1x1x1x8x128 : Shape := ⟨5, ![1, 1, 1, 8, 128]⟩
abbrev S8x128x1 : Shape := ⟨3, ![8, 128, 1]⟩
abbrev S1x1x8x128 : Shape := ⟨4, ![1, 1, 8, 128]⟩
abbrev S128 : Shape := ⟨1, ![128]⟩

abbrev nBuf : Space → Nat
  | .hbm => 28
  | .vmem => 17
  | .smem => 0
  | _ => 0

abbrev bufTy : (tb : Table) → Fin (tcTables nBuf tb) → BufTy
  | .hbm, ⟨0, _⟩ => ⟨S3x384x4096, .bf16⟩
  | .hbm, ⟨1, _⟩ => ⟨S3x384x14336, .fp8e5m2⟩
  | .hbm, ⟨2, _⟩ => ⟨S3x384, .f32⟩
  | .hbm, ⟨3, _⟩ => ⟨S2x14336x512, .i8⟩
  | .hbm, ⟨4, _⟩ => ⟨S2x256x8, .i16⟩
  | .hbm, ⟨5, _⟩ => ⟨S14336, .f32⟩
  | .hbm, ⟨6, _⟩ => ⟨S1152x14336, .fp8e5m2⟩
  | .hbm, ⟨7, _⟩ => ⟨S1152x16x32x8, .bf16⟩
  | .hbm, ⟨8, _⟩ => ⟨S16x8x32x1152, .bf16⟩
  | .hbm, ⟨9, _⟩ => ⟨S4096x1152, .bf16⟩
  | .hbm, ⟨10, _⟩ => ⟨S1152x1, .f32⟩
  | .hbm, ⟨11, _⟩ => ⟨S1152x128, .f32⟩
  | .hbm, ⟨12, _⟩ => ⟨S1152x128, .bf16⟩
  | .hbm, ⟨13, _⟩ => ⟨S2x256x8, .i32⟩
  | .hbm, ⟨14, _⟩ => ⟨S2x256x4, .i32⟩
  | .hbm, ⟨15, _⟩ => ⟨S2x256x4, .i32⟩
  | .hbm, ⟨16, _⟩ => ⟨S_, .i32⟩
  | .hbm, ⟨17, _⟩ => ⟨S2x256x4, .i32⟩
  | .hbm, ⟨18, _⟩ => ⟨S2x256x4, .i32⟩
  | .hbm, ⟨19, _⟩ => ⟨S2x256x4, .i32⟩
  | .hbm, ⟨20, _⟩ => ⟨S2x4x256, .i32⟩
  | .hbm, ⟨21, _⟩ => ⟨S2x4x2x1x128, .i32⟩
  | .hbm, ⟨22, _⟩ => ⟨S2x4x2x8x128, .i32⟩
  | .hbm, ⟨23, _⟩ => ⟨S2x4x2x8x128, .i32⟩
  | .hbm, ⟨24, _⟩ => ⟨S1x14336, .f32⟩
  | .hbm, ⟨25, _⟩ => ⟨S16x8x32x2048, .f32⟩
  | .hbm, ⟨26, _⟩ => ⟨S512x2048, .i32⟩
  | .hbm, ⟨27, _⟩ => ⟨S1x2048, .f32⟩
  | .local _ .vmem, ⟨0, _⟩ => ⟨S4096x1152, .bf16⟩
  | .local _ .vmem, ⟨1, _⟩ => ⟨S1152x512, .fp8e5m2⟩
  | .local _ .vmem, ⟨2, _⟩ => ⟨S1152x512, .fp8e5m2⟩
  | .local _ .vmem, ⟨3, _⟩ => ⟨S1152x128, .bf16⟩
  | .local _ .vmem, ⟨4, _⟩ => ⟨S2x512x512, .i8⟩
  | .local _ .vmem, ⟨5, _⟩ => ⟨S2x512x512, .i8⟩
  | .local _ .vmem, ⟨6, _⟩ => ⟨S2x4x2x8x128, .i32⟩
  | .local _ .vmem, ⟨7, _⟩ => ⟨S1x512, .f32⟩
  | .local _ .vmem, ⟨8, _⟩ => ⟨S1x512, .f32⟩
  | .local _ .vmem, ⟨9, _⟩ => ⟨S16x8x32x512, .f32⟩
  | .local _ .vmem, ⟨10, _⟩ => ⟨S16x8x32x512, .f32⟩
  | .local _ .vmem, ⟨11, _⟩ => ⟨S512x512, .i32⟩
  | .local _ .vmem, ⟨12, _⟩ => ⟨S512x512, .i32⟩
  | .local _ .vmem, ⟨13, _⟩ => ⟨S1x512, .f32⟩
  | .local _ .vmem, ⟨14, _⟩ => ⟨S1x512, .f32⟩
  | .local _ .vmem, ⟨15, _⟩ => ⟨S1152x512, .bf16⟩
  | .local _ .vmem, ⟨16, _⟩ => ⟨S512x512, .i32⟩
  | _, _ => ⟨S3x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32_33 : BitVec 32 := 16#32
  let v68 : BitVec 32 := Scalar.addi c0_i32 c16_i32_33
  let c1_i32 : BitVec 32 := 1#32
  ⟨c0_i32, v68, c1_i32⟩
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v82 : BitVec 32 := Scalar.muli arg12 c256_i32
  let v83 : Index := Scalar.indexCast v82
  let c0_47 : Index := 0#32
  ![v83.toNat, 0]
def k0_off2 (k0_t1 : Fin k0_t1_loop.trips) (c0_i32_53 : BitVec 32) : Fin 2 → Nat :=
  let c0_i32 : BitVec 32 := 0#32
  let c1_i32 : BitVec 32 := 1#32
  let arg12 : BitVec 32 := Scf.iv c0_i32 c1_i32 k0_t1
  let c32_i32 : BitVec 32 := 32#32
  let v90 : BitVec 32 := Scalar.muli arg12 c32_i32
  let v91 : BitVec 32 := Scalar.addi v90 c0_i32_53
  let v92 : Index := Scalar.indexCast v91
  let c0_54 : Index := 0#32
  ![v92.toNat, 0]
def k0_off3 (k0_t1 : Fin k0_t1_loop.trips) : Fin 4 → Nat :=
  let c0_i32 : BitVec 32 := 0#32
  let c1_i32 : BitVec 32 := 1#32
  let arg12 : BitVec 32 := Scf.iv c0_i32 c1_i32 k0_t1
  let v339 : Index := Scalar.indexCast arg12
  let c0_186 : Index := 0#32
  let c0_187 : Index := 0#32
  let c0_188 : Index := 0#32
  ![v339.toNat, 0, 0, 0]
def k0_off4 (k0_t1 : Fin k0_t1_loop.trips) : Fin 4 → Nat :=
  let c0_i32 : BitVec 32 := 0#32
  let c1_i32 : BitVec 32 := 1#32
  let arg12 : BitVec 32 := Scf.iv c0_i32 c1_i32 k0_t1
  let v348 : Index := Scalar.indexCast arg12
  let c1_189 : Index := 1#32
  let c0_190 : Index := 0#32
  let c0_191 : Index := 0#32
  ![v348.toNat, 1, 0, 0]
def k0_off5 (k0_t1 : Fin k0_t1_loop.trips) : Fin 4 → Nat :=
  let c0_i32 : BitVec 32 := 0#32
  let c1_i32 : BitVec 32 := 1#32
  let arg12 : BitVec 32 := Scf.iv c0_i32 c1_i32 k0_t1
  let v357 : Index := Scalar.indexCast arg12
  let c2_192 : Index := 2#32
  let c0_193 : Index := 0#32
  let c0_194 : Index := 0#32
  ![v357.toNat, 2, 0, 0]
def k0_off6 (k0_t1 : Fin k0_t1_loop.trips) : Fin 4 → Nat :=
  let c0_i32 : BitVec 32 := 0#32
  let c1_i32 : BitVec 32 := 1#32
  let arg12 : BitVec 32 := Scf.iv c0_i32 c1_i32 k0_t1
  let v366 : Index := Scalar.indexCast arg12
  let c3_195 : Index := 3#32
  let c0_196 : Index := 0#32
  let c0_197 : Index := 0#32
  ![v366.toNat, 3, 0, 0]
def k0_off7 (k0_t1 : Fin k0_t1_loop.trips) : Fin 4 → Nat :=
  let c0_i32 : BitVec 32 := 0#32
  let c1_i32 : BitVec 32 := 1#32
  let arg12 : BitVec 32 := Scf.iv c0_i32 c1_i32 k0_t1
  let v375 : Index := Scalar.indexCast arg12
  let c4 : Index := 4#32
  let c0_198 : Index := 0#32
  let c0_199 : Index := 0#32
  ![v375.toNat, 4, 0, 0]
def k0_off8 (k0_t1 : Fin k0_t1_loop.trips) : Fin 4 → Nat :=
  let c0_i32 : BitVec 32 := 0#32
  let c1_i32 : BitVec 32 := 1#32
  let arg12 : BitVec 32 := Scf.iv c0_i32 c1_i32 k0_t1
  let v384 : Index := Scalar.indexCast arg12
  let c5 : Index := 5#32
  let c0_200 : Index := 0#32
  let c0_201 : Index := 0#32
  ![v384.toNat, 5, 0, 0]
def k0_off9 (k0_t1 : Fin k0_t1_loop.trips) : Fin 4 → Nat :=
  let c0_i32 : BitVec 32 := 0#32
  let c1_i32 : BitVec 32 := 1#32
  let arg12 : BitVec 32 := Scf.iv c0_i32 c1_i32 k0_t1
  let v393 : Index := Scalar.indexCast arg12
  let c6 : Index := 6#32
  let c0_202 : Index := 0#32
  let c0_203 : Index := 0#32
  ![v393.toNat, 6, 0, 0]
def k0_off10 (k0_t1 : Fin k0_t1_loop.trips) : Fin 4 → Nat :=
  let c0_i32 : BitVec 32 := 0#32
  let c1_i32 : BitVec 32 := 1#32
  let arg12 : BitVec 32 := Scf.iv c0_i32 c1_i32 k0_t1
  let v402 : Index := Scalar.indexCast arg12
  let c7 : Index := 7#32
  let c0_204 : Index := 0#32
  let c0_205 : Index := 0#32
  ![v402.toNat, 7, 0, 0]
def k0_off11 (k0_t1 : Fin k0_t1_loop.trips) : Fin 4 → Nat :=
  let c0_i32 : BitVec 32 := 0#32
  let c1_i32 : BitVec 32 := 1#32
  let arg12 : BitVec 32 := Scf.iv c0_i32 c1_i32 k0_t1
  let v655 : Index := Scalar.indexCast arg12
  let c0_345 : Index := 0#32
  let c8 : Index := 8#32
  let c0_346 : Index := 0#32
  ![v655.toNat, 0, 8, 0]
def k0_off12 (k0_t1 : Fin k0_t1_loop.trips) : Fin 4 → Nat :=
  let c0_i32 : BitVec 32 := 0#32
  let c1_i32 : BitVec 32 := 1#32
  let arg12 : BitVec 32 := Scf.iv c0_i32 c1_i32 k0_t1
  let v664 : Index := Scalar.indexCast arg12
  let c1_347 : Index := 1#32
  let c8_348 : Index := 8#32
  let c0_349 : Index := 0#32
  ![v664.toNat, 1, 8, 0]
def k0_off13 (k0_t1 : Fin k0_t1_loop.trips) : Fin 4 → Nat :=
  let c0_i32 : BitVec 32 := 0#32
  let c1_i32 : BitVec 32 := 1#32
  let arg12 : BitVec 32 := Scf.iv c0_i32 c1_i32 k0_t1
  let v673 : Index := Scalar.indexCast arg12
  let c2_350 : Index := 2#32
  let c8_351 : Index := 8#32
  let c0_352 : Index := 0#32
  ![v673.toNat, 2, 8, 0]
def k0_off14 (k0_t1 : Fin k0_t1_loop.trips) : Fin 4 → Nat :=
  let c0_i32 : BitVec 32 := 0#32
  let c1_i32 : BitVec 32 := 1#32
  let arg12 : BitVec 32 := Scf.iv c0_i32 c1_i32 k0_t1
  let v682 : Index := Scalar.indexCast arg12
  let c3_353 : Index := 3#32
  let c8_354 : Index := 8#32
  let c0_355 : Index := 0#32
  ![v682.toNat, 3, 8, 0]
def k0_off15 (k0_t1 : Fin k0_t1_loop.trips) : Fin 4 → Nat :=
  let c0_i32 : BitVec 32 := 0#32
  let c1_i32 : BitVec 32 := 1#32
  let arg12 : BitVec 32 := Scf.iv c0_i32 c1_i32 k0_t1
  let v691 : Index := Scalar.indexCast arg12
  let c4_356 : Index := 4#32
  let c8_357 : Index := 8#32
  let c0_358 : Index := 0#32
  ![v691.toNat, 4, 8, 0]
def k0_off16 (k0_t1 : Fin k0_t1_loop.trips) : Fin 4 → Nat :=
  let c0_i32 : BitVec 32 := 0#32
  let c1_i32 : BitVec 32 := 1#32
  let arg12 : BitVec 32 := Scf.iv c0_i32 c1_i32 k0_t1
  let v700 : Index := Scalar.indexCast arg12
  let c5_359 : Index := 5#32
  let c8_360 : Index := 8#32
  let c0_361 : Index := 0#32
  ![v700.toNat, 5, 8, 0]
def k0_off17 (k0_t1 : Fin k0_t1_loop.trips) : Fin 4 → Nat :=
  let c0_i32 : BitVec 32 := 0#32
  let c1_i32 : BitVec 32 := 1#32
  let arg12 : BitVec 32 := Scf.iv c0_i32 c1_i32 k0_t1
  let v709 : Index := Scalar.indexCast arg12
  let c6_362 : Index := 6#32
  let c8_363 : Index := 8#32
  let c0_364 : Index := 0#32
  ![v709.toNat, 6, 8, 0]
def k0_off18 (k0_t1 : Fin k0_t1_loop.trips) : Fin 4 → Nat :=
  let c0_i32 : BitVec 32 := 0#32
  let c1_i32 : BitVec 32 := 1#32
  let arg12 : BitVec 32 := Scf.iv c0_i32 c1_i32 k0_t1
  let v718 : Index := Scalar.indexCast arg12
  let c7_365 : Index := 7#32
  let c8_366 : Index := 8#32
  let c0_367 : Index := 0#32
  ![v718.toNat, 7, 8, 0]
def k0_off19 (k0_t1 : Fin k0_t1_loop.trips) : Fin 4 → Nat :=
  let c0_i32 : BitVec 32 := 0#32
  let c1_i32 : BitVec 32 := 1#32
  let arg12 : BitVec 32 := Scf.iv c0_i32 c1_i32 k0_t1
  let v971 : Index := Scalar.indexCast arg12
  let c0_507 : Index := 0#32
  let c16 : Index := 16#32
  let c0_508 : Index := 0#32
  ![v971.toNat, 0, 16, 0]
def k0_off20 (k0_t1 : Fin k0_t1_loop.trips) : Fin 4 → Nat :=
  let c0_i32 : BitVec 32 := 0#32
  let c1_i32 : BitVec 32 := 1#32
  let arg12 : BitVec 32 := Scf.iv c0_i32 c1_i32 k0_t1
  let v980 : Index := Scalar.indexCast arg12
  let c1_509 : Index := 1#32
  let c16_510 : Index := 16#32
  let c0_511 : Index := 0#32
  ![v980.toNat, 1, 16, 0]
def k0_off21 (k0_t1 : Fin k0_t1_loop.trips) : Fin 4 → Nat :=
  let c0_i32 : BitVec 32 := 0#32
  let c1_i32 : BitVec 32 := 1#32
  let arg12 : BitVec 32 := Scf.iv c0_i32 c1_i32 k0_t1
  let v989 : Index := Scalar.indexCast arg12
  let c2_512 : Index := 2#32
  let c16_513 : Index := 16#32
  let c0_514 : Index := 0#32
  ![v989.toNat, 2, 16, 0]
def k0_off22 (k0_t1 : Fin k0_t1_loop.trips) : Fin 4 → Nat :=
  let c0_i32 : BitVec 32 := 0#32
  let c1_i32 : BitVec 32 := 1#32
  let arg12 : BitVec 32 := Scf.iv c0_i32 c1_i32 k0_t1
  let v998 : Index := Scalar.indexCast arg12
  let c3_515 : Index := 3#32
  let c16_516 : Index := 16#32
  let c0_517 : Index := 0#32
  ![v998.toNat, 3, 16, 0]
def k0_off23 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1007 : Index := Scalar.indexCast arg12
  let c4_518 : Index := 4#32
  let c16_519 : Index := 16#32
  let c0_520 : Index := 0#32
  ![v1007.toNat, 4, 16, 0]
def k0_off24 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1016 : Index := Scalar.indexCast arg12
  let c5_521 : Index := 5#32
  let c16_522 : Index := 16#32
  let c0_523 : Index := 0#32
  ![v1016.toNat, 5, 16, 0]
def k0_off25 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1025 : Index := Scalar.indexCast arg12
  let c6_524 : Index := 6#32
  let c16_525 : Index := 16#32
  let c0_526 : Index := 0#32
  ![v1025.toNat, 6, 16, 0]
def k0_off26 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1034 : Index := Scalar.indexCast arg12
  let c7_527 : Index := 7#32
  let c16_528 : Index := 16#32
  let c0_529 : Index := 0#32
  ![v1034.toNat, 7, 16, 0]
def k0_off27 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1287 : Index := Scalar.indexCast arg12
  let c0_668 : Index := 0#32
  let c24 : Index := 24#32
  let c0_669 : Index := 0#32
  ![v1287.toNat, 0, 24, 0]
def k0_off28 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1296 : Index := Scalar.indexCast arg12
  let c1_670 : Index := 1#32
  let c24_671 : Index := 24#32
  let c0_672 : Index := 0#32
  ![v1296.toNat, 1, 24, 0]
def k0_off29 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1305 : Index := Scalar.indexCast arg12
  let c2_673 : Index := 2#32
  let c24_674 : Index := 24#32
  let c0_675 : Index := 0#32
  ![v1305.toNat, 2, 24, 0]
def k0_off30 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1314 : Index := Scalar.indexCast arg12
  let c3_676 : Index := 3#32
  let c24_677 : Index := 24#32
  let c0_678 : Index := 0#32
  ![v1314.toNat, 3, 24, 0]
def k0_off31 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1323 : Index := Scalar.indexCast arg12
  let c4_679 : Index := 4#32
  let c24_680 : Index := 24#32
  let c0_681 : Index := 0#32
  ![v1323.toNat, 4, 24, 0]
def k0_off32 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1332 : Index := Scalar.indexCast arg12
  let c5_682 : Index := 5#32
  let c24_683 : Index := 24#32
  let c0_684 : Index := 0#32
  ![v1332.toNat, 5, 24, 0]
def k0_off33 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1341 : Index := Scalar.indexCast arg12
  let c6_685 : Index := 6#32
  let c24_686 : Index := 24#32
  let c0_687 : Index := 0#32
  ![v1341.toNat, 6, 24, 0]
def k0_off34 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1350 : Index := Scalar.indexCast arg12
  let c7_688 : Index := 7#32
  let c24_689 : Index := 24#32
  let c0_690 : Index := 0#32
  ![v1350.toNat, 7, 24, 0]
def k0_off35 (k0_t1 : Fin k0_t1_loop.trips) (c0_i32_694 : BitVec 32) : Fin 2 → Nat :=
  let c0_i32 : BitVec 32 := 0#32
  let c1_i32 : BitVec 32 := 1#32
  let arg12 : BitVec 32 := Scf.iv c0_i32 c1_i32 k0_t1
  let c32_i32_693 : BitVec 32 := 32#32
  let v1356 : BitVec 32 := Scalar.muli arg12 c32_i32_693
  let v1357 : BitVec 32 := Scalar.addi v1356 c0_i32_694
  let v1358 : Index := Scalar.indexCast v1357
  let c128_695 : Index := 128#32
  ![v1358.toNat, 128]
def k0_off36 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1605 : Index := Scalar.indexCast arg12
  let c0_832 : Index := 0#32
  let c0_833 : Index := 0#32
  let c128_834 : Index := 128#32
  ![v1605.toNat, 0, 0, 128]
def k0_off37 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1614 : Index := Scalar.indexCast arg12
  let c1_835 : Index := 1#32
  let c0_836 : Index := 0#32
  let c128_837 : Index := 128#32
  ![v1614.toNat, 1, 0, 128]
def k0_off38 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1623 : Index := Scalar.indexCast arg12
  let c2_838 : Index := 2#32
  let c0_839 : Index := 0#32
  let c128_840 : Index := 128#32
  ![v1623.toNat, 2, 0, 128]
def k0_off39 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1632 : Index := Scalar.indexCast arg12
  let c3_841 : Index := 3#32
  let c0_842 : Index := 0#32
  let c128_843 : Index := 128#32
  ![v1632.toNat, 3, 0, 128]
def k0_off40 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1641 : Index := Scalar.indexCast arg12
  let c4_844 : Index := 4#32
  let c0_845 : Index := 0#32
  let c128_846 : Index := 128#32
  ![v1641.toNat, 4, 0, 128]
def k0_off41 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1650 : Index := Scalar.indexCast arg12
  let c5_847 : Index := 5#32
  let c0_848 : Index := 0#32
  let c128_849 : Index := 128#32
  ![v1650.toNat, 5, 0, 128]
def k0_off42 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1659 : Index := Scalar.indexCast arg12
  let c6_850 : Index := 6#32
  let c0_851 : Index := 0#32
  let c128_852 : Index := 128#32
  ![v1659.toNat, 6, 0, 128]
def k0_off43 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1668 : Index := Scalar.indexCast arg12
  let c7_853 : Index := 7#32
  let c0_854 : Index := 0#32
  let c128_855 : Index := 128#32
  ![v1668.toNat, 7, 0, 128]
def k0_off44 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1921 : Index := Scalar.indexCast arg12
  let c0_995 : Index := 0#32
  let c8_996 : Index := 8#32
  let c128_997 : Index := 128#32
  ![v1921.toNat, 0, 8, 128]
def k0_off45 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1930 : Index := Scalar.indexCast arg12
  let c1_998 : Index := 1#32
  let c8_999 : Index := 8#32
  let c128_1000 : Index := 128#32
  ![v1930.toNat, 1, 8, 128]
def k0_off46 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1939 : Index := Scalar.indexCast arg12
  let c2_1001 : Index := 2#32
  let c8_1002 : Index := 8#32
  let c128_1003 : Index := 128#32
  ![v1939.toNat, 2, 8, 128]
def k0_off47 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1948 : Index := Scalar.indexCast arg12
  let c3_1004 : Index := 3#32
  let c8_1005 : Index := 8#32
  let c128_1006 : Index := 128#32
  ![v1948.toNat, 3, 8, 128]
def k0_off48 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1957 : Index := Scalar.indexCast arg12
  let c4_1007 : Index := 4#32
  let c8_1008 : Index := 8#32
  let c128_1009 : Index := 128#32
  ![v1957.toNat, 4, 8, 128]
def k0_off49 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1966 : Index := Scalar.indexCast arg12
  let c5_1010 : Index := 5#32
  let c8_1011 : Index := 8#32
  let c128_1012 : Index := 128#32
  ![v1966.toNat, 5, 8, 128]
def k0_off50 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1975 : Index := Scalar.indexCast arg12
  let c6_1013 : Index := 6#32
  let c8_1014 : Index := 8#32
  let c128_1015 : Index := 128#32
  ![v1975.toNat, 6, 8, 128]
def k0_off51 (k0_t1 : Fin k0_t1_loop.trips) : Fin 4 → Nat :=
  let c0_i32 : BitVec 32 := 0#32
  let c1_i32 : BitVec 32 := 1#32
  let arg12 : BitVec 32 := Scf.iv c0_i32 c1_i32 k0_t1
  let v1984 : Index := Scalar.indexCast arg12
  let c7_1016 : Index := 7#32
  let c8_1017 : Index := 8#32
  let c128_1018 : Index := 128#32
  ![v1984.toNat, 7, 8, 128]
def k0_off52 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2237 : Index := Scalar.indexCast arg12
  let c0_1158 : Index := 0#32
  let c16_1159 : Index := 16#32
  let c128_1160 : Index := 128#32
  ![v2237.toNat, 0, 16, 128]
def k0_off53 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2246 : Index := Scalar.indexCast arg12
  let c1_1161 : Index := 1#32
  let c16_1162 : Index := 16#32
  let c128_1163 : Index := 128#32
  ![v2246.toNat, 1, 16, 128]
def k0_off54 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2255 : Index := Scalar.indexCast arg12
  let c2_1164 : Index := 2#32
  let c16_1165 : Index := 16#32
  let c128_1166 : Index := 128#32
  ![v2255.toNat, 2, 16, 128]
def k0_off55 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2264 : Index := Scalar.indexCast arg12
  let c3_1167 : Index := 3#32
  let c16_1168 : Index := 16#32
  let c128_1169 : Index := 128#32
  ![v2264.toNat, 3, 16, 128]
def k0_off56 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2273 : Index := Scalar.indexCast arg12
  let c4_1170 : Index := 4#32
  let c16_1171 : Index := 16#32
  let c128_1172 : Index := 128#32
  ![v2273.toNat, 4, 16, 128]
def k0_off57 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2282 : Index := Scalar.indexCast arg12
  let c5_1173 : Index := 5#32
  let c16_1174 : Index := 16#32
  let c128_1175 : Index := 128#32
  ![v2282.toNat, 5, 16, 128]
def k0_off58 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2291 : Index := Scalar.indexCast arg12
  let c6_1176 : Index := 6#32
  let c16_1177 : Index := 16#32
  let c128_1178 : Index := 128#32
  ![v2291.toNat, 6, 16, 128]
def k0_off59 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2300 : Index := Scalar.indexCast arg12
  let c7_1179 : Index := 7#32
  let c16_1180 : Index := 16#32
  let c128_1181 : Index := 128#32
  ![v2300.toNat, 7, 16, 128]
def k0_off60 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2553 : Index := Scalar.indexCast arg12
  let c0_1321 : Index := 0#32
  let c24_1322 : Index := 24#32
  let c128_1323 : Index := 128#32
  ![v2553.toNat, 0, 24, 128]
def k0_off61 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2562 : Index := Scalar.indexCast arg12
  let c1_1324 : Index := 1#32
  let c24_1325 : Index := 24#32
  let c128_1326 : Index := 128#32
  ![v2562.toNat, 1, 24, 128]
def k0_off62 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2571 : Index := Scalar.indexCast arg12
  let c2_1327 : Index := 2#32
  let c24_1328 : Index := 24#32
  let c128_1329 : Index := 128#32
  ![v2571.toNat, 2, 24, 128]
def k0_off63 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2580 : Index := Scalar.indexCast arg12
  let c3_1330 : Index := 3#32
  let c24_1331 : Index := 24#32
  let c128_1332 : Index := 128#32
  ![v2580.toNat, 3, 24, 128]
def k0_off64 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2589 : Index := Scalar.indexCast arg12
  let c4_1333 : Index := 4#32
  let c24_1334 : Index := 24#32
  let c128_1335 : Index := 128#32
  ![v2589.toNat, 4, 24, 128]
def k0_off65 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2598 : Index := Scalar.indexCast arg12
  let c5_1336 : Index := 5#32
  let c24_1337 : Index := 24#32
  let c128_1338 : Index := 128#32
  ![v2598.toNat, 5, 24, 128]
def k0_off66 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2607 : Index := Scalar.indexCast arg12
  let c6_1339 : Index := 6#32
  let c24_1340 : Index := 24#32
  let c128_1341 : Index := 128#32
  ![v2607.toNat, 6, 24, 128]
def k0_off67 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2616 : Index := Scalar.indexCast arg12
  let c7_1342 : Index := 7#32
  let c24_1343 : Index := 24#32
  let c128_1344 : Index := 128#32
  ![v2616.toNat, 7, 24, 128]
def k0_off68 (k0_t1 : Fin k0_t1_loop.trips) (c0_i32_1348 : BitVec 32) : Fin 2 → Nat :=
  let c0_i32 : BitVec 32 := 0#32
  let c1_i32 : BitVec 32 := 1#32
  let arg12 : BitVec 32 := Scf.iv c0_i32 c1_i32 k0_t1
  let c32_i32_1347 : BitVec 32 := 32#32
  let v2622 : BitVec 32 := Scalar.muli arg12 c32_i32_1347
  let v2623 : BitVec 32 := Scalar.addi v2622 c0_i32_1348
  let v2624 : Index := Scalar.indexCast v2623
  let c256_1349 : Index := 256#32
  ![v2624.toNat, 256]
def k0_off69 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2871 : Index := Scalar.indexCast arg12
  let c0_1486 : Index := 0#32
  let c0_1487 : Index := 0#32
  let c256_1488 : Index := 256#32
  ![v2871.toNat, 0, 0, 256]
def k0_off70 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2880 : Index := Scalar.indexCast arg12
  let c1_1489 : Index := 1#32
  let c0_1490 : Index := 0#32
  let c256_1491 : Index := 256#32
  ![v2880.toNat, 1, 0, 256]
def k0_off71 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2889 : Index := Scalar.indexCast arg12
  let c2_1492 : Index := 2#32
  let c0_1493 : Index := 0#32
  let c256_1494 : Index := 256#32
  ![v2889.toNat, 2, 0, 256]
def k0_off72 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2898 : Index := Scalar.indexCast arg12
  let c3_1495 : Index := 3#32
  let c0_1496 : Index := 0#32
  let c256_1497 : Index := 256#32
  ![v2898.toNat, 3, 0, 256]
def k0_off73 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2907 : Index := Scalar.indexCast arg12
  let c4_1498 : Index := 4#32
  let c0_1499 : Index := 0#32
  let c256_1500 : Index := 256#32
  ![v2907.toNat, 4, 0, 256]
def k0_off74 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2916 : Index := Scalar.indexCast arg12
  let c5_1501 : Index := 5#32
  let c0_1502 : Index := 0#32
  let c256_1503 : Index := 256#32
  ![v2916.toNat, 5, 0, 256]
def k0_off75 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2925 : Index := Scalar.indexCast arg12
  let c6_1504 : Index := 6#32
  let c0_1505 : Index := 0#32
  let c256_1506 : Index := 256#32
  ![v2925.toNat, 6, 0, 256]
def k0_off76 (k0_t1 : Fin k0_t1_loop.trips) : Fin 4 → Nat :=
  let c0_i32 : BitVec 32 := 0#32
  let c1_i32 : BitVec 32 := 1#32
  let arg12 : BitVec 32 := Scf.iv c0_i32 c1_i32 k0_t1
  let v2934 : Index := Scalar.indexCast arg12
  let c7_1507 : Index := 7#32
  let c0_1508 : Index := 0#32
  let c256_1509 : Index := 256#32
  ![v2934.toNat, 7, 0, 256]
def k0_off77 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3187 : Index := Scalar.indexCast arg12
  let c0_1649 : Index := 0#32
  let c8_1650 : Index := 8#32
  let c256_1651 : Index := 256#32
  ![v3187.toNat, 0, 8, 256]
def k0_off78 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3196 : Index := Scalar.indexCast arg12
  let c1_1652 : Index := 1#32
  let c8_1653 : Index := 8#32
  let c256_1654 : Index := 256#32
  ![v3196.toNat, 1, 8, 256]
def k0_off79 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3205 : Index := Scalar.indexCast arg12
  let c2_1655 : Index := 2#32
  let c8_1656 : Index := 8#32
  let c256_1657 : Index := 256#32
  ![v3205.toNat, 2, 8, 256]
def k0_off80 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3214 : Index := Scalar.indexCast arg12
  let c3_1658 : Index := 3#32
  let c8_1659 : Index := 8#32
  let c256_1660 : Index := 256#32
  ![v3214.toNat, 3, 8, 256]
def k0_off81 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3223 : Index := Scalar.indexCast arg12
  let c4_1661 : Index := 4#32
  let c8_1662 : Index := 8#32
  let c256_1663 : Index := 256#32
  ![v3223.toNat, 4, 8, 256]
def k0_off82 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3232 : Index := Scalar.indexCast arg12
  let c5_1664 : Index := 5#32
  let c8_1665 : Index := 8#32
  let c256_1666 : Index := 256#32
  ![v3232.toNat, 5, 8, 256]
def k0_off83 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3241 : Index := Scalar.indexCast arg12
  let c6_1667 : Index := 6#32
  let c8_1668 : Index := 8#32
  let c256_1669 : Index := 256#32
  ![v3241.toNat, 6, 8, 256]
def k0_off84 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3250 : Index := Scalar.indexCast arg12
  let c7_1670 : Index := 7#32
  let c8_1671 : Index := 8#32
  let c256_1672 : Index := 256#32
  ![v3250.toNat, 7, 8, 256]
def k0_off85 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3503 : Index := Scalar.indexCast arg12
  let c0_1812 : Index := 0#32
  let c16_1813 : Index := 16#32
  let c256_1814 : Index := 256#32
  ![v3503.toNat, 0, 16, 256]
def k0_off86 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3512 : Index := Scalar.indexCast arg12
  let c1_1815 : Index := 1#32
  let c16_1816 : Index := 16#32
  let c256_1817 : Index := 256#32
  ![v3512.toNat, 1, 16, 256]
def k0_off87 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3521 : Index := Scalar.indexCast arg12
  let c2_1818 : Index := 2#32
  let c16_1819 : Index := 16#32
  let c256_1820 : Index := 256#32
  ![v3521.toNat, 2, 16, 256]
def k0_off88 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3530 : Index := Scalar.indexCast arg12
  let c3_1821 : Index := 3#32
  let c16_1822 : Index := 16#32
  let c256_1823 : Index := 256#32
  ![v3530.toNat, 3, 16, 256]
def k0_off89 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3539 : Index := Scalar.indexCast arg12
  let c4_1824 : Index := 4#32
  let c16_1825 : Index := 16#32
  let c256_1826 : Index := 256#32
  ![v3539.toNat, 4, 16, 256]
def k0_off90 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3548 : Index := Scalar.indexCast arg12
  let c5_1827 : Index := 5#32
  let c16_1828 : Index := 16#32
  let c256_1829 : Index := 256#32
  ![v3548.toNat, 5, 16, 256]
def k0_off91 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3557 : Index := Scalar.indexCast arg12
  let c6_1830 : Index := 6#32
  let c16_1831 : Index := 16#32
  let c256_1832 : Index := 256#32
  ![v3557.toNat, 6, 16, 256]
def k0_off92 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3566 : Index := Scalar.indexCast arg12
  let c7_1833 : Index := 7#32
  let c16_1834 : Index := 16#32
  let c256_1835 : Index := 256#32
  ![v3566.toNat, 7, 16, 256]
def k0_off93 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3819 : Index := Scalar.indexCast arg12
  let c0_1975 : Index := 0#32
  let c24_1976 : Index := 24#32
  let c256_1977 : Index := 256#32
  ![v3819.toNat, 0, 24, 256]
def k0_off94 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3828 : Index := Scalar.indexCast arg12
  let c1_1978 : Index := 1#32
  let c24_1979 : Index := 24#32
  let c256_1980 : Index := 256#32
  ![v3828.toNat, 1, 24, 256]
def k0_off95 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3837 : Index := Scalar.indexCast arg12
  let c2_1981 : Index := 2#32
  let c24_1982 : Index := 24#32
  let c256_1983 : Index := 256#32
  ![v3837.toNat, 2, 24, 256]
def k0_off96 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3846 : Index := Scalar.indexCast arg12
  let c3_1984 : Index := 3#32
  let c24_1985 : Index := 24#32
  let c256_1986 : Index := 256#32
  ![v3846.toNat, 3, 24, 256]
def k0_off97 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3855 : Index := Scalar.indexCast arg12
  let c4_1987 : Index := 4#32
  let c24_1988 : Index := 24#32
  let c256_1989 : Index := 256#32
  ![v3855.toNat, 4, 24, 256]
def k0_off98 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3864 : Index := Scalar.indexCast arg12
  let c5_1990 : Index := 5#32
  let c24_1991 : Index := 24#32
  let c256_1992 : Index := 256#32
  ![v3864.toNat, 5, 24, 256]
def k0_off99 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3873 : Index := Scalar.indexCast arg12
  let c6_1993 : Index := 6#32
  let c24_1994 : Index := 24#32
  let c256_1995 : Index := 256#32
  ![v3873.toNat, 6, 24, 256]
def k0_off100 (k0_t1 : Fin k0_t1_loop.trips) : Fin 4 → Nat :=
  let c0_i32 : BitVec 32 := 0#32
  let c1_i32 : BitVec 32 := 1#32
  let arg12 : BitVec 32 := Scf.iv c0_i32 c1_i32 k0_t1
  let v3882 : Index := Scalar.indexCast arg12
  let c7_1996 : Index := 7#32
  let c24_1997 : Index := 24#32
  let c256_1998 : Index := 256#32
  ![v3882.toNat, 7, 24, 256]
def k0_off101 (k0_t1 : Fin k0_t1_loop.trips) (c0_i32_2002 : BitVec 32) : Fin 2 → Nat :=
  let c0_i32 : BitVec 32 := 0#32
  let c1_i32 : BitVec 32 := 1#32
  let arg12 : BitVec 32 := Scf.iv c0_i32 c1_i32 k0_t1
  let c32_i32_2001 : BitVec 32 := 32#32
  let v3888 : BitVec 32 := Scalar.muli arg12 c32_i32_2001
  let v3889 : BitVec 32 := Scalar.addi v3888 c0_i32_2002
  let v3890 : Index := Scalar.indexCast v3889
  let c384_2003 : Index := 384#32
  ![v3890.toNat, 384]
def k0_off102 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4137 : Index := Scalar.indexCast arg12
  let c0_2140 : Index := 0#32
  let c0_2141 : Index := 0#32
  let c384_2142 : Index := 384#32
  ![v4137.toNat, 0, 0, 384]
def k0_off103 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4146 : Index := Scalar.indexCast arg12
  let c1_2143 : Index := 1#32
  let c0_2144 : Index := 0#32
  let c384_2145 : Index := 384#32
  ![v4146.toNat, 1, 0, 384]
def k0_off104 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4155 : Index := Scalar.indexCast arg12
  let c2_2146 : Index := 2#32
  let c0_2147 : Index := 0#32
  let c384_2148 : Index := 384#32
  ![v4155.toNat, 2, 0, 384]
def k0_off105 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4164 : Index := Scalar.indexCast arg12
  let c3_2149 : Index := 3#32
  let c0_2150 : Index := 0#32
  let c384_2151 : Index := 384#32
  ![v4164.toNat, 3, 0, 384]
def k0_off106 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4173 : Index := Scalar.indexCast arg12
  let c4_2152 : Index := 4#32
  let c0_2153 : Index := 0#32
  let c384_2154 : Index := 384#32
  ![v4173.toNat, 4, 0, 384]
def k0_off107 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4182 : Index := Scalar.indexCast arg12
  let c5_2155 : Index := 5#32
  let c0_2156 : Index := 0#32
  let c384_2157 : Index := 384#32
  ![v4182.toNat, 5, 0, 384]
def k0_off108 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4191 : Index := Scalar.indexCast arg12
  let c6_2158 : Index := 6#32
  let c0_2159 : Index := 0#32
  let c384_2160 : Index := 384#32
  ![v4191.toNat, 6, 0, 384]
def k0_off109 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4200 : Index := Scalar.indexCast arg12
  let c7_2161 : Index := 7#32
  let c0_2162 : Index := 0#32
  let c384_2163 : Index := 384#32
  ![v4200.toNat, 7, 0, 384]
def k0_off110 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4453 : Index := Scalar.indexCast arg12
  let c0_2303 : Index := 0#32
  let c8_2304 : Index := 8#32
  let c384_2305 : Index := 384#32
  ![v4453.toNat, 0, 8, 384]
def k0_off111 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4462 : Index := Scalar.indexCast arg12
  let c1_2306 : Index := 1#32
  let c8_2307 : Index := 8#32
  let c384_2308 : Index := 384#32
  ![v4462.toNat, 1, 8, 384]
def k0_off112 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4471 : Index := Scalar.indexCast arg12
  let c2_2309 : Index := 2#32
  let c8_2310 : Index := 8#32
  let c384_2311 : Index := 384#32
  ![v4471.toNat, 2, 8, 384]
def k0_off113 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4480 : Index := Scalar.indexCast arg12
  let c3_2312 : Index := 3#32
  let c8_2313 : Index := 8#32
  let c384_2314 : Index := 384#32
  ![v4480.toNat, 3, 8, 384]
def k0_off114 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4489 : Index := Scalar.indexCast arg12
  let c4_2315 : Index := 4#32
  let c8_2316 : Index := 8#32
  let c384_2317 : Index := 384#32
  ![v4489.toNat, 4, 8, 384]
def k0_off115 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4498 : Index := Scalar.indexCast arg12
  let c5_2318 : Index := 5#32
  let c8_2319 : Index := 8#32
  let c384_2320 : Index := 384#32
  ![v4498.toNat, 5, 8, 384]
def k0_off116 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4507 : Index := Scalar.indexCast arg12
  let c6_2321 : Index := 6#32
  let c8_2322 : Index := 8#32
  let c384_2323 : Index := 384#32
  ![v4507.toNat, 6, 8, 384]
def k0_off117 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4516 : Index := Scalar.indexCast arg12
  let c7_2324 : Index := 7#32
  let c8_2325 : Index := 8#32
  let c384_2326 : Index := 384#32
  ![v4516.toNat, 7, 8, 384]
def k0_off118 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4769 : Index := Scalar.indexCast arg12
  let c0_2466 : Index := 0#32
  let c16_2467 : Index := 16#32
  let c384_2468 : Index := 384#32
  ![v4769.toNat, 0, 16, 384]
def k0_off119 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4778 : Index := Scalar.indexCast arg12
  let c1_2469 : Index := 1#32
  let c16_2470 : Index := 16#32
  let c384_2471 : Index := 384#32
  ![v4778.toNat, 1, 16, 384]
def k0_off120 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4787 : Index := Scalar.indexCast arg12
  let c2_2472 : Index := 2#32
  let c16_2473 : Index := 16#32
  let c384_2474 : Index := 384#32
  ![v4787.toNat, 2, 16, 384]
def k0_off121 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4796 : Index := Scalar.indexCast arg12
  let c3_2475 : Index := 3#32
  let c16_2476 : Index := 16#32
  let c384_2477 : Index := 384#32
  ![v4796.toNat, 3, 16, 384]
def k0_off122 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4805 : Index := Scalar.indexCast arg12
  let c4_2478 : Index := 4#32
  let c16_2479 : Index := 16#32
  let c384_2480 : Index := 384#32
  ![v4805.toNat, 4, 16, 384]
def k0_off123 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4814 : Index := Scalar.indexCast arg12
  let c5_2481 : Index := 5#32
  let c16_2482 : Index := 16#32
  let c384_2483 : Index := 384#32
  ![v4814.toNat, 5, 16, 384]
def k0_off124 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4823 : Index := Scalar.indexCast arg12
  let c6_2484 : Index := 6#32
  let c16_2485 : Index := 16#32
  let c384_2486 : Index := 384#32
  ![v4823.toNat, 6, 16, 384]
def k0_off125 (k0_t1 : Fin k0_t1_loop.trips) : Fin 4 → Nat :=
  let c0_i32 : BitVec 32 := 0#32
  let c1_i32 : BitVec 32 := 1#32
  let arg12 : BitVec 32 := Scf.iv c0_i32 c1_i32 k0_t1
  let v4832 : Index := Scalar.indexCast arg12
  let c7_2487 : Index := 7#32
  let c16_2488 : Index := 16#32
  let c384_2489 : Index := 384#32
  ![v4832.toNat, 7, 16, 384]
def k0_off126 (k0_t1 : Fin k0_t1_loop.trips) : Fin 4 → Nat :=
  let c0_i32 : BitVec 32 := 0#32
  let c1_i32 : BitVec 32 := 1#32
  let arg12 : BitVec 32 := Scf.iv c0_i32 c1_i32 k0_t1
  let v5085 : Index := Scalar.indexCast arg12
  let c0_2629 : Index := 0#32
  let c24_2630 : Index := 24#32
  let c384_2631 : Index := 384#32
  ![v5085.toNat, 0, 24, 384]
def k0_off127 (k0_t1 : Fin k0_t1_loop.trips) : Fin 4 → Nat :=
  let c0_i32 : BitVec 32 := 0#32
  let c1_i32 : BitVec 32 := 1#32
  let arg12 : BitVec 32 := Scf.iv c0_i32 c1_i32 k0_t1
  let v5094 : Index := Scalar.indexCast arg12
  let c1_2632 : Index := 1#32
  let c24_2633 : Index := 24#32
  let c384_2634 : Index := 384#32
  ![v5094.toNat, 1, 24, 384]
def k0_off128 (k0_t1 : Fin k0_t1_loop.trips) : Fin 4 → Nat :=
  let c0_i32 : BitVec 32 := 0#32
  let c1_i32 : BitVec 32 := 1#32
  let arg12 : BitVec 32 := Scf.iv c0_i32 c1_i32 k0_t1
  let v5103 : Index := Scalar.indexCast arg12
  let c2_2635 : Index := 2#32
  let c24_2636 : Index := 24#32
  let c384_2637 : Index := 384#32
  ![v5103.toNat, 2, 24, 384]
def k0_off129 (k0_t1 : Fin k0_t1_loop.trips) : Fin 4 → Nat :=
  let c0_i32 : BitVec 32 := 0#32
  let c1_i32 : BitVec 32 := 1#32
  let arg12 : BitVec 32 := Scf.iv c0_i32 c1_i32 k0_t1
  let v5112 : Index := Scalar.indexCast arg12
  let c3_2638 : Index := 3#32
  let c24_2639 : Index := 24#32
  let c384_2640 : Index := 384#32
  ![v5112.toNat, 3, 24, 384]
def k0_off130 (k0_t1 : Fin k0_t1_loop.trips) : Fin 4 → Nat :=
  let c0_i32 : BitVec 32 := 0#32
  let c1_i32 : BitVec 32 := 1#32
  let arg12 : BitVec 32 := Scf.iv c0_i32 c1_i32 k0_t1
  let v5121 : Index := Scalar.indexCast arg12
  let c4_2641 : Index := 4#32
  let c24_2642 : Index := 24#32
  let c384_2643 : Index := 384#32
  ![v5121.toNat, 4, 24, 384]
def k0_off131 (k0_t1 : Fin k0_t1_loop.trips) : Fin 4 → Nat :=
  let c0_i32 : BitVec 32 := 0#32
  let c1_i32 : BitVec 32 := 1#32
  let arg12 : BitVec 32 := Scf.iv c0_i32 c1_i32 k0_t1
  let v5130 : Index := Scalar.indexCast arg12
  let c5_2644 : Index := 5#32
  let c24_2645 : Index := 24#32
  let c384_2646 : Index := 384#32
  ![v5130.toNat, 5, 24, 384]
def k0_off132 (k0_t1 : Fin k0_t1_loop.trips) : Fin 4 → Nat :=
  let c0_i32 : BitVec 32 := 0#32
  let c1_i32 : BitVec 32 := 1#32
  let arg12 : BitVec 32 := Scf.iv c0_i32 c1_i32 k0_t1
  let v5139 : Index := Scalar.indexCast arg12
  let c6_2647 : Index := 6#32
  let c24_2648 : Index := 24#32
  let c384_2649 : Index := 384#32
  ![v5139.toNat, 6, 24, 384]
def k0_off133 (k0_t1 : Fin k0_t1_loop.trips) : Fin 4 → Nat :=
  let c0_i32 : BitVec 32 := 0#32
  let c1_i32 : BitVec 32 := 1#32
  let arg12 : BitVec 32 := Scf.iv c0_i32 c1_i32 k0_t1
  let v5148 : Index := Scalar.indexCast arg12
  let c7_2650 : Index := 7#32
  let c24_2651 : Index := 24#32
  let c384_2652 : Index := 384#32
  ![v5148.toNat, 7, 24, 384]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1152x512 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1152x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x4x2x8x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x8x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S3x384x4096 : Shape := ⟨3, ![3, 384, 4096]⟩
abbrev S3x384x14336 : Shape := ⟨3, ![3, 384, 14336]⟩
abbrev S3x384 : Shape := ⟨2, ![3, 384]⟩
abbrev S2x14336x512 : Shape := ⟨3, ![2, 14336, 512]⟩
abbrev S2x256x8 : Shape := ⟨3, ![2, 256, 8]⟩
abbrev S14336 : Shape := ⟨1, ![14336]⟩
abbrev S3x384x1 : Shape := ⟨3, ![3, 384, 1]⟩
abbrev S14336x4096 : Shape := ⟨2, ![14336, 4096]⟩
abbrev S14336x1 : Shape := ⟨2, ![14336, 1]⟩
abbrev S14336x512x8 : Shape := ⟨3, ![14336, 512, 8]⟩
abbrev S2x7340032 : Shape := ⟨2, ![2, 7340032]⟩
abbrev S1x256x8 : Shape := ⟨3, ![1, 256, 8]⟩
abbrev S256x8 : Shape := ⟨2, ![256, 8]⟩
abbrev S1x7340032 : Shape := ⟨2, ![1, 7340032]⟩
abbrev S7340032 : Shape := ⟨1, ![7340032]⟩
abbrev S_ : Shape := ⟨0, ![]⟩
abbrev S7340032x1 : Shape := ⟨2, ![7340032, 1]⟩
abbrev S7340032x8 : Shape := ⟨2, ![7340032, 8]⟩
abbrev S2048x4096 : Shape := ⟨2, ![2048, 4096]⟩
abbrev S2048x16x32x8 : Shape := ⟨4, ![2048, 16, 32, 8]⟩
abbrev S16x8x32x2048 : Shape := ⟨4, ![16, 8, 32, 2048]⟩
abbrev S2048 : Shape := ⟨1, ![2048]⟩
abbrev S1x2048 : Shape := ⟨2, ![1, 2048]⟩

abbrev nBuf : Space → Nat
  | .hbm => 55
  | .vmem => 2
  | .smem => 0
  | _ => 0

abbrev bufTy : (tb : Table) → Fin (tcTables nBuf tb) → BufTy
  | .hbm, ⟨0, _⟩ => ⟨S3x384x4096, .bf16⟩
  | .hbm, ⟨1, _⟩ => ⟨S3x384x14336, .fp8e5m2⟩
  | .hbm, ⟨2, _⟩ => ⟨S3x384, .f32⟩
  | .hbm, ⟨3, _⟩ => ⟨S2x14336x512, .i8⟩
  | .hbm, ⟨4, _⟩ => ⟨S2x256x8, .i16⟩
  | .hbm, ⟨5, _⟩ => ⟨S14336, .f32⟩
  | .hbm, ⟨6, _⟩ => ⟨S3x384x14336, .bf16⟩
  | .hbm, ⟨7, _⟩ => ⟨S3x384x1, .f32⟩
  | .hbm, ⟨8, _⟩ => ⟨S3x384x1, .bf16⟩
  | .hbm, ⟨9, _⟩ => ⟨S3x384x14336, .bf16⟩
  | .hbm, ⟨10, _⟩ => ⟨S3x384x14336, .bf16⟩
  | .hbm, ⟨11, _⟩ => ⟨S14336x4096, .f32⟩
  | .hbm, ⟨12, _⟩ => ⟨S14336x1, .f32⟩
  | .hbm, ⟨13, _⟩ => ⟨S14336x4096, .f32⟩
  | .hbm, ⟨14, _⟩ => ⟨S14336x4096, .f32⟩
  | .hbm, ⟨15, _⟩ => ⟨S14336x512x8, .f32⟩
  | .hbm, ⟨16, _⟩ => ⟨S2x7340032, .i8⟩
  | .hbm, ⟨17, _⟩ => ⟨S2x7340032, .i32⟩
  | .hbm, ⟨18, _⟩ => ⟨S2x256x8, .bf16⟩
  | .hbm, ⟨19, _⟩ => ⟨S1x256x8, .bf16⟩
  | .hbm, ⟨20, _⟩ => ⟨S256x8, .bf16⟩
  | .hbm, ⟨21, _⟩ => ⟨S1x7340032, .i32⟩
  | .hbm, ⟨22, _⟩ => ⟨S7340032, .i32⟩
  | .hbm, ⟨23, _⟩ => ⟨S_, .i32⟩
  | .hbm, ⟨24, _⟩ => ⟨S7340032, .i32⟩
  | .hbm, ⟨25, _⟩ => ⟨S7340032, .i1⟩
  | .hbm, ⟨26, _⟩ => ⟨S_, .i32⟩
  | .hbm, ⟨27, _⟩ => ⟨S7340032, .i32⟩
  | .hbm, ⟨28, _⟩ => ⟨S7340032, .i32⟩
  | .hbm, ⟨29, _⟩ => ⟨S7340032, .i32⟩
  | .hbm, ⟨30, _⟩ => ⟨S7340032x1, .i32⟩
  | .hbm, ⟨31, _⟩ => ⟨S7340032x8, .bf16⟩
  | .hbm, ⟨32, _⟩ => ⟨S7340032x8, .f32⟩
  | .hbm, ⟨33, _⟩ => ⟨S1x256x8, .bf16⟩
  | .hbm, ⟨34, _⟩ => ⟨S256x8, .bf16⟩
  | .hbm, ⟨35, _⟩ => ⟨S1x7340032, .i32⟩
  | .hbm, ⟨36, _⟩ => ⟨S7340032, .i32⟩
  | .hbm, ⟨37, _⟩ => ⟨S_, .i32⟩
  | .hbm, ⟨38, _⟩ => ⟨S7340032, .i32⟩
  | .hbm, ⟨39, _⟩ => ⟨S7340032, .i1⟩
  | .hbm, ⟨40, _⟩ => ⟨S_, .i32⟩
  | .hbm, ⟨41, _⟩ => ⟨S7340032, .i32⟩
  | .hbm, ⟨42, _⟩ => ⟨S7340032, .i32⟩
  | .hbm, ⟨43, _⟩ => ⟨S7340032, .i32⟩
  | .hbm, ⟨44, _⟩ => ⟨S7340032x1, .i32⟩
  | .hbm, ⟨45, _⟩ => ⟨S7340032x8, .bf16⟩
  | .hbm, ⟨46, _⟩ => ⟨S7340032x8, .f32⟩
  | .hbm, ⟨47, _⟩ => ⟨S7340032x8, .f32⟩
  | .hbm, ⟨48, _⟩ => ⟨S14336x512x8, .f32⟩
  | .hbm, ⟨49, _⟩ => ⟨S14336, .f32⟩
  | .hbm, ⟨50, _⟩ => ⟨S2048x4096, .f32⟩
  | .hbm, ⟨51, _⟩ => ⟨S2048x16x32x8, .f32⟩
  | .hbm, ⟨52, _⟩ => ⟨S16x8x32x2048, .f32⟩
  | .hbm, ⟨53, _⟩ => ⟨S2048, .f32⟩
  | .hbm, ⟨54, _⟩ => ⟨S1x2048, .f32⟩
  | .local _ .vmem, ⟨0, _⟩ => ⟨S3x384x14336, .fp8e5m2⟩
  | .local _ .vmem, ⟨1, _⟩ => ⟨S3x384x14336, .bf16⟩
  | _, _ => ⟨S3x384x4096, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_1 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3x384x14336 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x384x14336 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelDx.lean ====
abbrev S3x384x14336 : Shape := ⟨3, ![3, 384, 14336]⟩
abbrev S3x384 : Shape := ⟨2, ![3, 384]⟩
abbrev S2x14336x512 : Shape := ⟨3, ![2, 14336, 512]⟩
abbrev S2x256x8 : Shape := ⟨3, ![2, 256, 8]⟩
abbrev S14336 : Shape := ⟨1, ![14336]⟩
abbrev S1x2048 : Shape := ⟨2, ![1, 2048]⟩
abbrev S1152x14336 : Shape := ⟨2, ![1152, 14336]⟩
abbrev S1152x1 : Shape := ⟨2, ![1152, 1]⟩
abbrev S1152x128 : Shape := ⟨2, ![1152, 128]⟩
abbrev S2x256x4 : Shape := ⟨3, ![2, 256, 4]⟩
abbrev S_ : Shape := ⟨0, ![]⟩
abbrev S2x4x256 : Shape := ⟨3, ![2, 4, 256]⟩
abbrev S2x4x2x1x128 : Shape := ⟨5, ![2, 4, 2, 1, 128]⟩
abbrev S2x4x2x8x128 : Shape := ⟨5, ![2, 4, 2, 8, 128]⟩
abbrev S1x14336 : Shape := ⟨2, ![1, 14336]⟩
abbrev S1152x4096 : Shape := ⟨2, ![1152, 4096]⟩
abbrev S1152x1024 : Shape := ⟨2, ![1152, 1024]⟩
abbrev S2x1024x512 : Shape := ⟨3, ![2, 1024, 512]⟩
abbrev S1x1024 : Shape := ⟨2, ![1, 1024]⟩
abbrev S16x1152x256 : Shape := ⟨3, ![16, 1152, 256]⟩
abbrev S512x1024 : Shape := ⟨2, ![512, 1024]⟩
abbrev S8x256x128 : Shape := ⟨3, ![8, 256, 128]⟩
abbrev S1x1024x512 : Shape := ⟨3, ![1, 1024, 512]⟩
abbrev S1024x512 : Shape := ⟨2, ![1024, 512]⟩
abbrev S1x128 : Shape := ⟨2, ![1, 128]⟩
abbrev S8x128 : Shape := ⟨2, ![8, 128]⟩
abbrev S1x1x1x8x128 : Shape := ⟨5, ![1, 1, 1, 8, 128]⟩
abbrev S8x128x1 : Shape := ⟨3, ![8, 128, 1]⟩
abbrev S8x128x128 : Shape := ⟨3, ![8, 128, 128]⟩
abbrev S1x8x128 : Shape := ⟨3, ![1, 8, 128]⟩
abbrev S8x128x2x128 : Shape := ⟨4, ![8, 128, 2, 128]⟩
abbrev S1x8x2x128 : Shape := ⟨4, ![1, 8, 2, 128]⟩
abbrev S1x8x1x128 : Shape := ⟨4, ![1, 8, 1, 128]⟩
abbrev S1x256x128 : Shape := ⟨3, ![1, 256, 128]⟩
abbrev S256x128 : Shape := ⟨2, ![256, 128]⟩
abbrev S256x1024 : Shape := ⟨2, ![256, 1024]⟩
abbrev S1152x256 : Shape := ⟨2, ![1152, 256]⟩
abbrev S1x1152x256 : Shape := ⟨3, ![1, 1152, 256]⟩
abbrev S1x1152x128 : Shape := ⟨3, ![1, 1152, 128]⟩

abbrev nBuf : Space → Nat
  | .hbm => 22
  | .vmem => 13
  | .smem => 0
  | _ => 0

abbrev bufTy : (tb : Table) → Fin (tcTables nBuf tb) → BufTy
  | .hbm, ⟨0, _⟩ => ⟨S3x384x14336, .fp8e5m2⟩
  | .hbm, ⟨1, _⟩ => ⟨S3x384, .f32⟩
  | .hbm, ⟨2, _⟩ => ⟨S2x14336x512, .i8⟩
  | .hbm, ⟨3, _⟩ => ⟨S2x256x8, .i16⟩
  | .hbm, ⟨4, _⟩ => ⟨S14336, .f32⟩
  | .hbm, ⟨5, _⟩ => ⟨S1x2048, .f32⟩
  | .hbm, ⟨6, _⟩ => ⟨S1152x14336, .fp8e5m2⟩
  | .hbm, ⟨7, _⟩ => ⟨S1152x1, .f32⟩
  | .hbm, ⟨8, _⟩ => ⟨S1152x128, .f32⟩
  | .hbm, ⟨9, _⟩ => ⟨S2x256x8, .i32⟩
  | .hbm, ⟨10, _⟩ => ⟨S2x256x4, .i32⟩
  | .hbm, ⟨11, _⟩ => ⟨S2x256x4, .i32⟩
  | .hbm, ⟨12, _⟩ => ⟨S_, .i32⟩
  | .hbm, ⟨13, _⟩ => ⟨S2x256x4, .i32⟩
  | .hbm, ⟨14, _⟩ => ⟨S2x256x4, .i32⟩
  | .hbm, ⟨15, _⟩ => ⟨S2x256x4, .i32⟩
  | .hbm, ⟨16, _⟩ => ⟨S2x4x256, .i32⟩
  | .hbm, ⟨17, _⟩ => ⟨S2x4x2x1x128, .i32⟩
  | .hbm, ⟨18, _⟩ => ⟨S2x4x2x8x128, .i32⟩
  | .hbm, ⟨19, _⟩ => ⟨S2x4x2x8x128, .i32⟩
  | .hbm, ⟨20, _⟩ => ⟨S1x14336, .f32⟩
  | .hbm, ⟨21, _⟩ => ⟨S1152x4096, .bf16⟩
  | .local _ .vmem, ⟨0, _⟩ => ⟨S1152x1024, .fp8e5m2⟩
  | .local _ .vmem, ⟨1, _⟩ => ⟨S1152x1024, .fp8e5m2⟩
  | .local _ .vmem, ⟨2, _⟩ => ⟨S2x1024x512, .i8⟩
  | .local _ .vmem, ⟨3, _⟩ => ⟨S2x1024x512, .i8⟩
  | .local _ .vmem, ⟨4, _⟩ => ⟨S2x4x2x8x128, .i32⟩
  | .local _ .vmem, ⟨5, _⟩ => ⟨S1x1024, .f32⟩
  | .local _ .vmem, ⟨6, _⟩ => ⟨S1x1024, .f32⟩
  | .local _ .vmem, ⟨7, _⟩ => ⟨S1152x128, .f32⟩
  | .local _ .vmem, ⟨8, _⟩ => ⟨S1152x4096, .bf16⟩
  | .local _ .vmem, ⟨9, _⟩ => ⟨S16x1152x256, .f32⟩
  | .local _ .vmem, ⟨10, _⟩ => ⟨S1152x1024, .bf16⟩
  | .local _ .vmem, ⟨11, _⟩ => ⟨S512x1024, .i32⟩
  | .local _ .vmem, ⟨12, _⟩ => ⟨S8x256x128, .bf16⟩
  | _, _ => ⟨S3x384x14336, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [BitOps F]

abbrev grid0 : Pipeline.Grid := ⟨1, ![14], ![false]⟩

@[reducible] def k0_t1_loop : Scf.Loop 32 :=
  let c0_i32_11 : BitVec 32 := 0#32
  let c16_i32 : BitVec 32 := 16#32
  let v22 : BitVec 32 := Scalar.addi c0_i32_11 c16_i32
  let c1_i32 : BitVec 32 := 1#32
  ⟨c0_i32_11, v22, c1_i32⟩
def k0_off1 (k0_t1 : Fin k0_t1_loop.trips) (c0_i32_16 : BitVec 32) : Fin 2 → Nat :=
  let c0_i32_11 : BitVec 32 := 0#32
  let c1_i32 : BitVec 32 := 1#32
  let arg12 : BitVec 32 := Scf.iv c0_i32_11 c1_i32 k0_t1
  let c32_i32 : BitVec 32 := 32#32
  let v28 : BitVec 32 := Scalar.muli arg12 c32_i32
  let v29 : BitVec 32 := Scalar.addi v28 c0_i32_16
  let v30 : Index := Scalar.indexCast v29
  let c0_17 : Index := 0#32
  ![v30.toNat, 0]
def k0_off2 (k0_t1 : Fin k0_t1_loop.trips) (c0_i32_602 : BitVec 32) : Fin 2 → Nat :=
  let c0_i32_11 : BitVec 32 := 0#32
  let c1_i32 : BitVec 32 := 1#32
  let arg12 : BitVec 32 := Scf.iv c0_i32_11 c1_i32 k0_t1
  let c32_i32_601 : BitVec 32 := 32#32
  let v1150 : BitVec 32 := Scalar.muli arg12 c32_i32_601
  let v1151 : BitVec 32 := Scalar.addi v1150 c0_i32_602
  let v1152 : Index := Scalar.indexCast v1151
  let c128_603 : Index := 128#32
  ![v1152.toNat, 128]
def k0_off3 (k0_t1 : Fin k0_t1_loop.trips) (c0_i32_1207 : BitVec 32) : Fin 2 → Nat :=
  let c0_i32_11 : BitVec 32 := 0#32
  let c1_i32 : BitVec 32 := 1#32
  let arg12 : BitVec 32 := Scf.iv c0_i32_11 c1_i32 k0_t1
  let c32_i32_1206 : BitVec 32 := 32#32
  let v2272 : BitVec 32 := Scalar.muli arg12 c32_i32_1206
  let v2273 : BitVec 32 := Scalar.addi v2272 c0_i32_1207
  let v2274 : Index := Scalar.indexCast v2273
  let c256_1208 : Index := 256#32
  ![v2274.toNat, 256]
def k0_off4 (k0_t1 : Fin k0_t1_loop.trips) (c0_i32_1812 : BitVec 32) : Fin 2 → Nat :=
  let c0_i32_11 : BitVec 32 := 0#32
  let c1_i32 : BitVec 32 := 1#32
  let arg12 : BitVec 32 := Scf.iv c0_i32_11 c1_i32 k0_t1
  let c32_i32_1811 : BitVec 32 := 32#32
  let v3394 : BitVec 32 := Scalar.muli arg12 c32_i32_1811
  let v3395 : BitVec 32 := Scalar.addi v3394 c0_i32_1812
  let v3396 : Index := Scalar.indexCast v3395
  let c384_1813 : Index := 384#32
  ![v3396.toNat, 384]
def k0_off5 (k0_t1 : Fin k0_t1_loop.trips) (c0_i32_2417 : BitVec 32) : Fin 2 → Nat :=
  let c0_i32_11 : BitVec 32 := 0#32
  let c1_i32 : BitVec 32 := 1#32
  let arg12 : BitVec 32 := Scf.iv c0_i32_11 c1_i32 k0_t1
  let c32_i32_2416 : BitVec 32 := 32#32
  let v4516 : BitVec 32 := Scalar.muli arg12 c32_i32_2416
  let v4517 : BitVec 32 := Scalar.addi v4516 c0_i32_2417
  let v4518 : Index := Scalar.indexCast v4517
  let c512_2418 : Index := 512#32
  ![v4518.toNat, 512]
def k0_off6 (k0_t1 : Fin k0_t1_loop.trips) (c0_i32_3021 : BitVec 32) : Fin 2 → Nat :=
  let c0_i32_11 : BitVec 32 := 0#32
  let c1_i32 : BitVec 32 := 1#32
  let arg12 : BitVec 32 := Scf.iv c0_i32_11 c1_i32 k0_t1
  let c32_i32_3020 : BitVec 32 := 32#32
  let v5638 : BitVec 32 := Scalar.muli arg12 c32_i32_3020
  let v5639 : BitVec 32 := Scalar.addi v5638 c0_i32_3021
  let v5640 : Index := Scalar.indexCast v5639
  let c640_3022 : Index := 640#32
  ![v5640.toNat, 640]
def k0_off7 (k0_t1 : Fin k0_t1_loop.trips) (c0_i32_3625 : BitVec 32) : Fin 2 → Nat :=
  let c0_i32_11 : BitVec 32 := 0#32
  let c1_i32 : BitVec 32 := 1#32
  let arg12 : BitVec 32 := Scf.iv c0_i32_11 c1_i32 k0_t1
  let c32_i32_3624 : BitVec 32 := 32#32
  let v6760 : BitVec 32 := Scalar.muli arg12 c32_i32_3624
  let v6761 : BitVec 32 := Scalar.addi v6760 c0_i32_3625
  let v6762 : Index := Scalar.indexCast v6761
  let c768_3626 : Index := 768#32
  ![v6762.toNat, 768]
def k0_off8 (k0_t1 : Fin k0_t1_loop.trips) (c0_i32_4229 : BitVec 32) : Fin 2 → Nat :=
  let c0_i32_11 : BitVec 32 := 0#32
  let c1_i32 : BitVec 32 := 1#32
  let arg12 : BitVec 32 := Scf.iv c0_i32_11 c1_i32 k0_t1
  let c32_i32_4228 : BitVec 32 := 32#32
  let v7882 : BitVec 32 := Scalar.muli arg12 c32_i32_4228
  let v7883 : BitVec 32 := Scalar.addi v7882 c0_i32_4229
  let v7884 : Index := Scalar.indexCast v7883
  let c896_4230 : Index := 896#32
  ![v7884.toNat, 896]
def k0_off9 (k0_t1 : Fin k0_t1_loop.trips) : Fin 3 → Nat :=
  let c0_i32_11 : BitVec 32 := 0#32
  let c1_i32 : BitVec 32 := 1#32
  let arg12 : BitVec 32 := Scf.iv c0_i32_11 c1_i32 k0_t1
  let v9021 : Index := Scalar.indexCast arg12
  let c0_4857 : Index := 0#32
  let c0_4858 : Index := 0#32
  ![v9021.toNat, 0, 0]
def k0_cond2 (i : grid0.Coords) : BitVec 1 :=
  let arg0 : BitVec 32 := BitVec.ofNat 32 (i 0).val
  let c13_i32 : BitVec 32 := 13#32
  let v23 : BitVec 1 := Scalar.cmpi .eq arg0 c13_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1152x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x4x2x8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1152x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1152x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelDxIdeal.lean ====
variable {F : FTy → Type} [FloatOps F]
-- ==== ReferenceDxIdeal.lean ====
abbrev S3x384x14336 : Shape := ⟨3, ![3, 384, 14336]⟩
abbrev S3x384 : Shape := ⟨2, ![3, 384]⟩
abbrev S2x14336x512 : Shape := ⟨3, ![2, 14336, 512]⟩
abbrev S2x256x8 : Shape := ⟨3, ![2, 256, 8]⟩
abbrev S14336 : Shape := ⟨1, ![14336]⟩
abbrev S1x2048 : Shape := ⟨2, ![1, 2048]⟩
abbrev S2x7340032 : Shape := ⟨2, ![2, 7340032]⟩
abbrev S1x256x8 : Shape := ⟨3, ![1, 256, 8]⟩
abbrev S256x8 : Shape := ⟨2, ![256, 8]⟩
abbrev S1x7340032 : Shape := ⟨2, ![1, 7340032]⟩
abbrev S7340032 : Shape := ⟨1, ![7340032]⟩
abbrev S_ : Shape := ⟨0, ![]⟩
abbrev S7340032x1 : Shape := ⟨2, ![7340032, 1]⟩
abbrev S7340032x8 : Shape := ⟨2, ![7340032, 8]⟩
abbrev S14336x512x8 : Shape := ⟨3, ![14336, 512, 8]⟩
abbrev S14336x1x1 : Shape := ⟨3, ![14336, 1, 1]⟩
abbrev S14336x4096 : Shape := ⟨2, ![14336, 4096]⟩
abbrev S3x384x4096 : Shape := ⟨3, ![3, 384, 4096]⟩
abbrev S3x384x1 : Shape := ⟨3, ![3, 384, 1]⟩
abbrev S1152x4096 : Shape := ⟨2, ![1152, 4096]⟩

abbrev nBuf : Space → Nat
  | .hbm => 51
  | .vmem => 2
  | .smem => 0
  | _ => 0

abbrev bufTy : (tb : Table) → Fin (tcTables nBuf tb) → BufTy
  | .hbm, ⟨0, _⟩ => ⟨S3x384x14336, .fp8e5m2⟩
  | .hbm, ⟨1, _⟩ => ⟨S3x384, .f32⟩
  | .hbm, ⟨2, _⟩ => ⟨S2x14336x512, .i8⟩
  | .hbm, ⟨3, _⟩ => ⟨S2x256x8, .i16⟩
  | .hbm, ⟨4, _⟩ => ⟨S14336, .f32⟩
  | .hbm, ⟨5, _⟩ => ⟨S1x2048, .f32⟩
  | .hbm, ⟨6, _⟩ => ⟨S3x384x14336, .bf16⟩
  | .hbm, ⟨7, _⟩ => ⟨S2x7340032, .i8⟩
  | .hbm, ⟨8, _⟩ => ⟨S2x7340032, .i32⟩
  | .hbm, ⟨9, _⟩ => ⟨S2x256x8, .bf16⟩
  | .hbm, ⟨10, _⟩ => ⟨S1x256x8, .bf16⟩
  | .hbm, ⟨11, _⟩ => ⟨S256x8, .bf16⟩
  | .hbm, ⟨12, _⟩ => ⟨S1x7340032, .i32⟩
  | .hbm, ⟨13, _⟩ => ⟨S7340032, .i32⟩
  | .hbm, ⟨14, _⟩ => ⟨S_, .i32⟩
  | .hbm, ⟨15, _⟩ => ⟨S7340032, .i32⟩
  | .hbm, ⟨16, _⟩ => ⟨S7340032, .i1⟩
  | .hbm, ⟨17, _⟩ => ⟨S_, .i32⟩
  | .hbm, ⟨18, _⟩ => ⟨S7340032, .i32⟩
  | .hbm, ⟨19, _⟩ => ⟨S7340032, .i32⟩
  | .hbm, ⟨20, _⟩ => ⟨S7340032, .i32⟩
  | .hbm, ⟨21, _⟩ => ⟨S7340032x1, .i32⟩
  | .hbm, ⟨22, _⟩ => ⟨S7340032x8, .bf16⟩
  | .hbm, ⟨23, _⟩ => ⟨S7340032x8, .f32⟩
  | .hbm, ⟨24, _⟩ => ⟨S1x256x8, .bf16⟩
  | .hbm, ⟨25, _⟩ => ⟨S256x8, .bf16⟩
  | .hbm, ⟨26, _⟩ => ⟨S1x7340032, .i32⟩
  | .hbm, ⟨27, _⟩ => ⟨S7340032, .i32⟩
  | .hbm, ⟨28, _⟩ => ⟨S_, .i32⟩
  | .hbm, ⟨29, _⟩ => ⟨S7340032, .i32⟩
  | .hbm, ⟨30, _⟩ => ⟨S7340032, .i1⟩
  | .hbm, ⟨31, _⟩ => ⟨S_, .i32⟩
  | .hbm, ⟨32, _⟩ => ⟨S7340032, .i32⟩
  | .hbm, ⟨33, _⟩ => ⟨S7340032, .i32⟩
  | .hbm, ⟨34, _⟩ => ⟨S7340032, .i32⟩
  | .hbm, ⟨35, _⟩ => ⟨S7340032x1, .i32⟩
  | .hbm, ⟨36, _⟩ => ⟨S7340032x8, .bf16⟩
  | .hbm, ⟨37, _⟩ => ⟨S7340032x8, .f32⟩
  | .hbm, ⟨38, _⟩ => ⟨S7340032x8, .f32⟩
  | .hbm, ⟨39, _⟩ => ⟨S14336x512x8, .f32⟩
  | .hbm, ⟨40, _⟩ => ⟨S14336x1x1, .f32⟩
  | .hbm, ⟨41, _⟩ => ⟨S14336x512x8, .f32⟩
  | .hbm, ⟨42, _⟩ => ⟨S14336x512x8, .f32⟩
  | .hbm, ⟨43, _⟩ => ⟨S14336x4096, .f32⟩
  | .hbm, ⟨44, _⟩ => ⟨S14336x4096, .bf16⟩
  | .hbm, ⟨45, _⟩ => ⟨S3x384x4096, .f32⟩
  | .hbm, ⟨46, _⟩ => ⟨S3x384x1, .f32⟩
  | .hbm, ⟨47, _⟩ => ⟨S3x384x4096, .f32⟩
  | .hbm, ⟨48, _⟩ => ⟨S3x384x4096, .f32⟩
  | .hbm, ⟨49, _⟩ => ⟨S3x384x4096, .bf16⟩
  | .hbm, ⟨50, _⟩ => ⟨S1152x4096, .bf16⟩
  | .local _ .vmem, ⟨0, _⟩ => ⟨S3x384x14336, .fp8e5m2⟩
  | .local _ .vmem, ⟨1, _⟩ => ⟨S3x384x14336, .bf16⟩
  | _, _ => ⟨S3x384x14336, .fp8e5m2⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3x384x14336 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x384x14336 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelDc.lean ====
abbrev S2097152 : Shape := ⟨1, ![2097152]⟩
abbrev S32x512x128 : Shape := ⟨3, ![32, 512, 128]⟩
abbrev S512x128 : Shape := ⟨2, ![512, 128]⟩
abbrev S1x512x128 : Shape := ⟨3, ![1, 512, 128]⟩
abbrev S128x128 : Shape := ⟨2, ![128, 128]⟩
abbrev S512x8 : Shape := ⟨2, ![512, 8]⟩
abbrev S2x8x256 : Shape := ⟨3, ![2, 8, 256]⟩
abbrev S2x256x8 : Shape := ⟨3, ![2, 256, 8]⟩

abbrev nBuf : Space → Nat
  | .hbm => 6
  | .vmem => 2
  | .smem => 0
  | _ => 0

abbrev bufTy : (tb : Table) → Fin (tcTables nBuf tb) → BufTy
  | .hbm, ⟨0, _⟩ => ⟨S2097152, .f32⟩
  | .hbm, ⟨1, _⟩ => ⟨S32x512x128, .f32⟩
  | .hbm, ⟨2, _⟩ => ⟨S512x128, .f32⟩
  | .hbm, ⟨3, _⟩ => ⟨S512x8, .f32⟩
  | .hbm, ⟨4, _⟩ => ⟨S2x8x256, .f32⟩
  | .hbm, ⟨5, _⟩ => ⟨S2x256x8, .f32⟩
  | .local _ .vmem, ⟨0, _⟩ => ⟨S32x512x128, .f32⟩
  | .local _ .vmem, ⟨1, _⟩ => ⟨S512x128, .f32⟩
  | _, _ => ⟨S2097152, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S32x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceDcIdeal.lean ====
abbrev S2097152 : Shape := ⟨1, ![2097152]⟩
abbrev S32x2x8x256x16 : Shape := ⟨5, ![32, 2, 8, 256, 16]⟩
abbrev S_ : Shape := ⟨0, ![]⟩
abbrev S32x2x8x256 : Shape := ⟨4, ![32, 2, 8, 256]⟩
abbrev S2x8x256 : Shape := ⟨3, ![2, 8, 256]⟩
abbrev S2x256x8 : Shape := ⟨3, ![2, 256, 8]⟩

abbrev nBuf : Space → Nat
  | .hbm => 7
  | .vmem => 0
  | .smem => 0
  | _ => 0

abbrev bufTy : (tb : Table) → Fin (tcTables nBuf tb) → BufTy
  | .hbm, ⟨0, _⟩ => ⟨S2097152, .f32⟩
  | .hbm, ⟨1, _⟩ => ⟨S32x2x8x256x16, .f32⟩
  | .hbm, ⟨2, _⟩ => ⟨S_, .f32⟩
  | .hbm, ⟨3, _⟩ => ⟨S32x2x8x256, .f32⟩
  | .hbm, ⟨4, _⟩ => ⟨S_, .f32⟩
  | .hbm, ⟨5, _⟩ => ⟨S2x8x256, .f32⟩
  | .hbm, ⟨6, _⟩ => ⟨S2x256x8, .f32⟩
  | _, _ => ⟨S2097152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.RowLoopBits.lean ====
/-
  The loop over the sixteen row chunks of `_dw_body`, for the program `Kernel`.

  `trip` runs one trip: what it yields (`tripR`) and the pieces that it stores into the weighted-gradient block (`tripL`)
  are the run's own finds. `state` is the carried value and the pieces before a trip; `loopInv` is the loop's invariant.
-/
module

public import proofs.«01_k».proof.Proof.Gen.Kernel.Loops

@[expose] public section

-- a trip makes 128 stores, and its proof walks a list as long
set_option maxRecDepth 60000
set_option maxHeartbeats 4000000

noncomputable section

namespace Cert.Kernel.RowLoop

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The four accumulator tiles that the loop carries. -/
abbrev Acc (F : FTy → Type) : Type := FVec F S8x128 .f32 × FVec F S8x128 .f32 × FVec F S8x128 .f32 × FVec F S8x128 .f32

variable (𝒱 : Variants) (c : Dev nD) (bd : Option 𝒱.V) (i : grid0.Coords)
  (arg1 : Memref sig .tc .vmem S4096x1152 .bf16) (harg1 : arg1.IsWhole) (arg2 : Memref sig .tc .vmem S1152x512 .fp8e5m2)
  (harg2 : arg2.IsWhole) (arg3 : Memref sig .tc .vmem S1152x128 .bf16) (harg3 : arg3.IsWhole)
  (arg4 : Memref sig .tc .vmem S2x512x512 .i8) (harg4 : arg4.IsWhole) (arg5 : Memref sig .tc .vmem S2x4x2x8x128 .i32)
  (harg5 : arg5.IsWhole) (arg6 : Memref sig .tc .vmem S1x512 .f32) (harg6 : arg6.IsWhole)
  (arg7 : Memref sig .tc .vmem S16x8x32x512 .f32) (harg7 : arg7.IsWhole) (arg8 : Memref sig .tc .vmem S512x512 .i32)
  (harg8 : arg8.IsWhole) (arg9 : Memref sig .tc .vmem S1x512 .f32) (harg9 : arg9.IsWhole)
  (arg10 : Memref sig .tc .vmem S1152x512 .bf16) (harg10 : arg10.IsWhole) (arg11 : Memref sig .tc .vmem S512x512 .i32)
  (harg11 : arg11.IsWhole) (c0 : BitVec 32)
  (X1 : BufTy.Contents (Elt F) arg1.view.ty) (X5 : BufTy.Contents (Elt F) arg5.view.ty)
  (X6 : BufTy.Contents (Elt F) arg6.view.ty) (X10 : BufTy.Contents (Elt F) arg10.view.ty)
  (X11 : BufTy.Contents (Elt F) arg11.view.ty)

/-- What a trip holds: the five buffers it reads at their contents, and the block it writes. -/
abbrev Held (f7 : BufTy.Contents (Elt F) arg7.view.ty) : sProp 𝕄 :=
  iprop((arg1.view.loc (c : Thread nD τ) ↦[arg1.view.set]{fullShare} X1)
    ∗ (arg5.view.loc (c : Thread nD τ) ↦[arg5.view.set]{fullShare} X5)
    ∗ (arg6.view.loc (c : Thread nD τ) ↦[arg6.view.set]{fullShare} X6)
    ∗ (arg10.view.loc (c : Thread nD τ) ↦[arg10.view.set]{fullShare} X10)
    ∗ (arg11.view.loc (c : Thread nD τ) ↦[arg11.view.set]{fullShare} X11)
    ∗ (arg7.view.loc (c : Thread nD τ) ↦[arg7.view.set]{fullShare} f7))

/-- One trip at a symbolic `k` and carried value: it yields the run's result and leaves the run's pieces written over what
    the block held. -/
@[irreducible] def trip (k : Fin k0_t1_loop.trips) :
    Σ' (R : Acc F → Acc F), { L : Acc F → List (View.Piece (Elt F) S16x8x32x512 .f32) //
      ∀ (E : Set ℕ) (acc : Acc F) (f7 : BufTy.Contents (Elt F) arg7.view.ty),
        Held c arg1 arg5 arg6 arg7 arg10 arg11 X1 X5 X6 X10 X11 f7
        ⊢ wp frame (wpE (defs₀ (F := F)) 𝒱 (c : Thread nD τ) bd) E
            (k0_t1_body (F := F) i arg1 harg1 arg2 harg2 arg3 harg3 arg4 harg4 arg5 harg5 arg6 harg6 arg7 harg7 arg8 harg8
              arg9 harg9 arg10 harg10 arg11 harg11 c0 k acc)
            (fun yld => iprop(⌜yld = R acc⌝
              ∗ Held c arg1 arg5 arg6 arg7 arg10 arg11 X1 X5 X6 X10 X11 (arg7.view.writes (Elt F) f7 (L acc)))) } := by
  have hk : k.val < 16 := Nat.lt_of_lt_of_le k.isLt k0_t1_abs.2.1
  refine ⟨?_, ?_, fun E acc f7 => ?run⟩
  case run =>
    unfold k0_t1_body
    iintro ⟨H1, H5, H6, H10, H11, H7⟩
    sl_exec
    sl_step
    sl_close

/-- What trip `k` adds to the state `prev`: its result as the carried value, its pieces in front. -/
@[irreducible] def stateStep (k : ℕ) (prev : Acc F × List (View.Piece (Elt F) S16x8x32x512 .f32)) :
    Acc F × List (View.Piece (Elt F) S16x8x32x512 .f32) :=
  if h : k < k0_t1_loop.trips then ((trip (F := F) 𝒱 c bd i arg1 harg1 arg2 harg2 arg3 harg3 arg4 harg4 arg5 harg5 arg6 harg6 arg7 harg7 arg8 harg8 arg9 harg9
      arg10 harg10 arg11 harg11 c0 X1 X5 X6 X10 X11 ⟨k, h⟩).1 prev.1, (trip (F := F) 𝒱 c bd i arg1 harg1 arg2 harg2 arg3 harg3 arg4 harg4 arg5 harg5 arg6 harg6 arg7 harg7 arg8 harg8 arg9 harg9
      arg10 harg10 arg11 harg11 c0 X1 X5 X6 X10 X11 ⟨k, h⟩).2.1 prev.1 ++ prev.2) else prev

/-- The state before trip `k`: the carried value, and the pieces of the trips before, last first. -/
def state (init : Acc F) : ℕ → Acc F × List (View.Piece (Elt F) S16x8x32x512 .f32)
  | 0 => (init, [])
  | k + 1 => stateStep (F := F) 𝒱 c bd i arg1 harg1 arg2 harg2 arg3 harg3 arg4 harg4 arg5 harg5 arg6 harg6 arg7 harg7 arg8 harg8 arg9 harg9
      arg10 harg10 arg11 harg11 c0 X1 X5 X6 X10 X11 k (state init k)

/-- One more trip. -/
theorem state_succ (init : Acc F) (k : Fin k0_t1_loop.trips) :
    state (F := F) 𝒱 c bd i arg1 harg1 arg2 harg2 arg3 harg3 arg4 harg4 arg5 harg5 arg6 harg6 arg7 harg7 arg8 harg8 arg9 harg9
      arg10 harg10 arg11 harg11 c0 X1 X5 X6 X10 X11 init (k.val + 1) = ((trip (F := F) 𝒱 c bd i arg1 harg1 arg2 harg2 arg3 harg3 arg4 harg4 arg5 harg5 arg6 harg6 arg7 harg7 arg8 harg8 arg9 harg9
      arg10 harg10 arg11 harg11 c0 X1 X5 X6 X10 X11 k).1 (state (F := F) 𝒱 c bd i arg1 harg1 arg2 harg2 arg3 harg3 arg4 harg4 arg5 harg5 arg6 harg6 arg7 harg7 arg8 harg8 arg9 harg9
      arg10 harg10 arg11 harg11 c0 X1 X5 X6 X10 X11 init k.val).1, (trip (F := F) 𝒱 c bd i arg1 harg1 arg2 harg2 arg3 harg3 arg4 harg4 arg5 harg5 arg6 harg6 arg7 harg7 arg8 harg8 arg9 harg9
      arg10 harg10 arg11 harg11 c0 X1 X5 X6 X10 X11 k).2.1 (state (F := F) 𝒱 c bd i arg1 harg1 arg2 harg2 arg3 harg3 arg4 harg4 arg5 harg5 arg6 harg6 arg7 harg7 arg8 harg8 arg9 harg9
      arg10 harg10 arg11 harg11 c0 X1 X5 X6 X10 X11 init k.val).1 ++ (state (F := F) 𝒱 c bd i arg1 harg1 arg2 harg2 arg3 harg3 arg4 harg4 arg5 harg5 arg6 harg6 arg7 harg7 arg8 harg8 arg9 harg9
      arg10 harg10 arg11 harg11 c0 X1 X5 X6 X10 X11 init k.val).2) := by
  rw [state.eq_2]; unfold stateStep; exact dif_pos k.isLt

/-- The invariant before trip `k`: the read buffers at their contents, the block at the pieces of the trips before over
    what it held at the start, the carried value the state's. -/
abbrev inv (G7 : BufTy.Contents (Elt F) arg7.view.ty) (init : Acc F) (k : ℕ) (acc : Acc F) : sProp 𝕄 :=
  iprop((arg1.view.loc (c : Thread nD τ) ↦[arg1.view.set]{fullShare} X1)
    ∗ (arg5.view.loc (c : Thread nD τ) ↦[arg5.view.set]{fullShare} X5)
    ∗ (arg6.view.loc (c : Thread nD τ) ↦[arg6.view.set]{fullShare} X6)
    ∗ (arg10.view.loc (c : Thread nD τ) ↦[arg10.view.set]{fullShare} X10)
    ∗ (arg11.view.loc (c : Thread nD τ) ↦[arg11.view.set]{fullShare} X11)
    ∗ (∃ f, (arg7.view.loc (c : Thread nD τ) ↦[arg7.view.set]{fullShare} f)
        ∗ ⌜f = arg7.view.writes (Elt F) G7 (state (F := F) 𝒱 c bd i arg1 harg1 arg2 harg2 arg3 harg3 arg4 harg4 arg5 harg5 arg6 harg6 arg7 harg7 arg8 harg8 arg9 harg9
      arg10 harg10 arg11 harg11 c0 X1 X5 X6 X10 X11 init k).2⌝)
    ∗ ⌜acc = (state (F := F) 𝒱 c bd i arg1 harg1 arg2 harg2 arg3 harg3 arg4 harg4 arg5 harg5 arg6 harg6 arg7 harg7 arg8 harg8 arg9 harg9
      arg10 harg10 arg11 harg11 c0 X1 X5 X6 X10 X11 init k).1⌝)

set_option warn.classDefReducibility false in
/-- The loop by its invariant. -/
@[sl_loop] def loopInv (E : Set ℕ) (G7 : BufTy.Contents (Elt F) arg7.view.ty) (init : Acc F) :
    LoopInvTy_k0_t1 (F := F) Unit ℕ (UR sig nD τ) ℕ 𝒱 c bd E i arg1 harg1 arg2 harg2 arg3 harg3 arg4 harg4 arg5 harg5 arg6
      harg6 arg7 harg7 arg8 harg8 arg9 harg9 arg10 harg10 arg11 harg11 c0 init where
  inv := inv (F := F) 𝒱 c bd i arg1 harg1 arg2 harg2 arg3 harg3 arg4 harg4 arg5 harg5 arg6 harg6 arg7 harg7 arg8 harg8 arg9 harg9
      arg10 harg10 arg11 harg11 c0 X1 X5 X6 X10 X11 G7 init
  step k acc := by
    iintro ⟨H1, H5, H6, H10, H11, ⟨%f7, H7, %h7⟩, %hacc⟩
    subst hacc
    iapply (wp_wand_r Idealize.ShloMosaic.frame (wpE (defs₀ (F := F)) 𝒱 (c : Thread nD τ) bd) E)
    isplitl [H1 H5 H6 H10 H11 H7]
    · iapply ((trip (F := F) 𝒱 c bd i arg1 harg1 arg2 harg2 arg3 harg3 arg4 harg4 arg5 harg5 arg6 harg6 arg7 harg7 arg8 harg8 arg9 harg9
      arg10 harg10 arg11 harg11 c0 X1 X5 X6 X10 X11 k).2.2 E (state (F := F) 𝒱 c bd i arg1 harg1 arg2 harg2 arg3 harg3 arg4 harg4 arg5 harg5 arg6 harg6 arg7 harg7 arg8 harg8 arg9 harg9
      arg10 harg10 arg11 harg11 c0 X1 X5 X6 X10 X11 init k).1 f7)
      isplitl [H1]; · iexact H1
      isplitl [H5]; · iexact H5
      isplitl [H6]; · iexact H6
      isplitl [H10]; · iexact H10
      isplitl [H11]; · iexact H11
      iexact H7
    · iintro %yld ⟨%hres, H1, H5, H6, H10, H11, H7⟩
      isplitl [H1]; · iexact H1
      isplitl [H5]; · iexact H5
      isplitl [H6]; · iexact H6
      isplitl [H10]; · iexact H10
      isplitl [H11]; · iexact H11
      simp only [state_succ]
      isplitl [H7]
      · iexists _; isplitl [H7]; · iexact H7
        ipureintro; rw [h7, ← View.writes_append]
      ipureintro; rw [hres]

end Cert.Kernel.RowLoop

end
-- ==== Proof.RunBits.lean ====
/-
  The whole-body run of `_dw_body` in the program `Kernel`, with the loop taken by `RowLoop.loopInv`, and from it the frame:
  what the three outputs hold after a grid point (`out0_A_6`, `out0_A_7`, `out0_A_8`: the run's pieces read back), the
  proof data, the run `run_main` and the frame `frame`.
-/
module

public import proofs.«01_k».proof.Proof.RowLoopBits
public import proofs.«01_k».proof.Proof.Gen.Kernel.Frame.Runs
public import Idealize.ShloMosaic.Lib.Claim

@[expose] public section

set_option maxRecDepth 60000

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Body

variable (c : Dev nD) (i : grid0.Coords)
  (arg1 : Memref sig .tc .vmem S4096x1152 .bf16) (harg1 : arg1.IsWhole)
  (arg2 : Memref sig .tc .vmem S1152x512 .fp8e5m2) (harg2 : arg2.IsWhole)
  (arg3 : Memref sig .tc .vmem S1152x128 .bf16) (harg3 : arg3.IsWhole)
  (arg4 : Memref sig .tc .vmem S2x512x512 .i8) (harg4 : arg4.IsWhole)
  (arg5 : Memref sig .tc .vmem S2x4x2x8x128 .i32) (harg5 : arg5.IsWhole)
  (arg6 : Memref sig .tc .vmem S1x512 .f32) (harg6 : arg6.IsWhole)
  (arg7 : Memref sig .tc .vmem S16x8x32x512 .f32) (harg7 : arg7.IsWhole)
  (arg8 : Memref sig .tc .vmem S512x512 .i32) (harg8 : arg8.IsWhole)
  (arg9 : Memref sig .tc .vmem S1x512 .f32) (harg9 : arg9.IsWhole)
  (arg10 : Memref sig .tc .vmem S1152x512 .bf16) (harg10 : arg10.IsWhole)
  (arg11 : Memref sig .tc .vmem S512x512 .i32) (harg11 : arg11.IsWhole)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, the other scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (x0 : Vec F S4096x1152 .bf16) (x1 : Vec F S1152x512 .fp8e5m2) (x2 : Vec F S1152x128 .bf16) (x3 : Vec F S2x512x512 .i8) (x4 : Vec F S2x4x2x8x128 .i32) (x5 : Vec F S1x512 .f32) :
    Σ' (L6 : List (View.Piece (Elt F) S16x8x32x512 .f32)), Σ' (L7 : List (View.Piece (Elt F) S512x512 .i32)), Σ' (L8 : List (View.Piece (Elt F) S1x512 .f32)), { LT1 : List (View.Piece (Elt F) S512x512 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ d, owns (c : Thread nD τ) arg10 fullShare d) ∗ (∃ f, arg11.view.loc (c : Thread nD τ) ↦[arg11.view.set]{fullShare} arg11.view.writes (Elt F) f LT1)) -∗ K ⟨⟩))
          ⊢ wp frame (wpE (defs₀ (F := F)) Variants.none c none) E (cc0_dw0 i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_dw0_eq_skeleton]; unfold cc0_dw0_skel
    simp only [k0_part133_eq_skeleton, k0_part134_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]
    · iexists _, _; isplitr; swap; · iexact HS0
      ipureintro; rfl
    iexists _; iexact HS1

/-- The run's pieces for output 6 tile its block (2048 stores of `S1x1x8x128`, checked by the kernel's evaluation: Lib/Ring.lean `Piece.tiledL`, linear in the pieces, through a loop's `@[irreducible]` trip theorem too), so they cover it. -/
theorem cover0_A_6 (x0 : Vec F S4096x1152 .bf16) (x1 : Vec F S1152x512 .fp8e5m2) (x2 : Vec F S1152x128 .bf16) (x3 : Vec F S2x512x512 .i8) (x4 : Vec F S2x4x2x8x128 .i32) (x5 : Vec F S1x512 .f32) (y : S16x8x32x512.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5).1 S1x1x8x128.size (by sl_kernel_rfl) y

/-- What the run leaves in output 6's staging buffer: its pieces read back over junk. -/
def out0_A_6 (x0 : Vec F S4096x1152 .bf16) (x1 : Vec F S1152x512 .fp8e5m2) (x2 : Vec F S1152x128 .bf16) (x3 : Vec F S2x512x512 .i8) (x4 : Vec F S2x4x2x8x128 .i32) (x5 : Vec F S1x512 .f32) : Vec F S16x8x32x512 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 x0 x1 x2 x3 x4 x5).1)

/-- The run's pieces for output 7 tile its block (1 store of `S512x512`, checked by the kernel's evaluation: Lib/Ring.lean `Piece.tiledL`, linear in the pieces, through a loop's `@[irreducible]` trip theorem too), so they cover it. -/
theorem cover0_A_7 (x0 : Vec F S4096x1152 .bf16) (x1 : Vec F S1152x512 .fp8e5m2) (x2 : Vec F S1152x128 .bf16) (x3 : Vec F S2x512x512 .i8) (x4 : Vec F S2x4x2x8x128 .i32) (x5 : Vec F S1x512 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5).2.1 S512x512.size (by sl_kernel_rfl) y

/-- What the run leaves in output 7's staging buffer: its pieces read back over junk. -/
def out0_A_7 (x0 : Vec F S4096x1152 .bf16) (x1 : Vec F S1152x512 .fp8e5m2) (x2 : Vec F S1152x128 .bf16) (x3 : Vec F S2x512x512 .i8) (x4 : Vec F S2x4x2x8x128 .i32) (x5 : Vec F S1x512 .f32) : Vec F S512x512 .i32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 x0 x1 x2 x3 x4 x5).2.1)

/-- The run's pieces for output 8 tile its block (4 stores of `S1x128`, checked by the kernel's evaluation: Lib/Ring.lean `Piece.tiledL`, linear in the pieces, through a loop's `@[irreducible]` trip theorem too), so they cover it. -/
theorem cover0_A_8 (x0 : Vec F S4096x1152 .bf16) (x1 : Vec F S1152x512 .fp8e5m2) (x2 : Vec F S1152x128 .bf16) (x3 : Vec F S2x512x512 .i8) (x4 : Vec F S2x4x2x8x128 .i32) (x5 : Vec F S1x512 .f32) (y : S1x512.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5).2.2.1 S1x128.size (by sl_kernel_rfl) y

/-- What the run leaves in output 8's staging buffer: its pieces read back over junk. -/
def out0_A_8 (x0 : Vec F S4096x1152 .bf16) (x1 : Vec F S1152x512 .fp8e5m2) (x2 : Vec F S1152x128 .bf16) (x3 : Vec F S2x512x512 .i8) (x4 : Vec F S2x4x2x8x128 .i32) (x5 : Vec F S1x512 .f32) : Vec F S1x512 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 x0 x1 x2 x3 x4 x5).2.2.1)

end Body

/-! ## What the outputs hold after each point -/

/-- What the outputs' staging buffers hold after the body at point `t` (as a tuple, in window order): the run's contents at
    the point's memrefs and input blocks. -/
def outsAt0 (c : Dev nD) (t : Fin cfg0.N) : Vec F S16x8x32x512 .f32 × Vec F S512x512 .i32 × Vec F S1x512 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t).1
    | ⟨7, _⟩ => (outsAt0 m c t).2.1
    | ⟨8, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t).1 := by dsimp only [dats]
theorem after0_7 (c : Dev nD) (t : Fin cfg0.N) : (dats m 0 c).after 7 t = (outsAt0 m c t).2.1 := by dsimp only [dats]
theorem after0_8 (c : Dev nD) (t : Fin cfg0.N) : (dats m 0 c).after 8 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold out0_A_6 out0_A_7 out0_A_8; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ (iblk m c 0 t) (iblk m c 1 t) (iblk m c 2 t) (iblk m c 3 t) (iblk m c 4 t) (iblk m c 5 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  iintro ⟨H0, H1, H2, H3, H4, H5, ⟨%e6, H6⟩, ⟨%e7, H7⟩, ⟨%e8, H8⟩, HS0, ⟨%fT1, HS1⟩⟩
  isplitl [HS0 HS1 Hg]
  · isplitl [HS0 HS1]
    · isplitl [HS0]
      · iexact HS0
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Run

end
-- ==== Proof.RowLoopIdeal.lean ====
/-
  The loop over the sixteen row chunks of `_dw_body`, for the program `KernelIdeal`.

  `trip` runs one trip: what it yields (`tripR`) and the pieces that it stores into the weighted-gradient block (`tripL`)
  are the run's own finds. `state` is the carried value and the pieces before a trip; `loopInv` is the loop's invariant.
-/
module

public import proofs.«01_k».proof.Proof.Gen.KernelIdeal.Loops

@[expose] public section

-- a trip makes 128 stores, and its proof walks a list as long
set_option maxRecDepth 60000
set_option maxHeartbeats 4000000

noncomputable section

namespace Cert.KernelIdeal.RowLoop

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The four accumulator tiles that the loop carries. -/
abbrev Acc (F : FTy → Type) : Type := FVec F S8x128 .f32 × FVec F S8x128 .f32 × FVec F S8x128 .f32 × FVec F S8x128 .f32

variable (𝒱 : Variants) (c : Dev nD) (bd : Option 𝒱.V) (i : grid0.Coords)
  (arg1 : Memref sig .tc .vmem S4096x1152 .bf16) (harg1 : arg1.IsWhole) (arg2 : Memref sig .tc .vmem S1152x512 .fp8e5m2)
  (harg2 : arg2.IsWhole) (arg3 : Memref sig .tc .vmem S1152x128 .bf16) (harg3 : arg3.IsWhole)
  (arg4 : Memref sig .tc .vmem S2x512x512 .i8) (harg4 : arg4.IsWhole) (arg5 : Memref sig .tc .vmem S2x4x2x8x128 .i32)
  (harg5 : arg5.IsWhole) (arg6 : Memref sig .tc .vmem S1x512 .f32) (harg6 : arg6.IsWhole)
  (arg7 : Memref sig .tc .vmem S16x8x32x512 .f32) (harg7 : arg7.IsWhole) (arg8 : Memref sig .tc .vmem S512x512 .i32)
  (harg8 : arg8.IsWhole) (arg9 : Memref sig .tc .vmem S1x512 .f32) (harg9 : arg9.IsWhole)
  (arg10 : Memref sig .tc .vmem S1152x512 .bf16) (harg10 : arg10.IsWhole) (arg11 : Memref sig .tc .vmem S512x512 .i32)
  (harg11 : arg11.IsWhole) (c0 : BitVec 32)
  (X1 : BufTy.Contents (Elt F) arg1.view.ty) (X5 : BufTy.Contents (Elt F) arg5.view.ty)
  (X6 : BufTy.Contents (Elt F) arg6.view.ty) (X10 : BufTy.Contents (Elt F) arg10.view.ty)
  (X11 : BufTy.Contents (Elt F) arg11.view.ty)

/-- What a trip holds: the five buffers it reads at their contents, and the block it writes. -/
abbrev Held (f7 : BufTy.Contents (Elt F) arg7.view.ty) : sProp 𝕄 :=
  iprop((arg1.view.loc (c : Thread nD τ) ↦[arg1.view.set]{fullShare} X1)
    ∗ (arg5.view.loc (c : Thread nD τ) ↦[arg5.view.set]{fullShare} X5)
    ∗ (arg6.view.loc (c : Thread nD τ) ↦[arg6.view.set]{fullShare} X6)
    ∗ (arg10.view.loc (c : Thread nD τ) ↦[arg10.view.set]{fullShare} X10)
    ∗ (arg11.view.loc (c : Thread nD τ) ↦[arg11.view.set]{fullShare} X11)
    ∗ (arg7.view.loc (c : Thread nD τ) ↦[arg7.view.set]{fullShare} f7))

/-- One trip at a symbolic `k` and carried value: it yields the run's result and leaves the run's pieces written over what
    the block held. -/
@[irreducible] def trip (k : Fin k0_t1_loop.trips) :
    Σ' (R : Acc F → Acc F), { L : Acc F → List (View.Piece (Elt F) S16x8x32x512 .f32) //
      ∀ (E : Set ℕ) (acc : Acc F) (f7 : BufTy.Contents (Elt F) arg7.view.ty),
        Held c arg1 arg5 arg6 arg7 arg10 arg11 X1 X5 X6 X10 X11 f7
        ⊢ wp frame (wpE (defs₀ (F := F)) 𝒱 (c : Thread nD τ) bd) E
            (k0_t1_body (F := F) i arg1 harg1 arg2 harg2 arg3 harg3 arg4 harg4 arg5 harg5 arg6 harg6 arg7 harg7 arg8 harg8
              arg9 harg9 arg10 harg10 arg11 harg11 c0 k acc)
            (fun yld => iprop(⌜yld = R acc⌝
              ∗ Held c arg1 arg5 arg6 arg7 arg10 arg11 X1 X5 X6 X10 X11 (arg7.view.writes (Elt F) f7 (L acc)))) } := by
  have hk : k.val < 16 := Nat.lt_of_lt_of_le k.isLt k0_t1_abs.2.1
  refine ⟨?_, ?_, fun E acc f7 => ?run⟩
  case run =>
    unfold k0_t1_body
    iintro ⟨H1, H5, H6, H10, H11, H7⟩
    sl_exec
    sl_step
    sl_close

/-- What trip `k` adds to the state `prev`: its result as the carried value, its pieces in front. -/
@[irreducible] def stateStep (k : ℕ) (prev : Acc F × List (View.Piece (Elt F) S16x8x32x512 .f32)) :
    Acc F × List (View.Piece (Elt F) S16x8x32x512 .f32) :=
  if h : k < k0_t1_loop.trips then ((trip (F := F) 𝒱 c bd i arg1 harg1 arg2 harg2 arg3 harg3 arg4 harg4 arg5 harg5 arg6 harg6 arg7 harg7 arg8 harg8 arg9 harg9
      arg10 harg10 arg11 harg11 c0 X1 X5 X6 X10 X11 ⟨k, h⟩).1 prev.1, (trip (F := F) 𝒱 c bd i arg1 harg1 arg2 harg2 arg3 harg3 arg4 harg4 arg5 harg5 arg6 harg6 arg7 harg7 arg8 harg8 arg9 harg9
      arg10 harg10 arg11 harg11 c0 X1 X5 X6 X10 X11 ⟨k, h⟩).2.1 prev.1 ++ prev.2) else prev

/-- The state before trip `k`: the carried value, and the pieces of the trips before, last first. -/
def state (init : Acc F) : ℕ → Acc F × List (View.Piece (Elt F) S16x8x32x512 .f32)
  | 0 => (init, [])
  | k + 1 => stateStep (F := F) 𝒱 c bd i arg1 harg1 arg2 harg2 arg3 harg3 arg4 harg4 arg5 harg5 arg6 harg6 arg7 harg7 arg8 harg8 arg9 harg9
      arg10 harg10 arg11 harg11 c0 X1 X5 X6 X10 X11 k (state init k)

/-- One more trip. -/
theorem state_succ (init : Acc F) (k : Fin k0_t1_loop.trips) :
    state (F := F) 𝒱 c bd i arg1 harg1 arg2 harg2 arg3 harg3 arg4 harg4 arg5 harg5 arg6 harg6 arg7 harg7 arg8 harg8 arg9 harg9
      arg10 harg10 arg11 harg11 c0 X1 X5 X6 X10 X11 init (k.val + 1) = ((trip (F := F) 𝒱 c bd i arg1 harg1 arg2 harg2 arg3 harg3 arg4 harg4 arg5 harg5 arg6 harg6 arg7 harg7 arg8 harg8 arg9 harg9
      arg10 harg10 arg11 harg11 c0 X1 X5 X6 X10 X11 k).1 (state (F := F) 𝒱 c bd i arg1 harg1 arg2 harg2 arg3 harg3 arg4 harg4 arg5 harg5 arg6 harg6 arg7 harg7 arg8 harg8 arg9 harg9
      arg10 harg10 arg11 harg11 c0 X1 X5 X6 X10 X11 init k.val).1, (trip (F := F) 𝒱 c bd i arg1 harg1 arg2 harg2 arg3 harg3 arg4 harg4 arg5 harg5 arg6 harg6 arg7 harg7 arg8 harg8 arg9 harg9
      arg10 harg10 arg11 harg11 c0 X1 X5 X6 X10 X11 k).2.1 (state (F := F) 𝒱 c bd i arg1 harg1 arg2 harg2 arg3 harg3 arg4 harg4 arg5 harg5 arg6 harg6 arg7 harg7 arg8 harg8 arg9 harg9
      arg10 harg10 arg11 harg11 c0 X1 X5 X6 X10 X11 init k.val).1 ++ (state (F := F) 𝒱 c bd i arg1 harg1 arg2 harg2 arg3 harg3 arg4 harg4 arg5 harg5 arg6 harg6 arg7 harg7 arg8 harg8 arg9 harg9
      arg10 harg10 arg11 harg11 c0 X1 X5 X6 X10 X11 init k.val).2) := by
  rw [state.eq_2]; unfold stateStep; exact dif_pos k.isLt

/-- The invariant before trip `k`: the read buffers at their contents, the block at the pieces of the trips before over
    what it held at the start, the carried value the state's. -/
abbrev inv (G7 : BufTy.Contents (Elt F) arg7.view.ty) (init : Acc F) (k : ℕ) (acc : Acc F) : sProp 𝕄 :=
  iprop((arg1.view.loc (c : Thread nD τ) ↦[arg1.view.set]{fullShare} X1)
    ∗ (arg5.view.loc (c : Thread nD τ) ↦[arg5.view.set]{fullShare} X5)
    ∗ (arg6.view.loc (c : Thread nD τ) ↦[arg6.view.set]{fullShare} X6)
    ∗ (arg10.view.loc (c : Thread nD τ) ↦[arg10.view.set]{fullShare} X10)
    ∗ (arg11.view.loc (c : Thread nD τ) ↦[arg11.view.set]{fullShare} X11)
    ∗ (∃ f, (arg7.view.loc (c : Thread nD τ) ↦[arg7.view.set]{fullShare} f)
        ∗ ⌜f = arg7.view.writes (Elt F) G7 (state (F := F) 𝒱 c bd i arg1 harg1 arg2 harg2 arg3 harg3 arg4 harg4 arg5 harg5 arg6 harg6 arg7 harg7 arg8 harg8 arg9 harg9
      arg10 harg10 arg11 harg11 c0 X1 X5 X6 X10 X11 init k).2⌝)
    ∗ ⌜acc = (state (F := F) 𝒱 c bd i arg1 harg1 arg2 harg2 arg3 harg3 arg4 harg4 arg5 harg5 arg6 harg6 arg7 harg7 arg8 harg8 arg9 harg9
      arg10 harg10 arg11 harg11 c0 X1 X5 X6 X10 X11 init k).1⌝)

set_option warn.classDefReducibility false in
/-- The loop by its invariant. -/
@[sl_loop] def loopInv (E : Set ℕ) (G7 : BufTy.Contents (Elt F) arg7.view.ty) (init : Acc F) :
    LoopInvTy_k0_t1 (F := F) Unit ℕ (UR sig nD τ) ℕ 𝒱 c bd E i arg1 harg1 arg2 harg2 arg3 harg3 arg4 harg4 arg5 harg5 arg6
      harg6 arg7 harg7 arg8 harg8 arg9 harg9 arg10 harg10 arg11 harg11 c0 init where
  inv := inv (F := F) 𝒱 c bd i arg1 harg1 arg2 harg2 arg3 harg3 arg4 harg4 arg5 harg5 arg6 harg6 arg7 harg7 arg8 harg8 arg9 harg9
      arg10 harg10 arg11 harg11 c0 X1 X5 X6 X10 X11 G7 init
  step k acc := by
    iintro ⟨H1, H5, H6, H10, H11, ⟨%f7, H7, %h7⟩, %hacc⟩
    subst hacc
    iapply (wp_wand_r Idealize.ShloMosaic.frame (wpE (defs₀ (F := F)) 𝒱 (c : Thread nD τ) bd) E)
    isplitl [H1 H5 H6 H10 H11 H7]
    · iapply ((trip (F := F) 𝒱 c bd i arg1 harg1 arg2 harg2 arg3 harg3 arg4 harg4 arg5 harg5 arg6 harg6 arg7 harg7 arg8 harg8 arg9 harg9
      arg10 harg10 arg11 harg11 c0 X1 X5 X6 X10 X11 k).2.2 E (state (F := F) 𝒱 c bd i arg1 harg1 arg2 harg2 arg3 harg3 arg4 harg4 arg5 harg5 arg6 harg6 arg7 harg7 arg8 harg8 arg9 harg9
      arg10 harg10 arg11 harg11 c0 X1 X5 X6 X10 X11 init k).1 f7)
      isplitl [H1]; · iexact H1
      isplitl [H5]; · iexact H5
      isplitl [H6]; · iexact H6
      isplitl [H10]; · iexact H10
      isplitl [H11]; · iexact H11
      iexact H7
    · iintro %yld ⟨%hres, H1, H5, H6, H10, H11, H7⟩
      isplitl [H1]; · iexact H1
      isplitl [H5]; · iexact H5
      isplitl [H6]; · iexact H6
      isplitl [H10]; · iexact H10
      isplitl [H11]; · iexact H11
      simp only [state_succ]
      isplitl [H7]
      · iexists _; isplitl [H7]; · iexact H7
        ipureintro; rw [h7, ← View.writes_append]
      ipureintro; rw [hres]

end Cert.KernelIdeal.RowLoop

end
-- ==== Proof.RunIdeal.lean ====
/-
  The whole-body run of `_dw_body` in the program `KernelIdeal`, with the loop taken by `RowLoop.loopInv`, and from it the frame:
  what the three outputs hold after a grid point (`out0_A_6`, `out0_A_7`, `out0_A_8`: the run's pieces read back), the
  proof data, the run `run_main` and the frame `frame`.
-/
module

public import proofs.«01_k».proof.Proof.RowLoopIdeal
public import proofs.«01_k».proof.Proof.Gen.KernelIdeal.Frame.Runs
public import Idealize.ShloMosaic.Lib.Claim

@[expose] public section

set_option maxRecDepth 60000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Body

variable (c : Dev nD) (i : grid0.Coords)
  (arg1 : Memref sig .tc .vmem S4096x1152 .bf16) (harg1 : arg1.IsWhole)
  (arg2 : Memref sig .tc .vmem S1152x512 .fp8e5m2) (harg2 : arg2.IsWhole)
  (arg3 : Memref sig .tc .vmem S1152x128 .bf16) (harg3 : arg3.IsWhole)
  (arg4 : Memref sig .tc .vmem S2x512x512 .i8) (harg4 : arg4.IsWhole)
  (arg5 : Memref sig .tc .vmem S2x4x2x8x128 .i32) (harg5 : arg5.IsWhole)
  (arg6 : Memref sig .tc .vmem S1x512 .f32) (harg6 : arg6.IsWhole)
  (arg7 : Memref sig .tc .vmem S16x8x32x512 .f32) (harg7 : arg7.IsWhole)
  (arg8 : Memref sig .tc .vmem S512x512 .i32) (harg8 : arg8.IsWhole)
  (arg9 : Memref sig .tc .vmem S1x512 .f32) (harg9 : arg9.IsWhole)
  (arg10 : Memref sig .tc .vmem S1152x512 .bf16) (harg10 : arg10.IsWhole)
  (arg11 : Memref sig .tc .vmem S512x512 .i32) (harg11 : arg11.IsWhole)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, the other scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (x0 : Vec F S4096x1152 .bf16) (x1 : Vec F S1152x512 .fp8e5m2) (x2 : Vec F S1152x128 .bf16) (x3 : Vec F S2x512x512 .i8) (x4 : Vec F S2x4x2x8x128 .i32) (x5 : Vec F S1x512 .f32) :
    Σ' (L6 : List (View.Piece (Elt F) S16x8x32x512 .f32)), Σ' (L7 : List (View.Piece (Elt F) S512x512 .i32)), Σ' (L8 : List (View.Piece (Elt F) S1x512 .f32)), { LT1 : List (View.Piece (Elt F) S512x512 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ d, owns (c : Thread nD τ) arg10 fullShare d) ∗ (∃ f, arg11.view.loc (c : Thread nD τ) ↦[arg11.view.set]{fullShare} arg11.view.writes (Elt F) f LT1)) -∗ K ⟨⟩))
          ⊢ wp frame (wpE (defs₀ (F := F)) Variants.none c none) E (cc0_dw0 i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_dw0_eq_skeleton]; unfold cc0_dw0_skel
    simp only [k0_part133_eq_skeleton, k0_part134_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]
    · iexists _, _; isplitr; swap; · iexact HS0
      ipureintro; rfl
    iexists _; iexact HS1

/-- The run's pieces for output 6 tile its block (2048 stores of `S1x1x8x128`, checked by the kernel's evaluation: Lib/Ring.lean `Piece.tiledL`, linear in the pieces, through a loop's `@[irreducible]` trip theorem too), so they cover it. -/
theorem cover0_A_6 (x0 : Vec F S4096x1152 .bf16) (x1 : Vec F S1152x512 .fp8e5m2) (x2 : Vec F S1152x128 .bf16) (x3 : Vec F S2x512x512 .i8) (x4 : Vec F S2x4x2x8x128 .i32) (x5 : Vec F S1x512 .f32) (y : S16x8x32x512.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5).1 S1x1x8x128.size (by sl_kernel_rfl) y

/-- What the run leaves in output 6's staging buffer: its pieces read back over junk. -/
def out0_A_6 (x0 : Vec F S4096x1152 .bf16) (x1 : Vec F S1152x512 .fp8e5m2) (x2 : Vec F S1152x128 .bf16) (x3 : Vec F S2x512x512 .i8) (x4 : Vec F S2x4x2x8x128 .i32) (x5 : Vec F S1x512 .f32) : Vec F S16x8x32x512 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 x0 x1 x2 x3 x4 x5).1)

/-- The run's pieces for output 7 tile its block (1 store of `S512x512`, checked by the kernel's evaluation: Lib/Ring.lean `Piece.tiledL`, linear in the pieces, through a loop's `@[irreducible]` trip theorem too), so they cover it. -/
theorem cover0_A_7 (x0 : Vec F S4096x1152 .bf16) (x1 : Vec F S1152x512 .fp8e5m2) (x2 : Vec F S1152x128 .bf16) (x3 : Vec F S2x512x512 .i8) (x4 : Vec F S2x4x2x8x128 .i32) (x5 : Vec F S1x512 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5).2.1 S512x512.size (by sl_kernel_rfl) y

/-- What the run leaves in output 7's staging buffer: its pieces read back over junk. -/
def out0_A_7 (x0 : Vec F S4096x1152 .bf16) (x1 : Vec F S1152x512 .fp8e5m2) (x2 : Vec F S1152x128 .bf16) (x3 : Vec F S2x512x512 .i8) (x4 : Vec F S2x4x2x8x128 .i32) (x5 : Vec F S1x512 .f32) : Vec F S512x512 .i32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 x0 x1 x2 x3 x4 x5).2.1)

/-- The run's pieces for output 8 tile its block (4 stores of `S1x128`, checked by the kernel's evaluation: Lib/Ring.lean `Piece.tiledL`, linear in the pieces, through a loop's `@[irreducible]` trip theorem too), so they cover it. -/
theorem cover0_A_8 (x0 : Vec F S4096x1152 .bf16) (x1 : Vec F S1152x512 .fp8e5m2) (x2 : Vec F S1152x128 .bf16) (x3 : Vec F S2x512x512 .i8) (x4 : Vec F S2x4x2x8x128 .i32) (x5 : Vec F S1x512 .f32) (y : S1x512.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5).2.2.1 S1x128.size (by sl_kernel_rfl) y

/-- What the run leaves in output 8's staging buffer: its pieces read back over junk. -/
def out0_A_8 (x0 : Vec F S4096x1152 .bf16) (x1 : Vec F S1152x512 .fp8e5m2) (x2 : Vec F S1152x128 .bf16) (x3 : Vec F S2x512x512 .i8) (x4 : Vec F S2x4x2x8x128 .i32) (x5 : Vec F S1x512 .f32) : Vec F S1x512 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 x0 x1 x2 x3 x4 x5).2.2.1)

end Body

/-! ## What the outputs hold after each point -/

/-- What the outputs' staging buffers hold after the body at point `t` (as a tuple, in window order): the run's contents at
    the point's memrefs and input blocks. -/
def outsAt0 (c : Dev nD) (t : Fin cfg0.N) : Vec F S16x8x32x512 .f32 × Vec F S512x512 .i32 × Vec F S1x512 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t).1
    | ⟨7, _⟩ => (outsAt0 m c t).2.1
    | ⟨8, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t).1 := by dsimp only [dats]
theorem after0_7 (c : Dev nD) (t : Fin cfg0.N) : (dats m 0 c).after 7 t = (outsAt0 m c t).2.1 := by dsimp only [dats]
theorem after0_8 (c : Dev nD) (t : Fin cfg0.N) : (dats m 0 c).after 8 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold out0_A_6 out0_A_7 out0_A_8; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ (iblk m c 0 t) (iblk m c 1 t) (iblk m c 2 t) (iblk m c 3 t) (iblk m c 4 t) (iblk m c 5 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  iintro ⟨H0, H1, H2, H3, H4, H5, ⟨%e6, H6⟩, ⟨%e7, H7⟩, ⟨%e8, H8⟩, HS0, ⟨%fT1, HS1⟩⟩
  isplitl [HS0 HS1 Hg]
  · isplitl [HS0 HS1]
    · isplitl [HS0]
      · iexact HS0
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Run

end
-- ==== Proof.TripIdeal.lean ====
/-
  What one trip of the loop over row chunks computes, written in whole tiles.

  `decode w T j` is column `j` of a tile of decoded weights: the two table entries that the code words `w` name, added.
  `accTile` adds the eight products of a group of sublanes to an accumulator tile, `accColumn` those of a whole column of
  tiles, and `trip_result` says that a trip yields the four columns' accumulators.
-/
module

public import proofs.«01_k».proof.Proof.RowLoopIdeal

@[expose] public section

set_option maxRecDepth 60000

noncomputable section

namespace Cert.KernelIdeal.Tile

open Cert.KernelIdeal Cert.KernelIdeal.Gen Cert.KernelIdeal.RowLoop
open Idealize.ShloMosaic Idealize.ShloMosaic.TcCoe

variable {F : FTy → Type} [FloatOps F]

/-- The code of one codebook in a tile of words: eight bits from bit `sh` up. -/
def code (w : IVec S8x128 32) (sh : BitVec 32) : IVec S8x128 32 :=
  andi (shrsi w (broadcast S8x128 sh)) (broadcast S8x128 255#32)

/-- The position of a code in its half table: the code modulo 128. -/
def pos (w : IVec S8x128 32) (sh : BitVec 32) : IVec S8x128 32 := andi (code w sh) (broadcast S8x128 127#32)

/-- A half table read along the lanes at the positions `p` (a negative position, which never arises, counts from the end). -/
def lookup (p : IVec S8x128 32) (T : IVec S1x1x1x8x128 32) : IVec S8x128 32 :=
  dynamicGather 1 (shapeCast S8x128 T shapeCasts_S1x1x1x8x128_S8x128)
    (shapeCast S8x128 (shapeCast S8x128x1
      (select (cmpi .slt p (broadcast S8x128 0#32)) (addi p (broadcast S8x128 128#32)) p)
      shapeCasts_S8x128_S8x128x1) shapeCasts_S8x128x1_S8x128)

/-- The table entries that the codes name: the high half table where the code is 128 or more, the low one elsewhere. -/
def entry (w : IVec S8x128 32) (sh : BitVec 32) (T : Fin 2 → IVec S1x1x1x8x128 32) : IVec S8x128 32 :=
  select (cmpi .sge (code w sh) (broadcast S8x128 128#32)) (lookup (pos w sh) (T 1)) (lookup (pos w sh) (T 0))

/-- The even column of an entry: its low sixteen bits moved up, read as a float. -/
def even (e : IVec S8x128 32) : FVec F S8x128 .f32 := bitcastToFloat .f32 (shli e (broadcast S8x128 16#32))

/-- The odd column of an entry: its high sixteen bits, read as a float. -/
def odd (e : IVec S8x128 32) : FVec F S8x128 .f32 := bitcastToFloat .f32 (andi e (broadcast S8x128 4294901760#32))

/-- The even column `2 * jj` of a tile of decoded weights. -/
def decodeEven (w : IVec S8x128 32) (T : Fin 2 → Fin 4 → Fin 2 → IVec S1x1x1x8x128 32) (jj : Fin 4) : FVec F S8x128 .f32 :=
  addf (even (entry w 0#32 (T 0 jj))) (even (entry w 8#32 (T 1 jj)))

/-- The odd column `2 * jj + 1` of a tile of decoded weights. -/
def decodeOdd (w : IVec S8x128 32) (T : Fin 2 → Fin 4 → Fin 2 → IVec S1x1x1x8x128 32) (jj : Fin 4) : FVec F S8x128 .f32 :=
  addf (odd (entry w 0#32 (T 0 jj))) (odd (entry w 8#32 (T 1 jj)))

/-- A tile of the product lies within it. -/
theorem slices_tile (j : Fin 8) (q l : Fin 4) : S256x512.Slices ![32 * j.val + 8 * q.val, 128 * l.val] S8x128 := by
  revert j q l; decide

/-- The tile of the product at in-group row `j`, sublane group `q` and column of tiles `l`. -/
def dwTile (dw : FVec F S256x512 .f32) (j : Fin 8) (q l : Fin 4) : FVec F S8x128 .f32 :=
  extractStridedSlice S8x128 ![32 * j.val + 8 * q.val, 128 * l.val] dw (slices_tile j q l)

/-- One sublane group: the eight products added to the accumulator, in order. -/
def accTile (dw : FVec F S256x512 .f32) (w : IVec S8x128 32) (T : Fin 2 → Fin 4 → Fin 2 → IVec S1x1x1x8x128 32)
    (q l : Fin 4) (a : FVec F S8x128 .f32) : FVec F S8x128 .f32 :=
  addf (addf (addf (addf (addf (addf (addf (addf a
    (mulf (dwTile dw 0 q l) (decodeEven w T 0))) (mulf (dwTile dw 1 q l) (decodeOdd w T 0)))
    (mulf (dwTile dw 2 q l) (decodeEven w T 1))) (mulf (dwTile dw 3 q l) (decodeOdd w T 1)))
    (mulf (dwTile dw 4 q l) (decodeEven w T 2))) (mulf (dwTile dw 5 q l) (decodeOdd w T 2)))
    (mulf (dwTile dw 6 q l) (decodeEven w T 3))) (mulf (dwTile dw 7 q l) (decodeOdd w T 3))

/-- One column of tiles: its four sublane groups in order. -/
def accColumn (dw : FVec F S256x512 .f32) (w : Fin 4 → IVec S8x128 32) (T : Fin 2 → Fin 4 → Fin 2 → IVec S1x1x1x8x128 32)
    (l : Fin 4) (a : FVec F S8x128 .f32) : FVec F S8x128 .f32 :=
  accTile dw (w 3) T 3 l (accTile dw (w 2) T 2 l (accTile dw (w 1) T 1 l (accTile dw (w 0) T 0 l a)))

section Loads

variable (arg1 : Memref sig .tc .vmem S4096x1152 .bf16) (arg5 : Memref sig .tc .vmem S2x4x2x8x128 .i32)
  (arg10 : Memref sig .tc .vmem S1152x512 .bf16) (arg11 : Memref sig .tc .vmem S512x512 .i32)
  (X1 : BufTy.Contents (Elt F) arg1.view.ty) (X5 : BufTy.Contents (Elt F) arg5.view.ty)
  (X10 : BufTy.Contents (Elt F) arg10.view.ty) (X11 : BufTy.Contents (Elt F) arg11.view.ty)
  (k : Fin k0_t1_loop.trips)

/-- The product of trip `k`: 256 rows of the left operand times the whole right operand. -/
def dwOf : FVec F S256x512 .f32 :=
  k0_pay9 (arg1.view.readAt (Elt F) (Rect.unit (s := S4096x1152) (k0_off1 k) S256x1152.size (k0_off1_inb k)).toLoadRect X1)
    (arg10.view.readAt (Elt F) (Rect.unit (s := S1152x512) ![0, 0] S1152x512.size inb_S1152x512_S1152x512_0_0).toLoadRect X10)

/-- A half table lies within the tables. -/
theorem inb_tab (m : Fin 2) (jj : Fin 4) (h : Fin 2) :
    ∀ a, (![m.val, jj.val, h.val, 0, 0] : Fin 5 → ℕ) a + S1x1x1x8x128.size a ≤ S2x4x2x8x128.size a := by
  revert m jj h; decide

/-- The half tables as loaded. -/
def tabOf (m : Fin 2) (jj : Fin 4) (h : Fin 2) : Vec F S1x1x1x8x128 .i32 :=
  arg5.view.readAt (Elt F) (Rect.unit (s := S2x4x2x8x128) ![m.val, jj.val, h.val, 0, 0] S1x1x1x8x128.size (inb_tab m jj h)).toLoadRect X5

/-- The code words of column 0 of tiles as loaded, sublane group by sublane group; -/
def wordsOf0 (q : Fin 4) : Vec F S8x128 .i32 :=
  arg11.view.readAt (Elt F) (Rect.unit (s := S512x512) (k0_off2 k (BitVec.ofNat 32 (8 * q.val))) S8x128.size (k0_off2_inb k q)).toLoadRect X11
/-- of column 1; -/
def wordsOf1 (q : Fin 4) : Vec F S8x128 .i32 :=
  arg11.view.readAt (Elt F) (Rect.unit (s := S512x512) (k0_off35 k (BitVec.ofNat 32 (8 * q.val))) S8x128.size (k0_off35_inb k q)).toLoadRect X11
/-- of column 2; -/
def wordsOf2 (q : Fin 4) : Vec F S8x128 .i32 :=
  arg11.view.readAt (Elt F) (Rect.unit (s := S512x512) (k0_off68 k (BitVec.ofNat 32 (8 * q.val))) S8x128.size (k0_off68_inb k q)).toLoadRect X11
/-- of column 3. -/
def wordsOf3 (q : Fin 4) : Vec F S8x128 .i32 :=
  arg11.view.readAt (Elt F) (Rect.unit (s := S512x512) (k0_off101 k (BitVec.ofNat 32 (8 * q.val))) S8x128.size (k0_off101_inb k q)).toLoadRect X11

end Loads

section Stores

variable (arg1 : Memref sig .tc .vmem S4096x1152 .bf16) (arg6 : Memref sig .tc .vmem S1x512 .f32)
  (arg10 : Memref sig .tc .vmem S1152x512 .bf16)
  (X1 : BufTy.Contents (Elt F) arg1.view.ty) (X6 : BufTy.Contents (Elt F) arg6.view.ty)
  (X10 : BufTy.Contents (Elt F) arg10.view.ty) (k : Fin k0_t1_loop.trips)

/-- A column of row scales lies within the row scales. -/
theorem inb_scale (l : Fin 4) : ∀ a, (![0, 128 * l.val] : Fin 2 → ℕ) a + S1x128.size a ≤ S1x512.size a := by
  revert l; decide

/-- The row scales of column `l` of tiles as loaded. -/
def scaleOf (l : Fin 4) : FVec F S1x128 .f32 :=
  shapeCast S1x128 (arg6.view.readAt (Elt F) (Rect.unit (s := S1x512) ![0, 128 * l.val] S1x128.size (inb_scale l)).toLoadRect X6)
    shapeCasts_S1x128_S1x128

/-- Where a trip stores the tile of in-group row `j`, sublane group `q` and column of tiles `l`: -/
def tileOff (j : Fin 8) (q l : Fin 4) : Fin 4 → ℕ :=
  ![(Scalar.indexCast (Scf.iv 0#32 1#32 k.val)).toNat, j.val, 8 * q.val, 128 * l.val]

/-- in the block of row chunk `k`. -/
theorem tileOff_eq (k : Fin k0_t1_loop.trips) (j : Fin 8) (q l : Fin 4) :
    tileOff k j q l = ![k.val, j.val, 8 * q.val, 128 * l.val] := by
  have h : ∀ k : Fin k0_t1_loop.trips, (Scalar.indexCast (Scf.iv 0#32 1#32 k.val)).toNat = k.val := by decide +kernel
  unfold tileOff; rw [h]

/-- There are sixteen trips. -/
theorem trip_lt (k : Fin k0_t1_loop.trips) : k.val < 16 := Nat.lt_of_lt_of_le k.isLt k0_t1_abs.2.1

/-- The tile lies within the stored block. -/
theorem inb_tile (k : Fin k0_t1_loop.trips) (j : Fin 8) (q l : Fin 4) :
    ∀ a, tileOff k j q l a + S1x1x8x128.size a ≤ S16x8x32x512.size a := by
  rw [tileOff_eq]
  have h := trip_lt k
  intro a
  fin_cases a <;> simp <;> omega

/-- The piece that a trip stores there: the tile of the product times the row scales. -/
def tilePiece (j : Fin 8) (q l : Fin 4) : View.Piece (Elt F) S16x8x32x512 .f32 :=
  ⟨Rect.unit (tileOff k j q l) S1x1x8x128.size (inb_tile k j q l),
    shapeCast S1x1x8x128 (mulf (dwTile (dwOf arg1 arg10 X1 X10 k) j q l)
      (broadcastTo S8x128 (scaleOf arg6 X6 l) broadcasts_S1x128_S8x128)) shapeCasts_S8x128_S1x1x8x128⟩

/-- The pieces of a trip, last first. -/
def tilePieces : List (View.Piece (Elt F) S16x8x32x512 .f32) :=
  [3, 2, 1, 0].flatMap fun l => [3, 2, 1, 0].flatMap fun q => [7, 6, 5, 4, 3, 2, 1, 0].map fun j =>
    tilePiece arg1 arg6 arg10 X1 X6 X10 k j q l

end Stores

variable (𝒱 : Variants) (c : Dev nD) (bd : Option 𝒱.V) (i : grid0.Coords)
  (arg1 : Memref sig .tc .vmem S4096x1152 .bf16) (harg1 : arg1.IsWhole) (arg2 : Memref sig .tc .vmem S1152x512 .fp8e5m2)
  (harg2 : arg2.IsWhole) (arg3 : Memref sig .tc .vmem S1152x128 .bf16) (harg3 : arg3.IsWhole)
  (arg4 : Memref sig .tc .vmem S2x512x512 .i8) (harg4 : arg4.IsWhole) (arg5 : Memref sig .tc .vmem S2x4x2x8x128 .i32)
  (harg5 : arg5.IsWhole) (arg6 : Memref sig .tc .vmem S1x512 .f32) (harg6 : arg6.IsWhole)
  (arg7 : Memref sig .tc .vmem S16x8x32x512 .f32) (harg7 : arg7.IsWhole) (arg8 : Memref sig .tc .vmem S512x512 .i32)
  (harg8 : arg8.IsWhole) (arg9 : Memref sig .tc .vmem S1x512 .f32) (harg9 : arg9.IsWhole)
  (arg10 : Memref sig .tc .vmem S1152x512 .bf16) (harg10 : arg10.IsWhole) (arg11 : Memref sig .tc .vmem S512x512 .i32)
  (harg11 : arg11.IsWhole) (c0 : BitVec 32)
  (X1 : BufTy.Contents (Elt F) arg1.view.ty) (X5 : BufTy.Contents (Elt F) arg5.view.ty)
  (X6 : BufTy.Contents (Elt F) arg6.view.ty) (X10 : BufTy.Contents (Elt F) arg10.view.ty)
  (X11 : BufTy.Contents (Elt F) arg11.view.ty)

set_option maxHeartbeats 4000000 in
/-- A trip yields the four accumulators, each with its column's products added. -/
theorem trip_result (k : Fin k0_t1_loop.trips) (a : Acc F) :
    (trip (F := F) 𝒱 c bd i arg1 harg1 arg2 harg2 arg3 harg3 arg4 harg4 arg5 harg5 arg6 harg6 arg7 harg7 arg8 harg8 arg9 harg9
      arg10 harg10 arg11 harg11 c0 X1 X5 X6 X10 X11 k).1 a
      = (accColumn (dwOf arg1 arg10 X1 X10 k) (wordsOf0 arg11 X11 k) (tabOf arg5 X5) 0 a.1,
         accColumn (dwOf arg1 arg10 X1 X10 k) (wordsOf1 arg11 X11 k) (tabOf arg5 X5) 1 a.2.1,
         accColumn (dwOf arg1 arg10 X1 X10 k) (wordsOf2 arg11 X11 k) (tabOf arg5 X5) 2 a.2.2.1,
         accColumn (dwOf arg1 arg10 X1 X10 k) (wordsOf3 arg11 X11 k) (tabOf arg5 X5) 3 a.2.2.2) := by
  unfold trip
  with_unfolding_all rfl

set_option maxHeartbeats 4000000 in
/-- A trip stores the 128 tiles of its row chunk. -/
theorem trip_pieces (k : Fin k0_t1_loop.trips) (a : Acc F) :
    (trip (F := F) 𝒱 c bd i arg1 harg1 arg2 harg2 arg3 harg3 arg4 harg4 arg5 harg5 arg6 harg6 arg7 harg7 arg8 harg8 arg9 harg9
      arg10 harg10 arg11 harg11 c0 X1 X5 X6 X10 X11 k).2.1 a = tilePieces arg1 arg6 arg10 X1 X6 X10 k := by
  unfold trip
  with_unfolding_all rfl

end Cert.KernelIdeal.Tile

end
-- ==== Proof.Words.lean ====
/-
  Facts about the machine words of the decoder: what a code word's two fields are, and what the two halves of a table
  entry denote as floats.
-/
module

public import Idealize.ShloMosaic.PureOps.Ideal
public import Mathlib.Tactic.IntervalCases
public import Mathlib.Tactic.SplitIfs
public import Mathlib.Tactic.Ring
public import Mathlib.Tactic.NormNum

@[expose] public section

noncomputable section

namespace Cert.Words

open Idealize.ShloMosaic

/-- The word that holds two codes: the first in bits 0–7, the second in bits 8–15. -/
def codeWord (a b : BitVec 8) : BitVec 32 := a.setWidth 32 ||| (b.setWidth 32 <<< 8)

/-- The word that holds two sixteen-bit floats: the first in the low half, the second in the high half. -/
def pairWord (a b : BitVec 16) : BitVec 32 := a.setWidth 32 ||| (b.setWidth 32 <<< 16)

/-- The first code of a code word. -/
theorem codeWord_low (a b : BitVec 8) : (codeWord a b).sshiftRight' 0#32 &&& 255#32 = a.setWidth 32 := by
  apply BitVec.eq_of_getLsbD_eq
  intro i hi
  unfold codeWord
  interval_cases i <;> simp [BitVec.getLsbD_setWidth, BitVec.sshiftRight', BitVec.getLsbD_sshiftRight, BitVec.getElem_sshiftRight, BitVec.getLsbD_shiftLeft]

/-- The second code of a code word. -/
theorem codeWord_high (a b : BitVec 8) : (codeWord a b).sshiftRight' 8#32 &&& 255#32 = b.setWidth 32 := by
  apply BitVec.eq_of_getLsbD_eq
  intro i hi
  unfold codeWord
  interval_cases i <;> simp [BitVec.getLsbD_setWidth, BitVec.sshiftRight', BitVec.getLsbD_sshiftRight, BitVec.getElem_sshiftRight, BitVec.getLsbD_shiftLeft]

/-- A code's position in its half table. -/
theorem code_pos : ∀ c : BitVec 8, (c.setWidth 32 &&& 127#32).toNat = c.toNat % 128 := by decide +kernel

/-- A position is never negative. -/
theorem code_pos_slt : ∀ c : BitVec 8, (c.setWidth 32 &&& 127#32).slt 0#32 = false := by decide +kernel

/-- A code is 128 or more exactly when its word is. -/
theorem code_sge : ∀ c : BitVec 8, (128#32).sle (c.setWidth 32) = decide (128 ≤ c.toNat) := by decide +kernel

/-- The low half moved up drops the high half. -/
theorem pairWord_low (a b : BitVec 16) : pairWord a b <<< 16#32 = a.setWidth 32 <<< 16 := by
  apply BitVec.eq_of_getLsbD_eq
  intro i hi
  unfold pairWord
  interval_cases i <;> simp [BitVec.getLsbD_setWidth, BitVec.getLsbD_shiftLeft]

/-- The high half kept drops the low half. -/
theorem pairWord_high (a b : BitVec 16) : pairWord a b &&& 4294901760#32 = b.setWidth 32 <<< 16 := by
  apply BitVec.eq_of_getLsbD_eq
  intro i hi
  unfold pairWord
  interval_cases i <;> simp [BitVec.getLsbD_setWidth, BitVec.getLsbD_shiftLeft]

/-- Sixteen binary places moved from the exponent into the fraction. -/
theorem scale_shift (σ f : ℝ) (t : ℤ) : σ * (2 ^ 16 * f) * (2 : ℝ) ^ (t - 23) = σ * f * (2 : ℝ) ^ (t - 7) := by
  have e : (2 : ℝ) ^ (t - 7) = 2 ^ 16 * (2 : ℝ) ^ (t - 23) := by
    rw [← zpow_natCast, ← zpow_add₀ (by norm_num)]
    congr 1
    push_cast
    ring
  rw [e]
  generalize (2 : ℝ) ^ (t - 23) = p
  ring

/-- A sixteen-bit pattern in the high half of a word denotes as an f32 what it denotes as a bf16. -/
theorem ofBits_high (b : BitVec 16) : Ideal.ofBits .f32 (b.setWidth 32 <<< 16) = Ideal.ofBits .bf16 b := by
  show Ideal.ieee 8 23 (b.setWidth 32 <<< 16) = Ideal.ieee 8 7 b
  have h1 : (b.setWidth 32 <<< 16).extractLsb' (8 + 23) 1 = b.extractLsb' (8 + 7) 1 := by
    apply BitVec.eq_of_getLsbD_eq
    intro i hi
    interval_cases i
    simp [BitVec.getLsbD_extractLsb', BitVec.getLsbD_shiftLeft]
  have h2 : (b.setWidth 32 <<< 16).extractLsb' 23 8 = b.extractLsb' 7 8 := by
    apply BitVec.eq_of_getLsbD_eq
    intro i hi
    interval_cases i <;> simp [BitVec.getLsbD_extractLsb', BitVec.getLsbD_shiftLeft]
  have h3 : ((b.setWidth 32 <<< 16).extractLsb' 0 23).toNat = 2 ^ 16 * (b.extractLsb' 0 7).toNat := by
    simp only [BitVec.extractLsb'_toNat, BitVec.toNat_shiftLeft, BitVec.toNat_setWidth, Nat.shiftLeft_eq, Nat.shiftRight_zero]
    have := b.isLt
    omega
  unfold Ideal.ieee
  simp only [h1, h2, h3]
  generalize (b.extractLsb' 0 7).toNat = f
  generalize (b.extractLsb' 7 8).toNat = ex
  have hz : (2 ^ 16 * f = 0) = (f = 0) := by simp
  simp only [hz]
  generalize (if (b.extractLsb' (8 + 7) 1 == 1#1) = true then (-1 : ℝ) else 1) = σ
  refine ite_congr rfl (fun _ => rfl) fun _ => ite_congr rfl (fun _ => ?_) fun _ => ?_
  · have h : ((2 ^ 16 * f : ℕ) : ℝ) = 2 ^ 16 * (f : ℝ) := by push_cast; ring
    rw [h]
    exact congrArg _ (scale_shift σ f _)
  · have h : ((2 ^ 23 + 2 ^ 16 * f : ℕ) : ℝ) = 2 ^ 16 * ((2 ^ 7 + f : ℕ) : ℝ) := by push_cast; ring
    rw [h]
    exact congrArg _ (scale_shift σ _ _)

end Cert.Words

end
-- ==== Proof.DecodeIdeal.lean ====
/-
  The decoder read at an index: a tile of code words and the half tables give, at every sublane and lane, the sum of the
  two codebooks' entries at the two codes.
-/
module

public import proofs.«01_k».proof.Proof.TripIdeal
public import proofs.«01_k».proof.Proof.Words
public import Idealize.ShloMosaic.Lib.Pointwise

@[expose] public section

set_option maxRecDepth 60000

noncomputable section

open scoped BigOperators

namespace Cert.KernelIdeal.Decode

open Cert.KernelIdeal Cert.KernelIdeal.Gen Cert.KernelIdeal.Tile Cert.Words
open Idealize.ShloMosaic Idealize.ShloMosaic.TcCoe

/-- Codebooks as sixteen-bit words: book, entry, column. -/
abbrev Books := Fin 2 → Fin 256 → Fin 8 → BitVec 16

/-- Column `j` of a decoded weight: the two books' entries at the two codes, each a bf16, added. -/
def decoded (cb : Books) (a b : BitVec 8) (j : Fin 8) : EReal :=
  Ideal.ofBits .bf16 (cb 0 a.toFin j) + Ideal.ofBits .bf16 (cb 1 b.toFin j)

/-- Half tables `T` hold the books `cb`: half `h` of book `m` and column pair `jj` has at position `p`, on every sublane,
    the pair of entry `128 * h + p`. -/
def Holds (T : Fin 2 → Fin 4 → Fin 2 → IVec S1x1x1x8x128 32) (cb : Books) : Prop :=
  ∀ (m : Fin 2) (jj : Fin 4) (h : Fin 2) (s : Fin 8) (p : Fin 128), T m jj h (ix5 0 0 0 s p)
    = pairWord (cb m ⟨128 * h.val + p.val, by omega⟩ ⟨2 * jj.val, by omega⟩)
        (cb m ⟨128 * h.val + p.val, by omega⟩ ⟨2 * jj.val + 1, by omega⟩)

/-- Below 32 the vector unit's shift right is the plain one. -/
theorem shrsi_vector (x y : BitVec 32) (h : y.toNat < 32) : IntOp.shrsi .vector x y = x.sshiftRight' y := by
  unfold IntOp.shrsi; exact if_pos h

/-- Below 32 the vector unit's shift left is the plain one. -/
theorem shli_vector (x y : BitVec 32) (h : y.toNat < 32) : IntOp.shli .vector x y = x <<< y := by
  unfold IntOp.shli; exact if_pos h

/-- The table entry that a code names. -/
theorem entry_apply (w : IVec S8x128 32) (sh : BitVec 32) (T : Fin 2 → IVec S1x1x1x8x128 32) (r : Fin 8) (l : Fin 128)
    (c : BitVec 8) (hsh : sh.toNat < 32) (hc : (w (ix2 r l)).sshiftRight' sh &&& 255#32 = c.setWidth 32) :
    entry w sh T (ix2 r l)
      = T (if 128 ≤ c.toNat then 1 else 0) (ix5 0 0 0 r ⟨c.toNat % 128, Nat.mod_lt _ (by decide)⟩) := by
  have hc' : IntOp.andi (IntOp.shrsi .vector (w (ix2 r l)) sh) 255#32 = c.setWidth 32 := by
    rw [shrsi_vector _ _ hsh]; exact hc
  unfold entry lookup pos code
  simp only [pointwise]
  simp only [hc']
  have h1 : IntOp.cmpi .slt (IntOp.andi (c.setWidth 32) 127#32) 0#32 = 0#1 :=
    congrArg BitVec.ofBool (code_pos_slt c)
  have h2 : IntOp.cmpi .sge (c.setWidth 32) 128#32 = BitVec.ofBool (decide (128 ≤ c.toNat)) :=
    congrArg BitVec.ofBool (code_sge c)
  have h3 : ∀ x y : BitVec 32, Scalar.select 0#1 x y = y := fun _ _ => rfl
  simp only [h1, h2, h3]
  have h4 : (IntOp.andi (c.setWidth 32) 127#32).toNat = c.toNat % 128 := code_pos c
  have h5 : ∀ x y : BitVec 32, Scalar.select (BitVec.ofBool (decide (128 ≤ c.toNat))) x y = if 128 ≤ c.toNat then x else y := by
    intro x y
    by_cases h : 128 ≤ c.toNat
    · rw [decide_eq_true h, if_pos h]; rfl
    · rw [decide_eq_false h, if_neg h]; rfl
  simp only [h4, h5]
  have h6 : c.toNat % 128 % 128 = c.toNat % 128 := Nat.mod_eq_of_lt (Nat.mod_lt _ (by decide))
  by_cases h : 128 ≤ c.toNat
  · rw [if_pos h, if_pos h]
    exact congrArg (fun z : Fin 128 => T 1 (ix5 0 0 0 r z)) (Fin.ext h6)
  · rw [if_neg h, if_neg h]
    exact congrArg (fun z : Fin 128 => T 0 (ix5 0 0 0 r z)) (Fin.ext h6)

/-- The pair of columns that a code names. -/
theorem entry_books (w : IVec S8x128 32) (sh : BitVec 32) (T : Fin 2 → Fin 4 → Fin 2 → IVec S1x1x1x8x128 32) (cb : Books)
    (hT : Holds T cb) (m : Fin 2) (jj : Fin 4) (r : Fin 8) (l : Fin 128)
    (c : BitVec 8) (hsh : sh.toNat < 32) (hc : (w (ix2 r l)).sshiftRight' sh &&& 255#32 = c.setWidth 32) :
    entry w sh (T m jj) (ix2 r l)
      = pairWord (cb m c.toFin ⟨2 * jj.val, by omega⟩) (cb m c.toFin ⟨2 * jj.val + 1, by omega⟩) := by
  rw [entry_apply w sh (T m jj) r l c hsh hc, hT]
  have e : ∀ h, (⟨128 * (if 128 ≤ c.toNat then (1 : Fin 2) else 0).val + c.toNat % 128, h⟩ : Fin 256) = c.toFin := by
    intro h
    apply Fin.ext
    show 128 * (if 128 ≤ c.toNat then (1 : Fin 2) else 0).val + c.toNat % 128 = c.toNat
    have := c.isLt
    split <;> simp <;> omega
  rw [e]

/-- The even column of a pair of sixteen-bit words. -/
theorem even_pair (e : IVec S8x128 32) (i : S8x128.Idx) (x y : BitVec 16) (h : e i = pairWord x y) :
    even (F := Ideal) e i = Ideal.ofBits .bf16 x := by
  show Ideal.ofBits .f32 (IntOp.shli .vector (e i) 16#32) = _
  rw [h, shli_vector _ _ (by decide), pairWord_low, ofBits_high]

/-- The odd column of a pair of sixteen-bit words. -/
theorem odd_pair (e : IVec S8x128 32) (i : S8x128.Idx) (x y : BitVec 16) (h : e i = pairWord x y) :
    odd (F := Ideal) e i = Ideal.ofBits .bf16 y := by
  show Ideal.ofBits .f32 (IntOp.andi (e i) 4294901760#32) = _
  rw [h]
  show Ideal.ofBits .f32 (pairWord x y &&& 4294901760#32) = _
  rw [pairWord_high, ofBits_high]

section Columns

variable (w : IVec S8x128 32) (T : Fin 2 → Fin 4 → Fin 2 → IVec S1x1x1x8x128 32) (cb : Books) (hT : Holds T cb)
  (r : Fin 8) (l : Fin 128) (a b : BitVec 8) (hw : w (ix2 r l) = codeWord a b)

include hT hw

/-- An even column of the decoded tile. -/
theorem decodeEven_apply (jj : Fin 4) :
    decodeEven (F := Ideal) w T jj (ix2 r l) = decoded cb a b ⟨2 * jj.val, by omega⟩ := by
  show even (F := Ideal) (entry w 0#32 (T 0 jj)) (ix2 r l) + even (F := Ideal) (entry w 8#32 (T 1 jj)) (ix2 r l) = _
  rw [even_pair _ _ _ _ (entry_books w 0#32 T cb hT 0 jj r l a (by decide) (by rw [hw, codeWord_low])),
    even_pair _ _ _ _ (entry_books w 8#32 T cb hT 1 jj r l b (by decide) (by rw [hw, codeWord_high]))]
  rfl

/-- An odd column of the decoded tile. -/
theorem decodeOdd_apply (jj : Fin 4) :
    decodeOdd (F := Ideal) w T jj (ix2 r l) = decoded cb a b ⟨2 * jj.val + 1, by omega⟩ := by
  show odd (F := Ideal) (entry w 0#32 (T 0 jj)) (ix2 r l) + odd (F := Ideal) (entry w 8#32 (T 1 jj)) (ix2 r l) = _
  rw [odd_pair _ _ _ _ (entry_books w 0#32 T cb hT 0 jj r l a (by decide) (by rw [hw, codeWord_low])),
    odd_pair _ _ _ _ (entry_books w 8#32 T cb hT 1 jj r l b (by decide) (by rw [hw, codeWord_high]))]
  rfl

/-- One sublane group adds, at a sublane and lane, the eight products of that group's row and the decoded row. -/
theorem accTile_apply (dw : FVec Ideal S256x512 .f32) (q lt : Fin 4) (acc : FVec Ideal S8x128 .f32) :
    accTile (F := Ideal) dw w T q lt acc (ix2 r l)
      = acc (ix2 r l) + ∑ j : Fin 8, dw (ix2 ⟨32 * j.val + 8 * q.val + r.val, by omega⟩ ⟨128 * lt.val + l.val, by omega⟩)
          * decoded cb a b j := by
  have hs : ∀ j : Fin 8, dwTile dw j q lt (ix2 r l)
      = dw (ix2 ⟨32 * j.val + 8 * q.val + r.val, by omega⟩ ⟨128 * lt.val + l.val, by omega⟩) := by
    intro j
    unfold dwTile
    refine extractStridedSlice_apply _ dw _ _ _ ?_
    intro a
    match a with
    | ⟨0, _⟩ => rfl
    | ⟨1, _⟩ => rfl
  have he := decodeEven_apply w T cb hT r l a b hw
  have ho := decodeOdd_apply w T cb hT r l a b hw
  rw [Fin.sum_univ_eight]
  simp only [← hs]
  unfold accTile
  simp only [addf, mulf, he, ho, FloatOps.addf, FloatOps.mulf]
  simp only [← add_assoc]
  rfl

end Columns

end Cert.KernelIdeal.Decode

end
-- ==== Proof.LoopValueIdeal.lean ====
/-
  The loop over row chunks read at an index: the accumulators after the trips, and the pieces stored, as sums and products
  of the elements of the five buffers that a trip reads.
-/
module

public import proofs.«01_k».proof.Proof.DecodeIdeal

@[expose] public section

set_option maxRecDepth 60000

noncomputable section

open scoped BigOperators

namespace Cert.KernelIdeal.LoopValue

open Cert.KernelIdeal Cert.KernelIdeal.Gen Cert.KernelIdeal.RowLoop Cert.KernelIdeal.Tile Cert.KernelIdeal.Decode Cert.Words
open Idealize.ShloMosaic Idealize.ShloMosaic.TcCoe

/-- Element (row, column) of the product of the left operand `A` and the right operand `D`. -/
def prod (A : FVec Ideal S4096x1152 .bf16) (D : FVec Ideal S1152x512 .bf16) (i : Fin 4096) (col : Fin 512) : EReal :=
  ∑ t : Fin 1152, A (ix2 i t) * D (ix2 t col)

/-- Row chunk `k`, column `j` of the groups, group `g` of the chunk, as a row of the left operand. -/
def rowOf (k : Fin 16) (j : Fin 8) (g : Fin 32) : Fin 4096 := ⟨256 * k.val + 32 * j.val + g.val, by omega⟩

/-- Group `g` of chunk `k` as a group of the whole row. -/
def groupOf (k : Fin 16) (g : Fin 32) : Fin 512 := ⟨32 * k.val + g.val, by omega⟩

/-- The group of sublane group `q` at sublane `r`. -/
def subOf (q : Fin 4) (r : Fin 8) : Fin 32 := ⟨8 * q.val + r.val, by omega⟩

/-- The column of lane `l` in column `lt` of tiles. -/
def colOf (lt : Fin 4) (l : Fin 128) : Fin 512 := ⟨128 * lt.val + l.val, by omega⟩

section Loads

variable (arg1 : Memref sig .tc .vmem S4096x1152 .bf16) (arg5 : Memref sig .tc .vmem S2x4x2x8x128 .i32)
  (arg6 : Memref sig .tc .vmem S1x512 .f32)
  (arg10 : Memref sig .tc .vmem S1152x512 .bf16) (arg11 : Memref sig .tc .vmem S512x512 .i32)
  (X1 : BufTy.Contents (Elt Ideal) arg1.view.ty) (X5 : BufTy.Contents (Elt Ideal) arg5.view.ty)
  (X6 : BufTy.Contents (Elt Ideal) arg6.view.ty)
  (X10 : BufTy.Contents (Elt Ideal) arg10.view.ty) (X11 : BufTy.Contents (Elt Ideal) arg11.view.ty)
  (A : FVec Ideal S4096x1152 .bf16) (hA : arg1.view.read (Elt Ideal) X1 = A)
  (B : Vec Ideal S2x4x2x8x128 .i32) (hB : arg5.view.read (Elt Ideal) X5 = B)
  (S : FVec Ideal S1x512 .f32) (hS : arg6.view.read (Elt Ideal) X6 = S)
  (D : FVec Ideal S1152x512 .bf16) (hD : arg10.view.read (Elt Ideal) X10 = D)
  (W : Vec Ideal S512x512 .i32) (hW : arg11.view.read (Elt Ideal) X11 = W)
  (k : Fin k0_t1_loop.trips)

/-- A trip as one of the sixteen. -/
def chunkOf (k : Fin k0_t1_loop.trips) : Fin 16 := ⟨k.val, trip_lt k⟩

/-- A plain load of a unit-stride rectangle, at an index. -/
theorem readAt_unit {s : Shape} {e : EltTy} (M : Memref sig .tc .vmem s e) (X : BufTy.Contents (Elt Ideal) M.view.ty)
    (V : Vec Ideal s e) (hV : M.view.read (Elt Ideal) X = V) (off off' sz : Fin s.rank → ℕ) (h) (x) (y : s.Idx)
    (hoff : off = off') (hy : ∀ a, (y a).val = off' a + (x a).val) :
    M.view.readAt (Elt Ideal) (Rect.unit (s := s) off sz h).toLoadRect X x = V y := by
  subst hoff
  rw [View.readAt_apply, hV]
  refine congrArg V (funext fun a => Fin.ext ?_)
  rw [hy a]
  simp [Rect.unit]

include hA hD in
/-- The product of a trip. -/
theorem dwOf_apply (rr : Fin 256) (col : Fin 512) :
    dwOf (F := Ideal) arg1 arg10 X1 X10 k (ix2 rr col) = prod A D ⟨256 * k.val + rr.val, by have := trip_lt k; omega⟩ col := by
  unfold dwOf k0_pay9 prod
  simp only [pointwise]
  rw [zero_add]
  refine Finset.sum_congr rfl fun t _ => ?_
  refine congrArg₂ (· * ·) ?_ ?_
  · refine readAt_unit arg1 X1 A hA _ _ _ _ _ _ (k0_off1_eq k) fun a => ?_
    match a with
    | ⟨0, _⟩ => rfl
    | ⟨1, _⟩ => exact (Nat.zero_add _).symm
  · refine readAt_unit arg10 X10 D hD _ _ _ _ _ _ rfl fun a => ?_
    match a with
    | ⟨0, _⟩ => exact (Nat.zero_add _).symm
    | ⟨1, _⟩ => exact (Nat.zero_add _).symm

include hB in
/-- The half tables of a trip hold what the table buffer holds. -/
theorem tabOf_holds (cb : Books)
    (hcb : ∀ (m : Fin 2) (jj : Fin 4) (h : Fin 2) (s : Fin 8) (p : Fin 128), B (ix5 m jj h s p)
      = pairWord (cb m ⟨128 * h.val + p.val, by omega⟩ ⟨2 * jj.val, by omega⟩)
          (cb m ⟨128 * h.val + p.val, by omega⟩ ⟨2 * jj.val + 1, by omega⟩)) :
    Holds (tabOf (F := Ideal) arg5 X5) cb := by
  intro m jj h s p
  refine (readAt_unit arg5 X5 B hB _ _ _ _ _ (ix5 m jj h s p) rfl fun a => ?_).trans (hcb m jj h s p)
  match a with
  | ⟨0, _⟩ => rfl
  | ⟨1, _⟩ => rfl
  | ⟨2, _⟩ => rfl
  | ⟨3, _⟩ => exact (Nat.zero_add _).symm
  | ⟨4, _⟩ => exact (Nat.zero_add _).symm

/-- The code words of a trip, by column of tiles. -/
def wordsOf (lt : Fin 4) : Fin 4 → IVec S8x128 32 :=
  match lt with
  | 0 => wordsOf0 (F := Ideal) arg11 X11 k
  | 1 => wordsOf1 (F := Ideal) arg11 X11 k
  | 2 => wordsOf2 (F := Ideal) arg11 X11 k
  | 3 => wordsOf3 (F := Ideal) arg11 X11 k

include hW in
/-- The code words of a trip. -/
theorem wordsOf_apply (lt q : Fin 4) (r : Fin 8) (l : Fin 128) :
    wordsOf arg11 X11 k lt q (ix2 r l) = W (ix2 (groupOf (chunkOf k) (subOf q r)) (colOf lt l)) := by
  match lt with
  | 0 =>
    refine readAt_unit arg11 X11 W hW _ _ _ _ _ _ (k0_off2_eq k q) fun a => ?_
    match a with
    | ⟨0, _⟩ => exact (Nat.add_assoc _ _ _).symm
    | ⟨1, _⟩ => rfl
  | 1 =>
    refine readAt_unit arg11 X11 W hW _ _ _ _ _ _ (k0_off35_eq k q) fun a => ?_
    match a with
    | ⟨0, _⟩ => exact (Nat.add_assoc _ _ _).symm
    | ⟨1, _⟩ => rfl
  | 2 =>
    refine readAt_unit arg11 X11 W hW _ _ _ _ _ _ (k0_off68_eq k q) fun a => ?_
    match a with
    | ⟨0, _⟩ => exact (Nat.add_assoc _ _ _).symm
    | ⟨1, _⟩ => rfl
  | 3 =>
    refine readAt_unit arg11 X11 W hW _ _ _ _ _ _ (k0_off101_eq k q) fun a => ?_
    match a with
    | ⟨0, _⟩ => exact (Nat.add_assoc _ _ _).symm
    | ⟨1, _⟩ => rfl

include hA hD hS in
/-- A stored tile. -/
theorem tilePiece_apply (j : Fin 8) (q lt : Fin 4) (r : Fin 8) (l : Fin 128) :
    (tilePiece (F := Ideal) arg1 arg6 arg10 X1 X6 X10 k j q lt).2 (ix4 0 0 r l)
      = prod A D (rowOf (chunkOf k) j (subOf q r)) (colOf lt l) * S (ix2 0 (colOf lt l)) := by
  unfold tilePiece scaleOf dwTile
  simp only [pointwise]
  refine congrArg₂ (· * ·) ?_ ?_
  · refine (dwOf_apply arg1 arg10 X1 X10 A hA D hD k _ _).trans ?_
    refine congrArg₂ (prod A D) (Fin.ext ?_) (Fin.ext ?_)
    · show _ = 256 * k.val + 32 * j.val + (8 * q.val + r.val)
      simp [Nat.add_assoc, Nat.add_comm]
    · simp [colOf]
  · refine readAt_unit arg6 X6 S hS _ _ _ _ _ _ rfl fun a => ?_
    match a with
    | ⟨0, _⟩ => rfl
    | ⟨1, _⟩ => rfl

/-- Column `lt` of the four accumulators. -/
def part (a : Acc Ideal) (lt : Fin 4) : FVec Ideal S8x128 .f32 :=
  match lt with
  | 0 => a.1
  | 1 => a.2.1
  | 2 => a.2.2.1
  | 3 => a.2.2.2

/-- What row chunk `k` adds to an accumulator at a sublane and lane: over the sublane groups `q` and the columns `j` of a
    group, the product's element times the decoded weight. -/
def chunkTerm (A : FVec Ideal S4096x1152 .bf16) (D : FVec Ideal S1152x512 .bf16) (cb : Books)
    (cA cB : Fin 512 → Fin 512 → BitVec 8) (lt : Fin 4) (r : Fin 8) (l : Fin 128) (k : Fin 16) : EReal :=
  ∑ q : Fin 4, ∑ j : Fin 8, prod A D (rowOf k j (subOf q r)) (colOf lt l)
    * decoded cb (cA (groupOf k (subOf q r)) (colOf lt l)) (cB (groupOf k (subOf q r)) (colOf lt l)) j

end Loads

section Trips

variable (𝒱 : Variants) (c : Dev nD) (bd : Option 𝒱.V) (i : grid0.Coords)
  (arg1 : Memref sig .tc .vmem S4096x1152 .bf16) (harg1 : arg1.IsWhole) (arg2 : Memref sig .tc .vmem S1152x512 .fp8e5m2)
  (harg2 : arg2.IsWhole) (arg3 : Memref sig .tc .vmem S1152x128 .bf16) (harg3 : arg3.IsWhole)
  (arg4 : Memref sig .tc .vmem S2x512x512 .i8) (harg4 : arg4.IsWhole) (arg5 : Memref sig .tc .vmem S2x4x2x8x128 .i32)
  (harg5 : arg5.IsWhole) (arg6 : Memref sig .tc .vmem S1x512 .f32) (harg6 : arg6.IsWhole)
  (arg7 : Memref sig .tc .vmem S16x8x32x512 .f32) (harg7 : arg7.IsWhole) (arg8 : Memref sig .tc .vmem S512x512 .i32)
  (harg8 : arg8.IsWhole) (arg9 : Memref sig .tc .vmem S1x512 .f32) (harg9 : arg9.IsWhole)
  (arg10 : Memref sig .tc .vmem S1152x512 .bf16) (harg10 : arg10.IsWhole) (arg11 : Memref sig .tc .vmem S512x512 .i32)
  (harg11 : arg11.IsWhole) (c0 : BitVec 32)
  (X1 : BufTy.Contents (Elt Ideal) arg1.view.ty) (X5 : BufTy.Contents (Elt Ideal) arg5.view.ty)
  (X6 : BufTy.Contents (Elt Ideal) arg6.view.ty) (X10 : BufTy.Contents (Elt Ideal) arg10.view.ty)
  (X11 : BufTy.Contents (Elt Ideal) arg11.view.ty)
  (A : FVec Ideal S4096x1152 .bf16) (hA : arg1.view.read (Elt Ideal) X1 = A)
  (B : Vec Ideal S2x4x2x8x128 .i32) (hB : arg5.view.read (Elt Ideal) X5 = B)
  (S : FVec Ideal S1x512 .f32) (hS : arg6.view.read (Elt Ideal) X6 = S)
  (D : FVec Ideal S1152x512 .bf16) (hD : arg10.view.read (Elt Ideal) X10 = D)
  (W : Vec Ideal S512x512 .i32) (hW : arg11.view.read (Elt Ideal) X11 = W)
  (cb : Books)
  (hcb : ∀ (m : Fin 2) (jj : Fin 4) (h : Fin 2) (s : Fin 8) (p : Fin 128), B (ix5 m jj h s p)
    = pairWord (cb m ⟨128 * h.val + p.val, by omega⟩ ⟨2 * jj.val, by omega⟩)
        (cb m ⟨128 * h.val + p.val, by omega⟩ ⟨2 * jj.val + 1, by omega⟩))
  (cA cB : Fin 512 → Fin 512 → BitVec 8) (hcw : ∀ g col, W (ix2 g col) = codeWord (cA g col) (cB g col))
  (init : Acc Ideal)

include hA hB hD hW hcb hcw in
/-- One trip adds its chunk's terms. -/
theorem trip_part (k : Fin k0_t1_loop.trips) (a : Acc Ideal) (lt : Fin 4) (r : Fin 8) (l : Fin 128) :
    part ((trip (F := Ideal) 𝒱 c bd i arg1 harg1 arg2 harg2 arg3 harg3 arg4 harg4 arg5 harg5 arg6 harg6 arg7 harg7 arg8 harg8
      arg9 harg9 arg10 harg10 arg11 harg11 c0 X1 X5 X6 X10 X11 k).1 a) lt (ix2 r l)
      = part a lt (ix2 r l) + chunkTerm A D cb cA cB lt r l (chunkOf k) := by
  have e : part ((trip (F := Ideal) 𝒱 c bd i arg1 harg1 arg2 harg2 arg3 harg3 arg4 harg4 arg5 harg5 arg6 harg6 arg7 harg7 arg8 harg8
      arg9 harg9 arg10 harg10 arg11 harg11 c0 X1 X5 X6 X10 X11 k).1 a) lt
      = accColumn (F := Ideal) (dwOf arg1 arg10 X1 X10 k) (wordsOf arg11 X11 k lt) (tabOf (F := Ideal) arg5 X5) lt (part a lt) := by
    rw [trip_result]
    match lt with
    | 0 => rfl
    | 1 => rfl
    | 2 => rfl
    | 3 => rfl
  have hT := tabOf_holds arg5 X5 B hB cb hcb
  have hw : ∀ q, wordsOf arg11 X11 k lt q (ix2 r l)
      = codeWord (cA (groupOf (chunkOf k) (subOf q r)) (colOf lt l)) (cB (groupOf (chunkOf k) (subOf q r)) (colOf lt l)) :=
    fun q => (wordsOf_apply arg11 X11 W hW k lt q r l).trans (hcw _ _)
  have hp : ∀ (q : Fin 4) (j : Fin 8) (h1) (h2), dwOf (F := Ideal) arg1 arg10 X1 X10 k
      (ix2 ⟨32 * j.val + 8 * q.val + r.val, h1⟩ ⟨128 * lt.val + l.val, h2⟩)
      = prod A D (rowOf (chunkOf k) j (subOf q r)) (colOf lt l) := by
    intro q j h1 h2
    refine (dwOf_apply arg1 arg10 X1 X10 A hA D hD k _ _).trans ?_
    refine congrArg₂ (prod A D) (Fin.ext ?_) rfl
    show 256 * k.val + (32 * j.val + 8 * q.val + r.val) = 256 * k.val + 32 * j.val + (8 * q.val + r.val)
    omega
  rw [e]
  unfold accColumn chunkTerm
  rw [accTile_apply _ _ cb hT r l _ _ (hw 3), accTile_apply _ _ cb hT r l _ _ (hw 2),
    accTile_apply _ _ cb hT r l _ _ (hw 1), accTile_apply _ _ cb hT r l _ _ (hw 0)]
  simp only [hp]
  rw [Fin.sum_univ_four]
  simp only [← add_assoc]

include hA hB hD hW hcb hcw in
/-- Before trip `n` an accumulator holds its start and the terms of the chunks before. -/
theorem state_part (n : ℕ) (hn : n ≤ 16) (lt : Fin 4) (r : Fin 8) (l : Fin 128) :
    part (state (F := Ideal) 𝒱 c bd i arg1 harg1 arg2 harg2 arg3 harg3 arg4 harg4 arg5 harg5 arg6 harg6 arg7 harg7 arg8 harg8
      arg9 harg9 arg10 harg10 arg11 harg11 c0 X1 X5 X6 X10 X11 init n).1 lt (ix2 r l)
      = part init lt (ix2 r l) + ∑ k : Fin n, chunkTerm A D cb cA cB lt r l ⟨k.val, by omega⟩ := by
  induction n with
  | zero => rw [Fin.sum_univ_zero, add_zero]; rfl
  | succ n ih =>
    have hk : n < k0_t1_loop.trips := Nat.lt_of_lt_of_le hn (by decide +kernel)
    have e := state_succ (F := Ideal) 𝒱 c bd i arg1 harg1 arg2 harg2 arg3 harg3 arg4 harg4 arg5 harg5 arg6 harg6 arg7 harg7
      arg8 harg8 arg9 harg9 arg10 harg10 arg11 harg11 c0 X1 X5 X6 X10 X11 init ⟨n, hk⟩
    refine (congrArg (fun s : Acc Ideal × List (View.Piece (Elt Ideal) S16x8x32x512 .f32) => part s.1 lt (ix2 r l)) e).trans ?_
    dsimp only
    rw [trip_part 𝒱 c bd i arg1 harg1 arg2 harg2 arg3 harg3 arg4 harg4 arg5 harg5 arg6 harg6 arg7 harg7
      arg8 harg8 arg9 harg9 arg10 harg10 arg11 harg11 c0 X1 X5 X6 X10 X11 A hA B hB D hD W hW cb hcb cA cB hcw,
      ih (by omega), Fin.sum_univ_castSucc, add_assoc]
    rfl

/-- What the stored block holds: the product's element times its row scale. -/
def stored (A : FVec Ideal S4096x1152 .bf16) (D : FVec Ideal S1152x512 .bf16) (S : FVec Ideal S1x512 .f32) :
    S16x8x32x512.Idx → EReal := fun y => prod A D (rowOf (y 0) (y 1) (y 2)) (y 3) * S (ix2 0 (y 3))

include hA hD hS in
/-- Every stored piece is its part of the stored block. -/
theorem state_pieces (n : ℕ) (hn : n ≤ 16) :
    ∀ p ∈ (state (F := Ideal) 𝒱 c bd i arg1 harg1 arg2 harg2 arg3 harg3 arg4 harg4 arg5 harg5 arg6 harg6 arg7 harg7 arg8 harg8
      arg9 harg9 arg10 harg10 arg11 harg11 c0 X1 X5 X6 X10 X11 init n).2, ∀ x : p.1.shape.Idx, p.2 x = stored A D S (p.1.emb x) := by
  induction n with
  | zero => intro p hp; exact absurd hp List.not_mem_nil
  | succ n ih =>
    have hk : n < k0_t1_loop.trips := Nat.lt_of_lt_of_le hn (by decide +kernel)
    have e := state_succ (F := Ideal) 𝒱 c bd i arg1 harg1 arg2 harg2 arg3 harg3 arg4 harg4 arg5 harg5 arg6 harg6 arg7 harg7
      arg8 harg8 arg9 harg9 arg10 harg10 arg11 harg11 c0 X1 X5 X6 X10 X11 init ⟨n, hk⟩
    intro p hp
    replace hp := (congrArg (fun s : Acc Ideal × List (View.Piece (Elt Ideal) S16x8x32x512 .f32) => p ∈ s.2) e).mp hp
    dsimp only at hp
    rw [trip_pieces] at hp
    rcases List.mem_append.1 hp with hp | hp
    · unfold tilePieces at hp
      obtain ⟨lt, -, hp⟩ := List.mem_flatMap.1 hp
      obtain ⟨q, -, hp⟩ := List.mem_flatMap.1 hp
      obtain ⟨j, -, rfl⟩ := List.mem_map.1 hp
      intro x
      have hx : x = ix4 (0 : Fin 1) (0 : Fin 1) (x 2) (x 3) := by
        funext a
        match a with
        | ⟨0, _⟩ => exact Subsingleton.elim (α := Fin 1) _ _
        | ⟨1, _⟩ => exact Subsingleton.elim (α := Fin 1) _ _
        | ⟨2, _⟩ => rfl
        | ⟨3, _⟩ => rfl
      rw [hx]
      refine (tilePiece_apply arg1 arg6 arg10 X1 X6 X10 A hA S hS D hD ⟨n, hk⟩ j q lt (x 2) (x 3)).trans ?_
      have ho := tileOff_eq ⟨n, hk⟩ j q lt
      have hc : ∀ a, ((tilePiece (F := Ideal) arg1 arg6 arg10 X1 X6 X10 ⟨n, hk⟩ j q lt).1.emb (ix4 (0 : Fin 1) (0 : Fin 1) (x 2) (x 3)) a).val
          = (![n, j.val, 8 * q.val, 128 * lt.val] : Fin 4 → ℕ) a + (ix4 (0 : Fin 1) (0 : Fin 1) (x 2) (x 3) a).val := by
        intro a
        rw [← ho]
        exact (Rect.emb_apply _ _ a).trans (congrArg (_ + ·) (Nat.one_mul _))
      unfold stored
      have h0 := hc 0
      have h1 := hc 1
      have h2 := hc 2
      have h3 := hc 3
      refine congrArg₂ (· * ·) (congrArg₂ (prod A D) (Fin.ext ?_) (Fin.ext ?_)) (congrArg S (funext fun a => ?_))
      · show 256 * n + 32 * j.val + (8 * q.val + (x 2).val) = 256 * _ + 32 * _ + _
        exact ((congrArg₂ (· + ·) (congrArg₂ (· + ·) (congrArg (256 * ·) h0) (congrArg (32 * ·) h1)) h2).trans rfl).symm
      · exact h3.symm
      · match a with
        | ⟨0, _⟩ => rfl
        | ⟨1, _⟩ => exact Fin.ext h3.symm
    · exact ih (by omega) p hp

end Trips

end Cert.KernelIdeal.LoopValue

end
-- ==== Proof.BlockIdeal.lean ====
/-
  What the body leaves in a block of the weighted gradient and of the row sums, from the blocks of its inputs.
-/
module

public import proofs.«01_k».proof.Proof.LoopValueIdeal
public import proofs.«01_k».proof.Proof.RunIdeal

@[expose] public section

set_option maxRecDepth 60000

noncomputable section

open scoped BigOperators

namespace Cert.KernelIdeal.Block

open Cert.KernelIdeal Cert.KernelIdeal.Gen Cert.KernelIdeal.RowLoop Cert.KernelIdeal.Decode Cert.KernelIdeal.LoopValue
open Cert.KernelIdeal.Run Cert.Words
open Idealize.ShloMosaic Idealize.ShloMosaic.TcCoe Idealize.ShloMosaic.Tactic

/-- The scaled gradient block: each element times its row's scale. -/
def scaled (x1 : FVec Ideal S1152x512 .fp8e5m2) (x2 : FVec Ideal S1152x128 .bf16) : FVec Ideal S1152x512 .bf16 :=
  fun y => (x1 y : EReal) * (x2 (ix2 (y 0) ⟨(y 1).val % 128, Nat.mod_lt _ (by decide)⟩) : EReal)

variable (c : Dev nD) (i : grid0.Coords)
  (arg1 : Memref sig .tc .vmem S4096x1152 .bf16) (harg1 : arg1.IsWhole)
  (arg2 : Memref sig .tc .vmem S1152x512 .fp8e5m2) (harg2 : arg2.IsWhole)
  (arg3 : Memref sig .tc .vmem S1152x128 .bf16) (harg3 : arg3.IsWhole)
  (arg4 : Memref sig .tc .vmem S2x512x512 .i8) (harg4 : arg4.IsWhole)
  (arg5 : Memref sig .tc .vmem S2x4x2x8x128 .i32) (harg5 : arg5.IsWhole)
  (arg6 : Memref sig .tc .vmem S1x512 .f32) (harg6 : arg6.IsWhole)
  (arg7 : Memref sig .tc .vmem S16x8x32x512 .f32) (harg7 : arg7.IsWhole)
  (arg8 : Memref sig .tc .vmem S512x512 .i32) (harg8 : arg8.IsWhole)
  (arg9 : Memref sig .tc .vmem S1x512 .f32) (harg9 : arg9.IsWhole)
  (arg10 : Memref sig .tc .vmem S1152x512 .bf16) (harg10 : arg10.IsWhole)
  (arg11 : Memref sig .tc .vmem S512x512 .i32) (harg11 : arg11.IsWhole)
  (x0 : Vec Ideal S4096x1152 .bf16) (x1 : Vec Ideal S1152x512 .fp8e5m2) (x2 : Vec Ideal S1152x128 .bf16)
  (x3 : Vec Ideal S2x512x512 .i8) (x4 : Vec Ideal S2x4x2x8x128 .i32) (x5 : Vec Ideal S1x512 .f32)

/-- The scaled gradient as the loop finds it. -/
theorem read_scaled : arg10.view.read (Elt Ideal) (arg10.view.writes (Elt Ideal) arg10.view.junk
    (kernelRun0_A.sl.HS0_4 (F := Ideal) c arg2 harg2 arg3 harg3 x1 x2)) = scaled x1 x2 := by
  funext y
  refine View.read_writes_apply_of_pieces _ _ _ _ ?_ y
    (View.cover_of_tiledL (kernelRun0_A.sl.HS0_4 (F := Ideal) c arg2 harg2 arg3 harg3 x1 x2) S1152x128.size (by sl_kernel_rfl) y)
  intro p hp
  unfold kernelRun0_A.sl.HS0_4 at hp
  have key : ∀ (lt : Fin 4) (off : Fin 2 → ℕ) (hoff : off = ![0, 128 * lt.val]) (h) (h') (x : S1152x128.Idx),
      ((arg2.view.readAt (Elt Ideal) (Rect.unit (s := S1152x512) off S1152x128.size h).toLoadRect (harg2.unread x1) x : EReal)
        * (arg3.view.readAt (Elt Ideal) (Rect.unit (s := S1152x128) ![0, 0] S1152x128.size h').toLoadRect (harg3.unread x2) x : EReal))
        = scaled x1 x2 ((Rect.unit (s := S1152x512) off S1152x128.size h).emb x) := by
    intro lt off hoff h h' x
    subst hoff
    unfold scaled
    refine congrArg₂ (· * ·) ?_ ?_
    · exact readAt_unit arg2 _ x1 (harg2.read_unread x1) _ _ _ _ _ _ rfl fun a =>
        (Rect.emb_apply _ _ a).trans (congrArg (_ + ·) (Nat.one_mul _))
    · refine readAt_unit arg3 _ x2 (harg3.read_unread x2) _ _ _ _ _ _ rfl fun a => ?_
      match a with
      | ⟨0, _⟩ =>
        show ((Rect.unit (s := S1152x512) ![0, 128 * lt.val] S1152x128.size h).emb x 0).val = 0 + (x 0).val
        exact (Rect.emb_apply _ _ 0).trans (congrArg (_ + ·) (Nat.one_mul _))
      | ⟨1, _⟩ =>
        show ((Rect.unit (s := S1152x512) ![0, 128 * lt.val] S1152x128.size h).emb x 1).val % 128 = 0 + (x 1).val
        have e : ((Rect.unit (s := S1152x512) ![0, 128 * lt.val] S1152x128.size h).emb x 1).val = 128 * lt.val + (x 1).val :=
          (Rect.emb_apply _ _ 1).trans (congrArg (_ + ·) (Nat.one_mul _))
        have hx : (x 1).val < 128 := (x 1).isLt
        rw [e]
        omega
  simp only [List.mem_cons, List.not_mem_nil, or_false] at hp
  rcases hp with rfl | rfl | rfl | rfl <;> intro x <;> dsimp only
  · unfold k0_pay959
    simp only [pointwise]
    exact key 3 _ rfl _ _ x
  · unfold k0_pay958
    simp only [pointwise]
    exact key 2 _ rfl _ _ x
  · unfold k0_pay957
    simp only [pointwise]
    exact key 1 _ rfl _ _ x
  · unfold k0_pay956 kernelRun0_A.sl.r k0_pay955
    simp only [pointwise]
    exact key 0 _ rfl _ _ x

/-- The code words as the loop finds them. -/
theorem read_words (g col : Fin 512) : arg11.view.read (Elt Ideal) (arg11.view.writes (Elt Ideal) arg11.view.junk
    (kernelRun0_A.sl.HS1_1 (F := Ideal) c arg4 harg4 x3)) (ix2 g col) = codeWord (x3 (ix3 0 col g)) (x3 (ix3 1 col g)) := by
  refine View.read_writes_apply_of_pieces _ _ (fun y : S512x512.Idx => codeWord (x3 (ix3 0 (y 1) (y 0))) (x3 (ix3 1 (y 1) (y 0))))
    _ ?_ (ix2 g col)
    (View.cover_of_tiledL (kernelRun0_A.sl.HS1_1 (F := Ideal) c arg4 harg4 x3) S512x512.size (by sl_kernel_rfl) _)
  intro p hp
  unfold kernelRun0_A.sl.HS1_1 at hp
  simp only [List.mem_cons, List.not_mem_nil, or_false] at hp
  subst hp
  intro x
  have e : (Rect.unit (s := S512x512) ![0, 0] S512x512.size inb_S512x512_S512x512_0_0).emb x = x := by
    funext a
    refine Fin.ext ((Rect.emb_apply _ _ a).trans ?_)
    match a with
    | ⟨0, _⟩ => exact (Nat.zero_add _).trans (Nat.one_mul _)
    | ⟨1, _⟩ => exact (Nat.zero_add _).trans (Nat.one_mul _)
  dsimp only
  rw [e]
  unfold k0_pay953
  simp only [pointwise]
  have h0 : ∀ (m : Fin 2) (off : Fin 3 → ℕ) (hoff : off = ![m.val, 0, 0]) (h),
      arg4.view.readAt (Elt Ideal) (Rect.unit (s := S2x512x512) off S1x512x512.size h).toLoadRect (harg4.unread x3)
        (ix3 (0 : Fin 1) (x 1) (x 0)) = x3 (ix3 m (x 1) (x 0)) := by
    intro m off hoff h
    refine readAt_unit arg4 _ x3 (harg4.read_unread x3) _ _ _ _ _ _ hoff fun a => ?_
    match a with
    | ⟨0, _⟩ => rfl
    | ⟨1, _⟩ => exact (Nat.zero_add _).symm
    | ⟨2, _⟩ => exact (Nat.zero_add _).symm
  have h1 := h0 0 _ rfl inb_S2x512x512_S1x512x512_0_0_0
  have h2 := h0 1 _ rfl inb_S2x512x512_S1x512x512_1_0_0
  refine (congrArg₂ (fun a b : BitVec 8 => IntOp.ori (a.setWidth 32) (IntOp.shli .vector (b.setWidth 32) 8#32)) h1 h2).trans ?_
  rw [shli_vector _ _ (by decide)]
  rfl

/-- The codebook entry at half `h` and lane `p` of the packed table. -/
def entryOf (h : Fin 2) (p : Fin 128) : Fin 256 := ⟨128 * h.val + p.val, by omega⟩
/-- The group columns packed into word `jj` of the table: the even one in the low half, -/
def evenOf (jj : Fin 4) : Fin 8 := ⟨2 * jj.val, by omega⟩
/-- and the odd one in the high half. -/
def oddOf (jj : Fin 4) : Fin 8 := ⟨2 * jj.val + 1, by omega⟩

section Value

variable (cb : Books)
  (hcb : ∀ (m : Fin 2) (jj : Fin 4) (h : Fin 2) (s : Fin 8) (p : Fin 128), x4 (ix5 m jj h s p)
    = pairWord (cb m (entryOf h p) (evenOf jj)) (cb m (entryOf h p) (oddOf jj)))

/-- The block of the weighted gradient: the product's element times its row scale. -/
theorem out6_apply (y : S16x8x32x512.Idx) :
    out0_A_6 (F := Ideal) c i arg1 harg1 arg2 harg2 arg3 harg3 arg4 harg4 arg5 harg5 arg6 harg6 arg7 harg7 arg8 harg8 arg9 harg9
      arg10 harg10 arg11 harg11 x0 x1 x2 x3 x4 x5 y = stored x0 (scaled x1 x2) x5 y := by
  unfold out0_A_6
  refine View.read_writes_apply_of_pieces _ _ _ _ ?_ y (cover0_A_6 c i arg1 harg1 arg2 harg2 arg3 harg3 arg4 harg4 arg5 harg5
    arg6 harg6 arg7 harg7 arg8 harg8 arg9 harg9 arg10 harg10 arg11 harg11 x0 x1 x2 x3 x4 x5 y)
  unfold kernelRun0_A
  dsimp only
  exact state_pieces Variants.none c none i arg1 harg1 arg2 harg2 arg3 harg3 arg4 harg4 arg5 harg5 arg6 harg6 arg7 harg7
    arg8 harg8 arg9 harg9 arg10 harg10 arg11 harg11 _ _ _ _ _ _ x0 (harg1.read_unread x0) x5 (harg6.read_unread x5)
    (scaled x1 x2) (read_scaled c arg2 harg2 arg3 harg3 arg10 x1 x2) _ 16 (Nat.le_refl _)

include hcb in
/-- The block of the row sums: over the sublanes and the row chunks, the chunk's terms. -/
theorem out8_apply (lt : Fin 4) (l : Fin 128) :
    out0_A_8 (F := Ideal) c i arg1 harg1 arg2 harg2 arg3 harg3 arg4 harg4 arg5 harg5 arg6 harg6 arg7 harg7 arg8 harg8 arg9 harg9
      arg10 harg10 arg11 harg11 x0 x1 x2 x3 x4 x5 (ix2 0 (colOf lt l))
      = ∑ r : Fin 8, ∑ k : Fin 16, chunkTerm x0 (scaled x1 x2) cb (fun g col => x3 (ix3 0 col g)) (fun g col => x3 (ix3 1 col g)) lt r l k := by
  have key := fun lt r l => state_part Variants.none c none i arg1 harg1 arg2 harg2 arg3 harg3 arg4 harg4 arg5 harg5 arg6 harg6 arg7 harg7
    arg8 harg8 arg9 harg9 arg10 harg10 arg11 harg11 (0#32) _ _ (harg6.unread x5) _ _ x0 (harg1.read_unread x0) x4 (harg5.read_unread x4)
    (scaled x1 x2) (read_scaled c arg2 harg2 arg3 harg3 arg10 x1 x2) _ rfl cb hcb _ _ (read_words c arg4 harg4 arg11 x3)
    (k0_pay960, k0_pay960, k0_pay960, k0_pay960) 16 (Nat.le_refl _) lt r l
  have fin : ∀ (lt : Fin 4) (off : Fin 2 → ℕ) (hoff : off = ![0, 128 * lt.val]) (h) (x : S1x128.Idx),
      ∑ r : Fin 8, part (state (F := Ideal) Variants.none c none i arg1 harg1 arg2 harg2 arg3 harg3 arg4 harg4 arg5 harg5 arg6 harg6
        arg7 harg7 arg8 harg8 arg9 harg9 arg10 harg10 arg11 harg11 (0#32) (harg1.unread x0) (harg5.unread x4) (harg6.unread x5)
        (arg10.view.writes (Elt Ideal) arg10.view.junk (kernelRun0_A.sl.HS0_4 (F := Ideal) c arg2 harg2 arg3 harg3 x1 x2))
        (arg11.view.writes (Elt Ideal) arg11.view.junk (kernelRun0_A.sl.HS1_1 (F := Ideal) c arg4 harg4 x3))
        (k0_pay960, k0_pay960, k0_pay960, k0_pay960) 16).1 lt (ix2 r (x 1))
      = (fun y : S1x512.Idx => ∑ r : Fin 8, ∑ k : Fin 16, chunkTerm x0 (scaled x1 x2) cb
      (fun g col => x3 (ix3 0 col g)) (fun g col => x3 (ix3 1 col g)) ⟨(y 1).val / 128, by have : (y 1).val < 512 := (y 1).isLt; omega⟩ r
      ⟨(y 1).val % 128, Nat.mod_lt _ (by decide)⟩ k) ((Rect.unit (s := S1x512) off S1x128.size h).emb x) := by
    intro lt off hoff h x
    subst hoff
    have e : ((Rect.unit (s := S1x512) ![0, 128 * lt.val] S1x128.size h).emb x 1).val = 128 * lt.val + (x 1).val :=
      (Rect.emb_apply _ _ 1).trans (congrArg (_ + ·) (Nat.one_mul _))
    have hx : (x 1).val < 128 := (x 1).isLt
    have h1 : ((Rect.unit (s := S1x512) ![0, 128 * lt.val] S1x128.size h).emb x 1).val / 128 = lt.val := by rw [e]; omega
    have h2 : ((Rect.unit (s := S1x512) ![0, 128 * lt.val] S1x128.size h).emb x 1).val % 128 = (x 1).val := by rw [e]; omega
    have hz : ∀ r l, part ((k0_pay960, k0_pay960, k0_pay960, k0_pay960) : Acc Ideal) lt (ix2 r l) = 0 := by
      intro r l
      have : ∀ j, (k0_pay960 (F := Ideal)) j = 0 := by
        intro j
        unfold k0_pay960
        simp only [pointwise]
      match lt with
      | 0 => exact this (ix2 r l)
      | 1 => exact this (ix2 r l)
      | 2 => exact this (ix2 r l)
      | 3 => exact this (ix2 r l)
    refine Finset.sum_congr rfl fun r _ => ?_
    refine (key lt r (x 1)).trans ?_
    refine ((congrArg (· + _) (hz r (x 1))).trans (zero_add _)).trans ?_
    refine Finset.sum_congr rfl fun k _ => ?_
    exact congrArg₂ (fun lt l => chunkTerm x0 (scaled x1 x2) cb (fun g col => x3 (ix3 0 col g)) (fun g col => x3 (ix3 1 col g)) lt r l k)
      (Fin.ext h1.symm) (Fin.ext h2.symm)
  unfold out0_A_8
  refine (View.read_writes_apply_of_pieces _ _ (fun y : S1x512.Idx => ∑ r : Fin 8, ∑ k : Fin 16, chunkTerm x0 (scaled x1 x2) cb
      (fun g col => x3 (ix3 0 col g)) (fun g col => x3 (ix3 1 col g)) ⟨(y 1).val / 128, by have : (y 1).val < 512 := (y 1).isLt; omega⟩ r
      ⟨(y 1).val % 128, Nat.mod_lt _ (by decide)⟩ k) _ ?_ _ (cover0_A_8 c i arg1 harg1 arg2 harg2 arg3 harg3 arg4 harg4 arg5 harg5
    arg6 harg6 arg7 harg7 arg8 harg8 arg9 harg9 arg10 harg10 arg11 harg11 x0 x1 x2 x3 x4 x5 _)).trans ?_
  · unfold kernelRun0_A
    dsimp only
    intro p hp
    simp only [List.mem_cons, List.not_mem_nil, or_false] at hp
    rcases hp with rfl | rfl | rfl | rfl <;> intro x <;> dsimp only
    · unfold k0_pay8
      simp only [pointwise]
      exact fin 3 _ rfl _ x
    · unfold k0_pay7
      simp only [pointwise]
      exact fin 2 _ rfl _ x
    · unfold k0_pay6
      simp only [pointwise]
      exact fin 1 _ rfl _ x
    · unfold k0_pay5
      simp only [pointwise]
      exact fin 0 _ rfl _ x
  · have h1 : (colOf lt l).val / 128 = lt.val := by show (128 * lt.val + l.val) / 128 = lt.val; omega
    have h2 : (colOf lt l).val % 128 = l.val := by show (128 * lt.val + l.val) % 128 = l.val; omega
    refine Finset.sum_congr rfl fun r _ => Finset.sum_congr rfl fun k _ => ?_
    exact congrArg₂ (fun lt l => chunkTerm x0 (scaled x1 x2) cb (fun g col => x3 (ix3 0 col g)) (fun g col => x3 (ix3 1 col g)) lt r l k)
      (Fin.ext h1) (Fin.ext h2)

end Value

end Cert.KernelIdeal.Block

end
-- ==== Proof.GridIdeal.lean ====
/-
  The kernel's two results, element by element, from its arguments: the operations before the call, the blocks the grid
  hands the body, and the blocks the body leaves.
-/
module

public import proofs.«01_k».proof.Proof.BlockIdeal
public import Idealize.ShloMosaic.Lib.StableHlo.RunRead
public import Idealize.ShloMosaic.Lib.Pipeline.ValueKit

@[expose] public section

set_option maxRecDepth 60000

noncomputable section

open scoped BigOperators

namespace Cert.KernelIdeal.Grid

open Cert.KernelIdeal Cert.KernelIdeal.Gen Cert.KernelIdeal.Decode Cert.KernelIdeal.LoopValue
open Cert.KernelIdeal.Run Cert.KernelIdeal.Block Cert.Words
open Idealize.ShloMosaic Idealize.ShloMosaic.TcCoe Idealize.ShloMosaic.Tactic

variable (m : (ℓ : Loc nD τ sig) → Buf (Elt Ideal) ℓ) (c : Dev nD)

/-! ## The operations before the call -/

/-- The input, its columns regrouped and its two axes exchanged. -/
theorem V_xt : V m c main_v3 = shapeCast S4096x1152 (transpose S16x8x32x1152 [1, 3, 2, 0]
    (shapeCast S1152x16x32x8 (m ((c.tc : Thread nD τ).loc main_arg0)) shapeCasts_S3x384x4096_S1152x16x32x8)
    transposes_S1152x16x32x8_S16x8x32x1152_1_3_2_0) shapeCasts_S16x8x32x1152_S4096x1152 := by
  show StableHlo.after hostOps0 (fun b => m (c, b)) (Proc.devRef .tc main_v3) = _
  after_reads_simp
  rfl

/-- The output gradient's codes, batch and sequence as one axis. -/
theorem V_dy : V m c main_v0 = shapeCast S1152x14336 (m ((c.tc : Thread nD τ).loc main_arg1)) shapeCasts_S3x384x14336_S1152x14336 := by
  show StableHlo.after hostOps0 (fun b => m (c, b)) (Proc.devRef .tc main_v0) = _
  after_reads_simp
  rfl

/-- The token scales, repeated over the lanes. -/
theorem V_sc : V m c main_v6 = (truncf (F := Ideal) (φ := .f32) .bf16 (broadcastInDim S1152x128 ![0, 1] bcast_S1152x1_S1152x128_0_1
    (shapeCast S1152x1 (m ((c.tc : Thread nD τ).loc main_arg2)) shapeCasts_S3x384_S1152x1)) bitsLt_bf16_f32 : FVec Ideal S1152x128 .bf16) := by
  show StableHlo.after hostOps0 (fun b => m (c, b)) (Proc.devRef .tc main_v6) = _
  after_reads_simp
  rfl

/-- The packed tables as the operations before the call write them. -/
def tabArr (bits : IVec S2x256x8 16) : IVec S2x4x2x8x128 32 :=
  broadcastInDim S2x4x2x8x128 ![0, 1, 2, 3, 4] bcast_S2x4x2x1x128_S2x4x2x8x128_0_1_2_3_4
    (shapeCast S2x4x2x1x128 (transpose S2x4x256 [0, 2, 1]
      (ori (Host.slice S2x256x4 ![0, 0, 0] ![1, 1, 2] (extui 32 bits natLt_16_32) slicesBy_S2x256x8_S2x256x4_0s1_0s1_0s2)
        (Host.shli (Host.slice S2x256x4 ![0, 0, 1] ![1, 1, 2] (extui 32 bits natLt_16_32) slicesBy_S2x256x8_S2x256x4_0s1_0s1_1s2)
          (broadcastInDim S2x256x4 ![] bcast_S_S2x256x4 (constantI S_ 32 16#32))))
      transposes_S2x256x4_S2x4x256_0_2_1) shapeCasts_S2x4x256_S2x4x2x1x128)

/-- The table operand is the packed table of the codebook words. -/
theorem V_tab : V m c main_v16 = tabArr (m ((c.tc : Thread nD τ).loc main_arg4)) := by
  show StableHlo.after hostOps0 (fun b => m (c, b)) (Proc.devRef .tc main_v16) = _
  after_reads_simp
  rfl

/-- The row scales, as one row. -/
theorem V_rs : V m c main_v17 = shapeCast S1x14336 (m ((c.tc : Thread nD τ).loc main_arg5)) shapeCasts_S14336_S1x14336 := by
  show StableHlo.after hostOps0 (fun b => m (c, b)) (Proc.devRef .tc main_v17) = _
  after_reads_simp
  rfl

/-- The codes are the argument. -/
theorem V_codes : V m c main_arg3 = m ((c.tc : Thread nD τ).loc main_arg3) := V_main_arg3 m c

/-- The regrouped input at a row (chunk, column of the group, group) and a token. -/
theorem xt_apply (k : Fin 16) (j : Fin 8) (g : Fin 32) (n : Fin 1152) :
    V m c main_v3 (ix2 (rowOf k j g) n) = (m ((c.tc : Thread nD τ).loc main_arg0)) (ix3 ⟨n.val / 384, by omega⟩ ⟨n.val % 384, by omega⟩ ⟨8 * (32 * k.val + g.val) + j.val, by omega⟩) := by
  rw [V_xt]
  simp only [pointwise]
  refine congrArg (m ((c.tc : Thread nD τ).loc main_arg0)) (congrArg (ix3 _ _) (Fin.ext ?_))
  show (256 * k.val + 32 * j.val + g.val) / 256 * 256 + (256 * k.val + 32 * j.val + g.val) % 32 * 8
    + (256 * k.val + 32 * j.val + g.val) / 32 % 8 = 8 * (32 * k.val + g.val) + j.val
  omega

/-- The codes at a token and an output row. -/
theorem dy_apply (n : Fin 1152) (o : Fin 14336) :
    V m c main_v0 (ix2 n o) = (m ((c.tc : Thread nD τ).loc main_arg1)) (ix3 ⟨n.val / 384, by omega⟩ ⟨n.val % 384, by omega⟩ o) := by
  rw [V_dy]
  simp only [pointwise]

/-- The repeated scale at a token, whatever the lane. -/
theorem sc_apply (n : Fin 1152) (l : Fin 128) :
    V m c main_v6 (ix2 n l) = (m ((c.tc : Thread nD τ).loc main_arg2)) (ix2 ⟨n.val / 384, by omega⟩ ⟨n.val % 384, by omega⟩) := by
  rw [V_sc]
  simp only [pointwise]
  rfl

/-- The row scale of an output row. -/
theorem rs_apply (o : Fin 14336) : V m c main_v17 (ix2 0 o) = (m ((c.tc : Thread nD τ).loc main_arg5)) (ix1 o) := by
  rw [V_rs]
  simp only [pointwise]

/-- A word of the packed table holds the entry's even column in its low half and the odd one in its high half. -/
theorem tab_apply (e : Fin 2) (jj : Fin 4) (h : Fin 2) (s : Fin 8) (p : Fin 128) :
    V m c main_v16 (ix5 e jj h s p)
      = pairWord ((m ((c.tc : Thread nD τ).loc main_arg4)) (ix3 e ⟨128 * h.val + p.val, by omega⟩ ⟨2 * jj.val, by omega⟩))
          ((m ((c.tc : Thread nD τ).loc main_arg4)) (ix3 e ⟨128 * h.val + p.val, by omega⟩ ⟨2 * jj.val + 1, by omega⟩)) := by
  rw [V_tab]
  unfold tabArr
  simp only [pointwise]
  unfold pairWord
  have hA : ∀ (d : ℕ) (hd : d < 2) (h0 h1 h2), (ix3 (⟨0 + 1 * e.val, h0⟩ : Fin 2) (⟨0 + 1 * (h.val * 128 + p.val), h1⟩ : Fin 256) (⟨d + 2 * jj.val, h2⟩ : Fin 8))
      = ix3 e ⟨128 * h.val + p.val, by omega⟩ ⟨2 * jj.val + d, by omega⟩ := fun d hd h0 h1 h2 => by
    rw [ix3_inj]
    refine ⟨Fin.ext ?_, Fin.ext ?_, Fin.ext ?_⟩
    · show 0 + 1 * e.val = e.val; omega
    · show 0 + 1 * (h.val * 128 + p.val) = 128 * h.val + p.val; omega
    · show d + 2 * jj.val = 2 * jj.val + d; omega
  exact congrArg₂ (fun a b : BitVec 16 => IntOp.ori (a.setWidth 32) (IntOp.shli .host (b.setWidth 32) 16#32))
    (congrArg (m ((c.tc : Thread nD τ).loc main_arg4)) (hA 0 (by decide) _ _ _))
    (congrArg (m ((c.tc : Thread nD τ).loc main_arg4)) (hA 1 (by decide) _ _ _))

/-! ## The blocks the body is given -/

/-- The block index of window 0 at each grid point. -/
theorem i0 : ∀ t : Fin cfg0.N, win0_0.index t = ![0, 0] := (by decide +kernel : ∀ t : Fin grid0.N, _)
/-- The block index of window 1 at each grid point. -/
theorem i1 : ∀ t : Fin cfg0.N, win0_1.index t = ![0, t.val] := (by decide +kernel : ∀ t : Fin grid0.N, _)
/-- The block index of window 2 at each grid point. -/
theorem i2 : ∀ t : Fin cfg0.N, win0_2.index t = ![0, 0] := (by decide +kernel : ∀ t : Fin grid0.N, _)
/-- The block index of window 3 at each grid point. -/
theorem i3 : ∀ t : Fin cfg0.N, win0_3.index t = ![0, t.val, 0] := (by decide +kernel : ∀ t : Fin grid0.N, _)
/-- The block index of window 4 at each grid point. -/
theorem i4 : ∀ t : Fin cfg0.N, win0_4.index t = ![0, 0, 0, 0, 0] := (by decide +kernel : ∀ t : Fin grid0.N, _)
/-- The block index of window 5 at each grid point. -/
theorem i5 : ∀ t : Fin cfg0.N, win0_5.index t = ![0, t.val] := (by decide +kernel : ∀ t : Fin grid0.N, _)
/-- The block index of window 6 at each grid point. -/
theorem i6 : ∀ t : Fin cfg0.N, win0_6.index t = ![0, 0, 0, t.val] := (by decide +kernel : ∀ t : Fin grid0.N, _)
/-- The block index of window 8 at each grid point. -/
theorem i8 : ∀ t : Fin cfg0.N, win0_8.index t = ![0, t.val] := (by decide +kernel : ∀ t : Fin grid0.N, _)

/-- The output row of a block's column. -/
def outRow (t : Fin cfg0.N) (col : Fin 512) : Fin 2048 := ⟨512 * t.val + col.val, by have := t.isLt; have : cfg0.N = 4 := rfl; omega⟩
/-- The same row among all of them. -/
def outRow' (t : Fin cfg0.N) (col : Fin 512) : Fin 14336 := ⟨512 * t.val + col.val, by have := t.isLt; have : cfg0.N = 4 := rfl; omega⟩

/-- The whole regrouped input. -/
theorem blk0 (t : Fin cfg0.N) (y : S4096x1152.Idx) : iblk m c 0 t y = V m c main_v3 y := by
  blk_simp [iblk]
  refine congrArg (V m c main_v3) ?_
  blk_ext [i0]

/-- A block of columns of the codes. -/
theorem blk1 (t : Fin cfg0.N) (n : Fin 1152) (col : Fin 512) : iblk m c 1 t (ix2 n col) = V m c main_v0 (ix2 n (outRow' t col)) := by
  blk_simp [iblk]
  refine congrArg (V m c main_v0) ?_
  blk_ext [i1, outRow']

/-- The whole of the scales. -/
theorem blk2 (t : Fin cfg0.N) (y : S1152x128.Idx) : iblk m c 2 t y = V m c main_v6 y := by
  blk_simp [iblk]
  refine congrArg (V m c main_v6) ?_
  blk_ext [i2]

/-- A block of rows of the codes. -/
theorem blk3 (t : Fin cfg0.N) (e : Fin 2) (col : Fin 512) (g : Fin 512) :
    iblk m c 3 t (ix3 e col g) = V m c main_arg3 (ix3 e (outRow' t col) g) := by
  blk_simp [iblk]
  refine congrArg (V m c main_arg3) ?_
  blk_ext [i3, outRow']

/-- The whole table. -/
theorem blk4 (t : Fin cfg0.N) (y : S2x4x2x8x128.Idx) : iblk m c 4 t y = V m c main_v16 y := by
  blk_simp [iblk]
  refine congrArg (V m c main_v16) ?_
  blk_ext [i4]

/-- A block of the row scales. -/
theorem blk5 (t : Fin cfg0.N) (col : Fin 512) : iblk m c 5 t (ix2 0 col) = V m c main_v17 (ix2 0 (outRow' t col)) := by
  blk_simp [iblk]
  refine congrArg (V m c main_v17) ?_
  blk_ext [i5, outRow']

/-! ## The arrays the call leaves -/

/-- The weight gradient at an output row and an input column, summed over the tokens. -/
def dW (x : FVec Ideal S3x384x4096 .bf16) (dy : FVec Ideal S3x384x14336 .fp8e5m2) (sc : FVec Ideal S3x384 .f32)
    (o : Fin 14336) (i : Fin 4096) : EReal :=
  ∑ n : Fin 1152, (x (ix3 ⟨n.val / 384, by omega⟩ ⟨n.val % 384, by omega⟩ i) : EReal)
    * ((dy (ix3 ⟨n.val / 384, by omega⟩ ⟨n.val % 384, by omega⟩ o) : EReal)
      * (sc (ix2 ⟨n.val / 384, by omega⟩ ⟨n.val % 384, by omega⟩) : EReal))

/-- The weight gradient of the arguments the memory holds. -/
abbrev dWm (o : Fin 14336) (i : Fin 4096) : EReal :=
  dW (m ((c.tc : Thread nD τ).loc main_arg0)) (m ((c.tc : Thread nD τ).loc main_arg1)) (m ((c.tc : Thread nD τ).loc main_arg2)) o i

/-- The product of the blocks is the weight gradient at the block's output row. -/
theorem prod_blk (t : Fin cfg0.N) (k : Fin 16) (j : Fin 8) (g : Fin 32) (col : Fin 512) :
    prod (iblk m c 0 t) (scaled (iblk m c 1 t) (iblk m c 2 t)) (rowOf k j g) col
      = dWm m c (outRow' t col) ⟨8 * (32 * k.val + g.val) + j.val, by omega⟩ := by
  unfold prod dWm dW scaled
  refine Finset.sum_congr rfl fun n _ => ?_
  exact congrArg₂ (fun a b : EReal => a * b) ((blk0 m c t _).trans (xt_apply m c k j g n))
    (congrArg₂ (fun a b : EReal => a * b) ((blk1 m c t n col).trans (dy_apply m c n _)) ((blk2 m c t _).trans (sc_apply m c n _)))

/-- The weighted gradient at a regrouped input column and an output row: row scale times weight gradient. -/
def weightedAt (k : Fin 16) (j : Fin 8) (g : Fin 32) (o : Fin 2048) : EReal :=
  dWm m c ⟨o.val, by omega⟩ ⟨8 * (32 * k.val + g.val) + j.val, by omega⟩
    * ((m ((c.tc : Thread nD τ).loc main_arg5) : FVec Ideal S14336 .f32) (ix1 ⟨o.val, by omega⟩) : EReal)

/-- The array of the weighted gradient the call leaves. -/
theorem array6 : (dats m 0 c).arrAt 6 cfg0.N = fun y : S16x8x32x2048.Idx => weightedAt m c (y 0) (y 1) (y 2) (y 3) := by
  refine (dats m 0 c).arrAt_eq_of_covers 6 _ (by decide +kernel) fun t hf y => ?_
  blk_simp
  rw [after0_6]
  unfold outsAt0
  refine (out6_apply _ _ _ _ _ _ _ _ _ _ _ _ _ _ _ _ _ _ _ _ _ _ _ _ _ _ _ _ _ _ _).trans ?_
  have hy : (win0_6.blk t).view.emb y = ix4 (y 0) (y 1) (y 2) (outRow t (y 3)) := by
    blk_ext [i6, outRow]
  rw [hy]
  unfold stored
  exact congrArg₂ (fun a b : EReal => a * b) (prod_blk m c t (y 0) (y 1) (y 2) (y 3)) ((blk5 m c t (y 3)).trans (rs_apply m c _))

/-- The codebook entries as 16-bit words. -/
def books : Books := fun e n j => (m ((c.tc : Thread nD τ).loc main_arg4) : IVec S2x256x8 16) (ix3 e n j)

/-- The decoded weight of an output row, group and column of the group. -/
def decodedAt (o : Fin 14336) (g : Fin 512) (j : Fin 8) : EReal :=
  decoded (books m c) ((m ((c.tc : Thread nD τ).loc main_arg3) : IVec S2x14336x512 8) (ix3 0 o g))
    ((m ((c.tc : Thread nD τ).loc main_arg3) : IVec S2x14336x512 8) (ix3 1 o g)) j

/-- The scale gradient of an output row, in the order the kernel adds. -/
def dsAt (o : Fin 2048) : EReal :=
  ∑ r : Fin 8, ∑ k : Fin 16, ∑ q : Fin 4, ∑ j : Fin 8,
    dWm m c ⟨o.val, by omega⟩ ⟨8 * (32 * k.val + (subOf q r).val) + j.val, by omega⟩ * decodedAt m c ⟨o.val, by omega⟩ (groupOf k (subOf q r)) j

/-- The array of the scale gradient the call leaves. -/
theorem array8 : (dats m 0 c).arrAt 8 cfg0.N = fun y : S1x2048.Idx => dsAt m c (y 1) := by
  refine (dats m 0 c).arrAt_eq_of_covers 8 _ (by decide +kernel) fun t hf y => ?_
  blk_simp
  rw [after0_8]
  unfold outsAt0
  have hy : (win0_8.blk t).view.emb y = ix2 0 (outRow t (y 1)) := by
    blk_ext [i8, outRow]
  rw [hy]
  have hl : (y 1).val < 512 := (y 1).isLt
  have hc : y = ix2 0 (colOf ⟨(y 1).val / 128, by omega⟩ ⟨(y 1).val % 128, by omega⟩) := by
    refine funext fun a => ?_
    match a with
    | ⟨0, _⟩ => exact Subsingleton.elim (α := Fin 1) _ _
    | ⟨1, _⟩ => exact Fin.ext (Nat.div_add_mod (y 1).val 128).symm
  generalize (⟨(y 1).val / 128, _⟩ : Fin 4) = lt at hc
  generalize (⟨(y 1).val % 128, _⟩ : Fin 128) = l at hc
  subst hc
  refine (out8_apply _ _ _ _ _ _ _ _ _ _ _ _ _ _ _ _ _ _ _ _ _ _ _ _ _ _ _ _ _ _ (books m c) ?_ lt l).trans ?_
  · intro e jj h s p
    exact (blk4 m c t _).trans (tab_apply m c e jj h s p)
  unfold chunkTerm dsAt
  refine Finset.sum_congr rfl fun r _ => Finset.sum_congr rfl fun k _ => Finset.sum_congr rfl fun q _ => Finset.sum_congr rfl fun j _ => ?_
  refine congrArg₂ (fun a b : EReal => a * b) (prod_blk m c t k j (subOf q r) (colOf lt l)) ?_
  have e3 := fun e => blk3 m c t e (colOf lt l) (groupOf k (subOf q r))
  rw [V_codes] at e3
  exact congrArg₂ (fun a b => decoded (books m c) a b j) (e3 0) (e3 1)

end Cert.KernelIdeal.Grid

end
-- ==== Proof.ReferenceValue.lean ====
/-
  The reference's two results, element by element, from its arguments.
-/
module

public import proofs.«01_k».proof.Proof.Gen.ReferenceIdeal.Frame
public import Idealize.ShloMosaic.Lib.Pointwise
public import Idealize.ShloMosaic.Lib.TwoAxisContraction
public import Idealize.ShloMosaic.Lib.StableHlo.RunRead
public import Idealize.ShloMosaic.Lib.Pipeline.ValueKit

@[expose] public section

set_option maxRecDepth 60000

noncomputable section

open scoped BigOperators

namespace Cert.ReferenceIdeal.Val

open Cert.ReferenceIdeal Cert.ReferenceIdeal.Gen
open Idealize.ShloMosaic Idealize.ShloMosaic.TcCoe Idealize.ShloMosaic.Tactic

/-- The weight gradient as the reference writes it: the scaled output gradient against the input, summed over the tokens. -/
def dWArr (x : FVec Ideal S3x384x4096 .bf16) (dy : FVec Ideal S3x384x14336 .bf16) (sc : FVec Ideal S3x384 .f32) :
    FVec Ideal S14336x4096 .f32 :=
  Host.dotGeneral dot_S3x384x14336_S3x384x4096_S14336x4096_01_01_2_2_n_n none
    (mulf dy (broadcastInDim S3x384x14336 ![0, 1, 2] bcast_S3x384x1_S3x384x14336_0_1_2
      (truncf .bf16 (broadcastInDim S3x384x1 ![0, 1] bcast_S3x384_S3x384x1_0_1 sc) bitsLt_bf16_f32))) x

/-- The weight gradient at an output row `o` and an input column `i`. -/
def dW (x : FVec Ideal S3x384x4096 .bf16) (dy : FVec Ideal S3x384x14336 .bf16) (sc : FVec Ideal S3x384 .f32)
    (o : Fin 14336) (i : Fin 4096) : EReal :=
  ∑ b : Fin 3, ∑ s : Fin 384, ((dy (ix3 b s o) : EReal) * (sc (ix2 b s) : EReal)) * (x (ix3 b s i) : EReal)

/-- That array at an index. -/
theorem dWArr_apply (x : FVec Ideal S3x384x4096 .bf16) (dy : FVec Ideal S3x384x14336 .bf16) (sc : FVec Ideal S3x384 .f32)
    (o : Fin 14336) (i : Fin 4096) : dWArr x dy sc (ix2 o i) = dW x dy sc o i := by
  unfold dWArr dW
  simp only [pointwise]
  rw [zero_add]
  refine Finset.sum_congr rfl fun b _ => Finset.sum_congr rfl fun s _ => ?_
  rfl

/-- The gather of whole rows of a table, read at a row index and a column. -/
theorem gather_rows (tab : FVec Ideal S256x8 .bf16) (idx : IVec S7340032x1 32) (n : Fin 7340032) (j : Fin 8) :
    Host.gather gather_S256x8_S7340032x1_S7340032x8_1_0_n_n_0_1_18 tab idx (ix2 n j)
      = tab (ix2 ⟨min (idx (ix2 n 0)).toInt.toNat 255, by omega⟩ j) := by
  unfold Host.gather
  refine congrArg tab (funext fun a => Fin.ext ?_)
  show (gather_S256x8_S7340032x1_S7340032x8_1_0_n_n_0_1_18).start (ix2 n j) idx a
    + (gather_S256x8_S7340032x1_S7340032x8_1_0_n_n_0_1_18).batchCoord (ix2 n j) a
    + (gather_S256x8_S7340032x1_S7340032x8_1_0_n_n_0_1_18).offCoord (ix2 n j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S256x8_S7340032x1_S7340032x8_1_0_n_n_0_1_18).startIndexMap from List.mem_singleton.mpr rfl)]
    have hsi : (gather_S256x8_S7340032x1_S7340032x8_1_0_n_n_0_1_18).siIdx (ix2 n j)
        ⟨List.idxOf (0 : Fin 2) (gather_S256x8_S7340032x1_S7340032x8_1_0_n_n_0_1_18).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  · unfold GatherDims.start
    rw [dif_neg (by decide)]
    simp only [Nat.zero_add, Nat.add_zero]
    unfold GatherDims.offCoord
    rw [dif_pos (by decide)]
    rfl

/-- A byte widened to a word is not negative and reads as itself. -/
theorem byte_word (a : BitVec 8) : ((a.setWidth 32).slt 0#32 = false) ∧ min (a.setWidth 32).toInt.toNat 255 = a.toNat := by
  have ha := a.isLt
  have ht : (a.setWidth 32).toNat = a.toNat := by rw [BitVec.toNat_setWidth]; omega
  have hi : (a.setWidth 32).toInt = a.toNat := by
    rw [BitVec.toInt_eq_toNat_of_lt (by omega), ht]
  refine ⟨?_, ?_⟩
  · rw [BitVec.slt_eq_decide, hi]; simp
  · rw [hi]; omega

/-- One book's decoded groups as the reference writes them, from its table and its row of codes. -/
def takeArr (tab : FVec Ideal S256x8 .bf16) (ids : IVec S7340032 32) : FVec Ideal S7340032x8 .f32 :=
  extf .f32 (Host.gather gather_S256x8_S7340032x1_S7340032x8_1_0_n_n_0_1_18 tab
    (broadcastInDim S7340032x1 ![0] bcast_S7340032_S7340032x1_0
      (select (cmpi .slt ids (broadcastInDim S7340032 ![] bcast_S_S7340032 (constantI S_ 32 0#32)))
        (addi ids (broadcastInDim S7340032 ![] bcast_S_S7340032 (constantI S_ 32 256#32))) ids))) bitsLt_bf16_f32

/-- Both books' rows added, as the reference writes them. -/
def decArr (codes : IVec S2x14336x512 8) (bits : IVec S2x256x8 16) : FVec Ideal S7340032x8 .f32 :=
  addf
    (takeArr (shapeCast S256x8 (extractStridedSlice S1x256x8 ![0, 0, 0] (bitcastToFloat (F := Ideal) .bf16 bits) slices_S2x256x8_S1x256x8_0_0_0) shapeCasts_S1x256x8_S256x8)
      (shapeCast S7340032 (extractStridedSlice S1x7340032 ![0, 0] (extui 32 (shapeCast S2x7340032 codes shapeCasts_S2x14336x512_S2x7340032) natLt_8_32) slices_S2x7340032_S1x7340032_0_0) shapeCasts_S1x7340032_S7340032))
    (takeArr (shapeCast S256x8 (extractStridedSlice S1x256x8 ![1, 0, 0] (bitcastToFloat (F := Ideal) .bf16 bits) slices_S2x256x8_S1x256x8_1_0_0) shapeCasts_S1x256x8_S256x8)
      (shapeCast S7340032 (extractStridedSlice S1x7340032 ![1, 0] (extui 32 (shapeCast S2x7340032 codes shapeCasts_S2x14336x512_S2x7340032) natLt_8_32) slices_S2x7340032_S1x7340032_1_0) shapeCasts_S1x7340032_S7340032))

/-- The row-scaled gradient of the first 2048 rows in the layout the kernel stores, as the reference writes it. -/
def weightedArr (dw : FVec Ideal S14336x4096 .f32) (rs : FVec Ideal S14336 .f32) : FVec Ideal S16x8x32x2048 .f32 :=
  transpose S16x8x32x2048 [1, 3, 2, 0] (shapeCast S2048x16x32x8 (extractStridedSlice S2048x4096 ![0, 0]
    (mulf (broadcastInDim S14336x4096 ![0, 1] bcast_S14336x1_S14336x4096_0_1 (broadcastInDim S14336x1 ![0] bcast_S14336_S14336x1_0 rs)) dw)
    slices_S14336x4096_S2048x4096_0_0) shapeCasts_S2048x4096_S2048x16x32x8) transposes_S2048x16x32x8_S16x8x32x2048_1_3_2_0

/-- The scale gradient of the first 2048 rows, as the reference writes it. -/
def dsArr (dw : FVec Ideal S14336x4096 .f32) (dec : FVec Ideal S7340032x8 .f32) : FVec Ideal S1x2048 .f32 :=
  shapeCast S1x2048 (extractStridedSlice S2048 ![0]
    (Host.dotGeneral dot_S14336x512x8_S14336x512x8_S14336_12_12_n_n_0_0 (some .fp32)
      (shapeCast S14336x512x8 dw shapeCasts_S14336x4096_S14336x512x8) (shapeCast S14336x512x8 dec shapeCasts_S7340032x8_S14336x512x8))
    slices_S14336_S2048_0) shapeCasts_S2048_S1x2048

/-- That array at an index: the row scale times the gradient. -/
theorem weightedArr_apply (dw : FVec Ideal S14336x4096 .f32) (rs : FVec Ideal S14336 .f32) (k : Fin 16) (j : Fin 8) (g : Fin 32) (o : Fin 2048) :
    weightedArr dw rs (ix4 k j g o) = (rs (ix1 ⟨o.val, by omega⟩) : EReal) * (dw (ix2 ⟨o.val, by omega⟩ ⟨8 * (32 * k.val + g.val) + j.val, by omega⟩) : EReal) := by
  unfold weightedArr
  simp only [pointwise]
  refine congrArg₂ (fun a b : EReal => a * b) (congrArg rs (congrArg ix1 (Fin.ext ?_)))
    (congrArg dw (congrArg₂ ix2 (Fin.ext ?_) (Fin.ext ?_)))
  · show 0 + o.val = o.val; omega
  · show 0 + o.val = o.val; omega
  · show 0 + (k.val * 256 + g.val * 8 + j.val) = 8 * (32 * k.val + g.val) + j.val; omega

/-- That array at an index: the sum over groups and columns of gradient times decoded weight. -/
theorem dsArr_apply (dw : FVec Ideal S14336x4096 .f32) (dec : FVec Ideal S7340032x8 .f32) (o : Fin 2048) :
    dsArr dw dec (ix2 0 o) = ∑ g : Fin 512, ∑ j : Fin 8, (dw (ix2 ⟨o.val, by omega⟩ ⟨8 * g.val + j.val, by omega⟩) : EReal) * (dec (ix2 ⟨512 * o.val + g.val, by omega⟩ j) : EReal) := by
  unfold dsArr
  simp only [pointwise]
  rw [zero_add]
  refine Finset.sum_congr rfl fun g _ => Finset.sum_congr rfl fun j _ => ?_
  refine congrArg₂ (fun a b : EReal => a * b) (congrArg dw (congrArg₂ ix2 (Fin.ext ?_) (Fin.ext ?_)))
    (congrArg dec (congrArg₂ ix2 (Fin.ext ?_) rfl))
  · show 0 + o.val = o.val; omega
  · show g.val * 8 + j.val = 8 * g.val + j.val; omega
  · show (0 + o.val) * 512 + g.val = 512 * o.val + g.val; omega

/-- The decoded row of a code: the table's row at the code. -/
theorem takeArr_apply (tab : FVec Ideal S256x8 .bf16) (ids : IVec S7340032 32) (n : Fin 7340032) (j : Fin 8) (a : BitVec 8)
    (h : ids (ix1 n) = a.setWidth 32) : takeArr tab ids (ix2 n j) = tab (ix2 a.toFin j) := by
  unfold takeArr
  refine (gather_rows _ _ _ _).trans ?_
  refine congrArg tab (congrArg₂ ix2 (Fin.ext ?_) rfl)
  simp only [pointwise]
  show min (Scalar.select (IntOp.cmpi CmpIPredicate.slt (ids (ix1 n)) 0#32) (IntOp.addi (ids (ix1 n)) 256#32)
    (ids (ix1 n))).toInt.toNat 255 = a.toNat
  rw [h]
  have hs : Scalar.select (IntOp.cmpi CmpIPredicate.slt (a.setWidth 32) 0#32) (IntOp.addi (a.setWidth 32) 256#32)
      (a.setWidth 32) = a.setWidth 32 := by
    have := (byte_word a).1
    simp only [Scalar.select, IntOp.cmpi, this]
    rfl
  rw [hs]
  exact (byte_word a).2

/-- The decoded weight: the sum of the two books' entries at the two codes. -/
theorem decArr_apply (codes : IVec S2x14336x512 8) (bits : IVec S2x256x8 16) (o : Fin 14336) (g : Fin 512) (j : Fin 8)
    (h : 512 * o.val + g.val < 7340032) :
    decArr codes bits (ix2 ⟨512 * o.val + g.val, h⟩ j)
      = (Ideal.ofBits .bf16 (bits (ix3 0 (codes (ix3 0 o g)).toFin j)) : EReal) + Ideal.ofBits .bf16 (bits (ix3 1 (codes (ix3 1 o g)).toFin j)) := by
  unfold decArr
  simp only [addf_apply]
  rw [takeArr_apply _ _ _ _ (codes (ix3 0 o g)) ?_, takeArr_apply _ _ _ _ (codes (ix3 1 o g)) ?_]
  · simp only [pointwise]
    refine congrArg₂ (fun a b : EReal => a + b)
      (congrArg (Ideal.ofBits .bf16) (congrArg bits (congrArg₂ (ix3 0) (Fin.ext ?_) (Fin.ext ?_))))
      (congrArg (Ideal.ofBits .bf16) (congrArg bits (congrArg₂ (ix3 1) (Fin.ext ?_) (Fin.ext ?_))))
    all_goals exact Nat.zero_add _
  all_goals
    simp only [pointwise]
    refine congrArg (BitVec.setWidth 32) (congrArg codes (congrArg₂ (ix3 _) (Fin.ext ?_) (Fin.ext ?_)))
  · show (0 + (512 * o.val + g.val)) / 512 = o.val; omega
  · show (0 + (512 * o.val + g.val)) % 512 = g.val; omega
  · show (0 + (512 * o.val + g.val)) / 512 = o.val; omega
  · show (0 + (512 * o.val + g.val)) % 512 = g.val; omega

section
variable (m : (ℓ : Loc nD τ sig) → Buf (Elt Ideal) ℓ) (c : Dev nD)

/-- What the operations leave in the first result. -/
theorem tail_42 (V : Valuation τ sig (Elt Ideal)) :
    StableHlo.after ([hostOps1 (F := Ideal)].flatten) V (Proc.devRef .tc main_v42)
      = weightedArr (dWArr (V (Proc.devRef .tc main_arg0)) (V (Proc.devRef .tc main_v0)) (V (Proc.devRef .tc main_arg2))) (V (Proc.devRef .tc main_arg5)) := by
  simp only [List.flatten_cons, List.flatten_nil, List.append_nil]
  after_reads_simp
  rfl

/-- What the operations leave in the second result. -/
theorem tail_44 (V : Valuation τ sig (Elt Ideal)) :
    StableHlo.after ([hostOps1 (F := Ideal)].flatten) V (Proc.devRef .tc main_v44)
      = dsArr (dWArr (V (Proc.devRef .tc main_arg0)) (V (Proc.devRef .tc main_v0)) (V (Proc.devRef .tc main_arg2)))
          (decArr (V (Proc.devRef .tc main_arg3)) (V (Proc.devRef .tc main_arg4))) := by
  simp only [List.flatten_cons, List.flatten_nil, List.append_nil]
  after_reads_simp
  rfl

/-- The region widens the output gradient's codes: over the extended reals the array it leaves holds the same values. -/
theorem cast_array : (dats m 0 c).arrAt 1 cfg0.N = (fun y => (m ((c.tc : Thread nD τ).loc main_arg1) y : EReal)) := by
  refine (dats m 0 c).arrAt_eq_of_covers 1 _ (by decide +kernel) fun t hf y => ?_
  blk_simp
  rw [after0_1]
  frame_out
  show iblk m c 0 t y = _
  rfl

/-- The reference's run: its two results as functions of the arguments, which end as they began. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v42) = weightedArr (dWArr (m ((c.tc : Thread nD τ).loc main_arg0)) (m ((c.tc : Thread nD τ).loc main_arg1)) (m ((c.tc : Thread nD τ).loc main_arg2))) (m ((c.tc : Thread nD τ).loc main_arg5))
      ∧ r.2.mem ((c.tc : Thread nD τ).loc main_v44) = dsArr (dWArr (m ((c.tc : Thread nD τ).loc main_arg0)) (m ((c.tc : Thread nD τ).loc main_arg1)) (m ((c.tc : Thread nD τ).loc main_arg2))) (decArr (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h => ?_) (θ_run_and (run_main m ρ) (unchanged m ρ))
  intro c
  refine ⟨?_, ?_, h.2 c⟩
  · refine ((h.1 c).2 main_v42 (Pipeline.mem_restRefs_of main_v42 (by decide) (by decide))).trans ?_
    unfold Pipeline.afterTail₀
    refine (tail_42 _).trans ?_
    have e0 := Pipeline.withArrays_of_ne (cfgs 0).spec c (V0 m c) (fun w => (dats m 0 c).arrAt w (cfgs 0).N) main_arg0 (by decide)
    have e2 := Pipeline.withArrays_of_ne (cfgs 0).spec c (V0 m c) (fun w => (dats m 0 c).arrAt w (cfgs 0).N) main_arg2 (by decide)
    have e5 := Pipeline.withArrays_of_ne (cfgs 0).spec c (V0 m c) (fun w => (dats m 0 c).arrAt w (cfgs 0).N) main_arg5 (by decide)
    have ev := Pipeline.withArrays_arr (cfgs 0).spec launch0.win.arr_inj c (V0 m c) (fun w => (dats m 0 c).arrAt w (cfgs 0).N) 1
    have ec := cast_array m c
    exact congrArg₂ weightedArr (congr (congrArg₂ dWArr e0 (ev.trans ec)) e2) e5
  · refine ((h.1 c).2 main_v44 (Pipeline.mem_restRefs_of main_v44 (by decide) (by decide))).trans ?_
    unfold Pipeline.afterTail₀
    refine (tail_44 _).trans ?_
    have e0 := Pipeline.withArrays_of_ne (cfgs 0).spec c (V0 m c) (fun w => (dats m 0 c).arrAt w (cfgs 0).N) main_arg0 (by decide)
    have e2 := Pipeline.withArrays_of_ne (cfgs 0).spec c (V0 m c) (fun w => (dats m 0 c).arrAt w (cfgs 0).N) main_arg2 (by decide)
    have e3 := Pipeline.withArrays_of_ne (cfgs 0).spec c (V0 m c) (fun w => (dats m 0 c).arrAt w (cfgs 0).N) main_arg3 (by decide)
    have e4 := Pipeline.withArrays_of_ne (cfgs 0).spec c (V0 m c) (fun w => (dats m 0 c).arrAt w (cfgs 0).N) main_arg4 (by decide)
    have ev := Pipeline.withArrays_arr (cfgs 0).spec launch0.win.arr_inj c (V0 m c) (fun w => (dats m 0 c).arrAt w (cfgs 0).N) 1
    have ec := cast_array m c
    exact congrArg₂ dsArr (congr (congrArg₂ dWArr e0 (ev.trans ec)) e2) (congrArg₂ decArr e3 e4)

end

end Cert.ReferenceIdeal.Val

end
-- ==== Proof.Equal.lean ====
/-
  The kernel's results are the reference's: the kernel's order of adding against the reference's, and the claim that
  follows.
-/
module

public import proofs.«01_k».proof.Proof.GridIdeal
public import proofs.«01_k».proof.Proof.ReferenceValue
public import proofs.«01_k».proof.Defs

@[expose] public section

set_option maxRecDepth 60000

noncomputable section

open scoped BigOperators

namespace Cert.Equal

open Idealize.ShloMosaic Idealize.ShloMosaic.TcCoe
open Cert.KernelIdeal.LoopValue Cert.KernelIdeal.Grid

/-- A sum over a product of two lengths is the double sum over quotient and remainder. -/
theorem sum_split {M : Type} [AddCommMonoid M] (a b : ℕ) (f : Fin (a * b) → M) (g : Fin a → Fin b → M)
    (h : ∀ (i : Fin a) (j : Fin b) (hn : b * i.val + j.val < a * b), f ⟨b * i.val + j.val, hn⟩ = g i j) :
    ∑ n, f n = ∑ i, ∑ j, g i j := by
  rw [← (finProdFinEquiv (m := a) (n := b)).sum_comp, Fintype.sum_prod_type]
  refine Finset.sum_congr rfl fun i _ => Finset.sum_congr rfl fun j _ => ?_
  have e : finProdFinEquiv (i, j) = (⟨b * i.val + j.val, (Nat.add_comm _ _).trans_lt (finProdFinEquiv (i, j)).isLt⟩ : Fin (a * b)) :=
    Fin.ext (Nat.add_comm _ _)
  rw [e]
  exact h i j _

/-- The kernel's weight gradient, one sum over all tokens with the factors in its order, is the reference's. -/
theorem dW_eq (x : FVec Ideal ⟨3, ![3, 384, 4096]⟩ .bf16) (dy : FVec Ideal ⟨3, ![3, 384, 14336]⟩ .fp8e5m2) (sc : FVec Ideal ⟨2, ![3, 384]⟩ .f32)
    (o : Fin 14336) (i : Fin 4096) :
    Cert.KernelIdeal.Grid.dW x dy sc o i = Cert.ReferenceIdeal.Val.dW x dy sc o i := by
  unfold Cert.KernelIdeal.Grid.dW Cert.ReferenceIdeal.Val.dW
  refine sum_split 3 384 _ _ fun b s hn => ?_
  have hb : (384 * b.val + s.val) / 384 = b.val := by omega
  have hs : (384 * b.val + s.val) % 384 = s.val := by omega
  have e : ∀ (h1 h2), (⟨(384 * b.val + s.val) / 384, h1⟩ : Fin 3) = b ∧ (⟨(384 * b.val + s.val) % 384, h2⟩ : Fin 384) = s :=
    fun h1 h2 => ⟨Fin.ext hb, Fin.ext hs⟩
  dsimp only
  rw [(e (by omega) (by omega)).1, (e (by omega) (by omega)).2]
  exact mul_comm _ _

/-- The kernel's order of adding a row's products — lanes' sublanes outermost, then row chunks, then sublane groups — is a
    reordering of the sum over all groups. -/
theorem sum_groups {M : Type} [AddCommMonoid M] (f : Fin 512 → M) :
    ∑ r : Fin 8, ∑ k : Fin 16, ∑ q : Fin 4, f (groupOf k (subOf q r)) = ∑ g : Fin 512, f g := by
  rw [Finset.sum_comm]
  refine ((sum_split 16 32 f (fun k s => f (groupOf k s)) fun i j hn => rfl).trans ?_).symm
  refine Finset.sum_congr rfl fun k _ => ?_
  rw [Finset.sum_comm]
  exact sum_split 4 8 (fun s => f (groupOf k s)) (fun q r => f (groupOf k (subOf q r))) fun i j hn => rfl

/-- The two programs' results agree and their arguments are kept. -/
theorem algebraic : algebraic_KernelIdeal_ReferenceIdeal (hKernelIdeal := Cert.KernelIdeal.Gen.facts) (hReferenceIdeal := Cert.ReferenceIdeal.Gen.facts) := by
  intro m g m' g' _ hm
  refine ⟨fun c => (Cert.KernelIdeal.Run.dats m 0 c).arrAt 6 Cert.KernelIdeal.cfg0.N, fun c => (Cert.KernelIdeal.Run.dats m 0 c).arrAt 8 Cert.KernelIdeal.cfg0.N, ?_, ?_⟩
  · refine (θ_run _ _ _).mono (fun r h c => ?_) (θ_run_and (Cert.KernelIdeal.Run.run_main m g) (Cert.KernelIdeal.Run.unchanged m g))
    exact ⟨(h.1 c).1 6, (h.1 c).1 8, h.2 c⟩
  · refine (θ_run _ _ _).mono (fun r h c => ?_) (Cert.ReferenceIdeal.Val.run m' g')
    obtain ⟨h42, h44, hargs⟩ := h c
    obtain ⟨a0, a1, a2, a3, a4, a5⟩ := hm c
    refine ⟨h42.trans ?_, h44.trans ?_, hargs⟩
    · rw [a0, a1, a2, a5]
      refine Eq.trans ?_ (array6 m c).symm
      refine funext fun y : Cert.ReferenceIdeal.S16x8x32x2048.Idx => ?_
      obtain ⟨k, j, g, o, rfl⟩ : ∃ (k : Fin 16) (j : Fin 8) (g : Fin 32) (o : Fin 2048), y = ix4 k j g o :=
        ⟨y 0, y 1, y 2, y 3, funext fun a => by match a with | ⟨0, _⟩ => rfl | ⟨1, _⟩ => rfl | ⟨2, _⟩ => rfl | ⟨3, _⟩ => rfl⟩
      refine (Cert.ReferenceIdeal.Val.weightedArr_apply _ _ k j g o).trans ?_
      refine (mul_comm _ _).trans ?_
      refine congrArg₂ (fun a b : EReal => a * b) ?_ rfl
      exact (Cert.ReferenceIdeal.Val.dWArr_apply _ _ _ _ _).trans (dW_eq _ _ _ _ _).symm
    · rw [a0, a1, a2, a3, a4]
      refine Eq.trans ?_ (array8 m c).symm
      refine funext fun y : Cert.ReferenceIdeal.S1x2048.Idx => ?_
      obtain ⟨o, rfl⟩ : ∃ (o : Fin 2048), y = ix2 0 o :=
        ⟨y 1, funext fun a => by match a with | ⟨0, _⟩ => exact Subsingleton.elim (α := Fin 1) _ _ | ⟨1, _⟩ => rfl⟩
      refine (Cert.ReferenceIdeal.Val.dsArr_apply _ _ o).trans ?_
      refine Eq.trans ?_ (sum_groups fun n : Fin 512 => ∑ j : Fin 8,
        dWm m c ⟨o.val, by omega⟩ ⟨8 * n.val + j.val, by omega⟩ * decodedAt m c ⟨o.val, by omega⟩ n j).symm
      refine Finset.sum_congr rfl fun n _ => Finset.sum_congr rfl fun j _ => ?_
      refine congrArg₂ (fun a b : EReal => a * b) ?_ ?_
      · exact (Cert.ReferenceIdeal.Val.dWArr_apply _ _ _ _ _).trans (dW_eq _ _ _ _ _).symm
      · exact Cert.ReferenceIdeal.Val.decArr_apply _ _ ⟨o.val, by omega⟩ n j (by show 512 * o.val + n.val < _; omega)

end Cert.Equal

end
-- ==== Proof.DxTripBits.lean ====
/-
  One trip of the loop over the sixteen column chunks of `_dx_body`, for the program `KernelDx`.

  `trip` runs one trip: what it leaves in the weight rows (`.1`) and the pieces that it stores into the sums (`.2.1`) are
  the run's own finds, as functions of what the two buffers held.
-/
module

public import proofs.«01_k».proof.Proof.Gen.KernelDx.Loops

@[expose] public section

set_option maxRecDepth 60000
set_option maxHeartbeats 8000000

noncomputable section

namespace Cert.KernelDx.RowLoop

open Cert.KernelDx Cert.KernelDx.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (𝒱 : Variants) (c : Dev nD) (bd : Option 𝒱.V) (i : grid0.Coords)
  (arg1 : Memref sig .tc .vmem S1152x1024 .fp8e5m2) (harg1 : arg1.IsWhole)
  (arg2 : Memref sig .tc .vmem S2x1024x512 .i8) (harg2 : arg2.IsWhole)
  (arg3 : Memref sig .tc .vmem S2x4x2x8x128 .i32) (harg3 : arg3.IsWhole)
  (arg4 : Memref sig .tc .vmem S1x1024 .f32) (harg4 : arg4.IsWhole)
  (arg5 : Memref sig .tc .vmem S1152x128 .f32) (harg5 : arg5.IsWhole)
  (arg6 : Memref sig .tc .hbm S1x2048 .f32) (harg6 : arg6.IsWhole)
  (arg7 : Memref sig .tc .vmem S1152x4096 .bf16) (harg7 : arg7.IsWhole)
  (arg8 : Memref sig .tc .vmem S16x1152x256 .f32) (harg8 : arg8.IsWhole)
  (arg9 : Memref sig .tc .vmem S1152x1024 .bf16) (harg9 : arg9.IsWhole)
  (arg10 : Memref sig .tc .vmem S512x1024 .i32) (harg10 : arg10.IsWhole)
  (arg11 : Memref sig .tc .vmem S8x256x128 .bf16) (harg11 : arg11.IsWhole)
  (X3 : BufTy.Contents (Elt F) arg3.view.ty) (X4 : BufTy.Contents (Elt F) arg4.view.ty)
  (X9 : BufTy.Contents (Elt F) arg9.view.ty) (X10 : BufTy.Contents (Elt F) arg10.view.ty)

/-- What a trip holds: the four buffers it reads at their contents, the sums it adds to, and the rows it writes. -/
abbrev Held (f8 : BufTy.Contents (Elt F) arg8.view.ty) (f11 : BufTy.Contents (Elt F) arg11.view.ty) : sProp 𝕄 :=
  iprop((arg3.view.loc (c : Thread nD τ) ↦[arg3.view.set]{fullShare} X3)
    ∗ (arg4.view.loc (c : Thread nD τ) ↦[arg4.view.set]{fullShare} X4)
    ∗ (arg9.view.loc (c : Thread nD τ) ↦[arg9.view.set]{fullShare} X9)
    ∗ (arg10.view.loc (c : Thread nD τ) ↦[arg10.view.set]{fullShare} X10)
    ∗ (arg8.view.loc (c : Thread nD τ) ↦[arg8.view.set]{fullShare} f8)
    ∗ (arg11.view.loc (c : Thread nD τ) ↦[arg11.view.set]{fullShare} f11))

/-- One trip at a symbolic `k`: it leaves the weight rows `W` written, and its pieces written over the sums. -/
@[irreducible] def trip (k : Fin k0_t1_loop.trips) :
    Σ' (W : BufTy.Contents (Elt F) arg11.view.ty → BufTy.Contents (Elt F) arg11.view.ty),
      { L : BufTy.Contents (Elt F) arg8.view.ty → BufTy.Contents (Elt F) arg11.view.ty → List (View.Piece (Elt F) S16x1152x256 .f32) //
      ∀ (E : Set ℕ) (f8 : BufTy.Contents (Elt F) arg8.view.ty) (f11 : BufTy.Contents (Elt F) arg11.view.ty),
        Held c arg3 arg4 arg8 arg9 arg10 arg11 X3 X4 X9 X10 f8 f11
        ⊢ wp frame (wpE (defs₀ (F := F)) 𝒱 (c : Thread nD τ) bd) E
            (k0_t1_body (F := F) i arg1 harg1 arg2 harg2 arg3 harg3 arg4 harg4 arg5 harg5 arg6 harg6 arg7 harg7 arg8 harg8 arg9 harg9 arg10 harg10 arg11 harg11 k ())
            (fun _ => Held c arg3 arg4 arg8 arg9 arg10 arg11 X3 X4 X9 X10 (arg8.view.writes (Elt F) f8 (L f8 f11)) (W f11)) } := by
  have hk : k.val < 16 := Nat.lt_of_lt_of_le k.isLt k0_t1_abs.2.1
  refine ⟨?_, ?_, fun E f8 f11 => ?run⟩
  case run =>
    unfold k0_t1_body
    iintro ⟨H3, H4, H9, H10, H8, H11⟩
    sl_exec
    sl_step
    sl_close

end Cert.KernelDx.RowLoop
-- ==== Proof.DxLoopBits.lean ====
/-
  The loop over column chunks of `KernelDx` by its invariant: every buffer a trip writes holds something.
-/
module

public import proofs.«01_k».proof.Proof.DxTripBits

@[expose] public section

set_option maxRecDepth 60000
set_option backward.proofsInPublic true

noncomputable section

namespace Cert.KernelDx.RowLoop

open Cert.KernelDx Cert.KernelDx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the frame. -/
local notation "𝕄" => MT nD τ sig Unit (Elt F) ℕ (UR sig nD τ) ℕ

variable (𝒱 : Variants) (c : Dev nD) (bd : Option 𝒱.V) (i : grid0.Coords)
  (arg1 : Memref sig .tc .vmem S1152x1024 .fp8e5m2) (harg1 : arg1.IsWhole)
  (arg2 : Memref sig .tc .vmem S2x1024x512 .i8) (harg2 : arg2.IsWhole)
  (arg3 : Memref sig .tc .vmem S2x4x2x8x128 .i32) (harg3 : arg3.IsWhole)
  (arg4 : Memref sig .tc .vmem S1x1024 .f32) (harg4 : arg4.IsWhole)
  (arg5 : Memref sig .tc .vmem S1152x128 .f32) (harg5 : arg5.IsWhole)
  (arg6 : Memref sig .tc .hbm S1x2048 .f32) (harg6 : arg6.IsWhole)
  (arg7 : Memref sig .tc .vmem S1152x4096 .bf16) (harg7 : arg7.IsWhole)
  (arg8 : Memref sig .tc .vmem S16x1152x256 .f32) (harg8 : arg8.IsWhole)
  (arg9 : Memref sig .tc .vmem S1152x1024 .bf16) (harg9 : arg9.IsWhole)
  (arg10 : Memref sig .tc .vmem S512x1024 .i32) (harg10 : arg10.IsWhole)
  (arg11 : Memref sig .tc .vmem S8x256x128 .bf16) (harg11 : arg11.IsWhole)
  (X3 : BufTy.Contents (Elt F) arg3.view.ty) (X4 : BufTy.Contents (Elt F) arg4.view.ty)
  (X9 : BufTy.Contents (Elt F) arg9.view.ty) (X10 : BufTy.Contents (Elt F) arg10.view.ty)

/-- The invariant before trip `k`: the four buffers the loop reads at their contents, the sums and the
    weight rows at something. -/
abbrev inv (k : ℕ) (_u : PUnit) : sProp 𝕄 :=
  iprop((arg3.view.loc (c : Thread nD τ) ↦[arg3.view.set]{fullShare} X3)
    ∗ (arg4.view.loc (c : Thread nD τ) ↦[arg4.view.set]{fullShare} X4)
    ∗ (arg9.view.loc (c : Thread nD τ) ↦[arg9.view.set]{fullShare} X9)
    ∗ (arg10.view.loc (c : Thread nD τ) ↦[arg10.view.set]{fullShare} X10)
    ∗ (∃ f, (arg8.view.loc (c : Thread nD τ) ↦[arg8.view.set]{fullShare} f))
    ∗ (∃ f, arg11.view.loc (c : Thread nD τ) ↦[arg11.view.set]{fullShare} f))

set_option warn.classDefReducibility false in
/-- The loop by its invariant. -/
@[sl_loop] def loopInv (E : Set ℕ) :
    LoopInvTy_k0_t1 (F := F) Unit ℕ (UR sig nD τ) ℕ 𝒱 c bd E i arg1 harg1 arg2 harg2 arg3 harg3 arg4 harg4 arg5 harg5 arg6
      harg6 arg7 harg7 arg8 harg8 arg9 harg9 arg10 harg10 arg11 harg11 where
  inv := inv c arg3 arg4 arg8 arg9 arg10 arg11 X3 X4 X9 X10
  step k acc := by
    iintro ⟨H3, H4, H9, H10, ⟨%f8, H8⟩, ⟨%f11, H11⟩⟩
    iapply (wp_wand_r Idealize.ShloMosaic.frame (wpE (defs₀ (F := F)) 𝒱 (c : Thread nD τ) bd) E)
    isplitl [H3 H4 H9 H10 H8 H11]
    · iapply ((trip (F := F) 𝒱 c bd i arg1 harg1 arg2 harg2 arg3 harg3 arg4 harg4 arg5 harg5 arg6
      harg6 arg7 harg7 arg8 harg8 arg9 harg9 arg10 harg10 arg11 harg11 X3 X4 X9 X10 k).2.2 E f8 f11)
      isplitl [H3]; · iexact H3
      isplitl [H4]; · iexact H4
      isplitl [H9]; · iexact H9
      isplitl [H10]; · iexact H10
      isplitl [H8]; · iexact H8
      iexact H11
    · iintro %_ ⟨H3, H4, H9, H10, H8, H11⟩
      isplitl [H3]; · iexact H3
      isplitl [H4]; · iexact H4
      isplitl [H9]; · iexact H9
      isplitl [H10]; · iexact H10
      isplitl [H8]
      · iexists _; iexact H8
      iexists _; iexact H11

end Cert.KernelDx.RowLoop

end
-- ==== Proof.DxFrameBits.lean ====
/-
  The body of `KernelDx` run at any point, and its frame: every run ends, with the argument arrays as they were. Nothing is said
  of what the kernel computes.
-/
module

public import proofs.«01_k».proof.Proof.DxLoopBits
public import proofs.«01_k».proof.Proof.Gen.KernelDx.Frame
public import Idealize.ShloMosaic.Lib.Claim

@[expose] public section

set_option maxRecDepth 60000

noncomputable section

namespace Cert.KernelDx.Run

open Cert.KernelDx Cert.KernelDx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

/-- The resource algebra of the frame. -/
local notation "𝕄" => MT nD τ sig Unit (Elt F) ℕ (UR sig nD τ) ℕ

set_option maxHeartbeats 16000000 in
/-- The body at any point. On whole buffers, the inputs at their contents and the others at anything, it runs to the inputs as
    they were and the others at something. -/
theorem body_run (c : Dev nD) (i : grid0.Coords) (arg1 : Memref sig .tc .vmem S1152x1024 .fp8e5m2) (harg1 : arg1.IsWhole)
    (arg2 : Memref sig .tc .vmem S2x1024x512 .i8) (harg2 : arg2.IsWhole)
    (arg3 : Memref sig .tc .vmem S2x4x2x8x128 .i32) (harg3 : arg3.IsWhole)
    (arg4 : Memref sig .tc .vmem S1x1024 .f32) (harg4 : arg4.IsWhole)
    (arg5 : Memref sig .tc .vmem S1152x128 .f32) (harg5 : arg5.IsWhole)
    (arg7 : Memref sig .tc .vmem S1152x4096 .bf16) (harg7 : arg7.IsWhole)
    (arg8 : Memref sig .tc .vmem S16x1152x256 .f32) (harg8 : arg8.IsWhole)
    (arg9 : Memref sig .tc .vmem S1152x1024 .bf16) (harg9 : arg9.IsWhole)
    (arg10 : Memref sig .tc .vmem S512x1024 .i32) (harg10 : arg10.IsWhole)
    (arg11 : Memref sig .tc .vmem S8x256x128 .bf16) (harg11 : arg11.IsWhole)
    (x0 : Vec F S1152x1024 .fp8e5m2) (x1 : Vec F S2x1024x512 .i8) (x2 : Vec F S2x4x2x8x128 .i32) (x3 : Vec F S1x1024 .f32) (x4 : Vec F S1152x128 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)) -∗ K ⟨⟩))
      ⊢ wp frame (wpE (defs₀ (F := F)) Variants.none c none) E (cc0_dx i arg1 harg1 arg2 harg2 arg3 harg3 arg4 harg4 arg5 harg5
          (Memref.whole main_arg5) (Memref.isWhole_whole _) arg7 harg7 arg8 harg8 arg9 harg9 arg10 harg10 arg11 harg11) K := by
  simp only [cc0_dx_eq_skeleton]; unfold cc0_dx_skel
  simp only [k0_part240_eq_skeleton, k0_part241_eq_skeleton, k0_part242_eq_skeleton, k0_part243_eq_skeleton, k0_part244_eq_skeleton, k0_part245_eq_skeleton, k0_part246_eq_skeleton, k0_part247_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, G7⟩, ⟨%d8, %f8, -, G8⟩, ⟨%d9, %f9, -, G9⟩, ⟨%d10, %f10, -, G10⟩, ⟨%d11, %f11, -, G11⟩, Hk⟩
  obtain rfl := harg1.eq_unread hf0; obtain rfl := harg2.eq_unread hf1; obtain rfl := harg3.eq_unread hf2; obtain rfl := harg4.eq_unread hf3; obtain rfl := harg5.eq_unread hf4
  by_cases hc0 : (Scalar.cmpi .ne (Scalar.extui (Scalar.cmpi .eq (BitVec.ofNat 32 (i 0).val) 0#32)) 0#32) = 1#1 <;>
    by_cases hc1 : k0_cond2 i = 1#1
  all_goals
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [G7]
    · iexists _, _; isplitr; swap; · iexact G7
      ipureintro; rfl
    isplitl [G8]
    · iexists _, _; isplitr; swap; · iexact G8
      ipureintro; rfl
    isplitl [G9]
    · iexists _, _; isplitr; swap; · iexact G9
      ipureintro; rfl
    isplitl [G10]
    · iexists _, _; isplitr; swap; · iexact G10
      ipureintro; rfl
    iexists _, _; isplitr; swap; · iexact G11
    ipureintro; rfl

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelDx`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 1 rfl).trans ((hA c 1).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-- An input is never idle. -/
theorem liveAt0_0 : ∀ t : Fin cfg0.N, cfg0.idle 0 (grid0.coords t) = false := fun _ => rfl
/-- An input is never idle. -/
theorem liveAt0_1 : ∀ t : Fin cfg0.N, cfg0.idle 1 (grid0.coords t) = false := fun _ => rfl
/-- An input is never idle. -/
theorem liveAt0_2 : ∀ t : Fin cfg0.N, cfg0.idle 2 (grid0.coords t) = false := fun _ => rfl
/-- An input is never idle. -/
theorem liveAt0_3 : ∀ t : Fin cfg0.N, cfg0.idle 3 (grid0.coords t) = false := fun _ => rfl
/-- An input is never idle. -/
theorem liveAt0_4 : ∀ t : Fin cfg0.N, cfg0.idle 4 (grid0.coords t) = false := fun _ => rfl
/-- The memref a point runs on, as the pipeline passes it. -/
abbrev ms0_0 (t : Fin cfg0.N) : Memref sig .tc .vmem S1152x1024 .fp8e5m2 := win0_0.stage (cfg0.slots t 0)
/-- That memref is whole. -/
abbrev hs0_0 (t : Fin cfg0.N) : (ms0_0 t).IsWhole := hstage0_0 ((cfg0.slots t 0).cast nbuf0_0)
/-- The memref a point runs on, as the pipeline passes it. -/
abbrev ms0_1 (t : Fin cfg0.N) : Memref sig .tc .vmem S2x1024x512 .i8 := win0_1.stage (cfg0.slots t 1)
/-- That memref is whole. -/
abbrev hs0_1 (t : Fin cfg0.N) : (ms0_1 t).IsWhole := hstage0_1 ((cfg0.slots t 1).cast nbuf0_1)
/-- The memref a point runs on, as the pipeline passes it. -/
abbrev ms0_2 (t : Fin cfg0.N) : Memref sig .tc .vmem S2x4x2x8x128 .i32 := win0_2.stage (cfg0.slots t 2)
/-- That memref is whole. -/
abbrev hs0_2 (t : Fin cfg0.N) : (ms0_2 t).IsWhole := hstage0_2 ((cfg0.slots t 2).cast nbuf0_2)
/-- The memref a point runs on, as the pipeline passes it. -/
abbrev ms0_3 (t : Fin cfg0.N) : Memref sig .tc .vmem S1x1024 .f32 := win0_3.stage (cfg0.slots t 3)
/-- That memref is whole. -/
abbrev hs0_3 (t : Fin cfg0.N) : (ms0_3 t).IsWhole := hstage0_3 ((cfg0.slots t 3).cast nbuf0_3)
/-- The memref a point runs on, as the pipeline passes it. -/
abbrev ms0_4 (t : Fin cfg0.N) : Memref sig .tc .vmem S1152x128 .f32 := win0_4.stage (cfg0.slots t 4)
/-- That memref is whole. -/
abbrev hs0_4 (t : Fin cfg0.N) : (ms0_4 t).IsWhole := hstage0_4 ((cfg0.slots t 4).cast nbuf0_4)
/-- The memref a point runs on, as the pipeline passes it. -/
abbrev ms0_5 (t : Fin cfg0.N) : Memref sig .tc .vmem S1152x4096 .bf16 := win0_5.stage (cfg0.slots t 5)
/-- That memref is whole. -/
abbrev hs0_5 (t : Fin cfg0.N) : (ms0_5 t).IsWhole := hstage0_5 ((cfg0.slots t 5).cast nbuf0_5)
/-- The memref a point runs on, as the pipeline passes it. -/
abbrev scM0_0 : Memref sig .tc .vmem S16x1152x256 .f32 := Memref.whole cc0_scratch0
/-- The memref a point runs on, as the pipeline passes it. -/
abbrev scM0_1 : Memref sig .tc .vmem S1152x1024 .bf16 := Memref.whole cc0_scratch1
/-- The memref a point runs on, as the pipeline passes it. -/
abbrev scM0_2 : Memref sig .tc .vmem S512x1024 .i32 := Memref.whole cc0_scratch2
/-- The memref a point runs on, as the pipeline passes it. -/
abbrev scM0_3 : Memref sig .tc .vmem S8x256x128 .bf16 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The output window, of which nothing is named. -/
def forgets0 : Fin 6 → Bool := fun w => w.val == 5

/-- The proof data: the arrays as the region finds them, each input's buffer at its block after every point, the output's
    unnamed, every scratch buffer at something between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-- Input 0's buffer holds its block after every point, -/
theorem after0_0 (c : Dev nD) (t : Fin cfg0.N) : (dats m 0 c).after 0 t = iblk m c 0 t := by dsimp only [dats]
/-- and before every point. -/
theorem before0_0 (c : Dev nD) (t : Fin cfg0.N) (d) : (dats m 0 c).before 0 t d = iblk m c 0 t :=
  before0_0_of m (dats m 0 c) (A_eq m c 0) (after0_0 m c) t d
/-- Input 1's buffer holds its block after every point, -/
theorem after0_1 (c : Dev nD) (t : Fin cfg0.N) : (dats m 0 c).after 1 t = iblk m c 1 t := by dsimp only [dats]
/-- and before every point. -/
theorem before0_1 (c : Dev nD) (t : Fin cfg0.N) (d) : (dats m 0 c).before 1 t d = iblk m c 1 t :=
  before0_1_of m (dats m 0 c) (A_eq m c 1) (after0_1 m c) t d
/-- Input 2's buffer holds its block after every point, -/
theorem after0_2 (c : Dev nD) (t : Fin cfg0.N) : (dats m 0 c).after 2 t = iblk m c 2 t := by dsimp only [dats]
/-- and before every point. -/
theorem before0_2 (c : Dev nD) (t : Fin cfg0.N) (d) : (dats m 0 c).before 2 t d = iblk m c 2 t :=
  before0_2_of m (dats m 0 c) (A_eq m c 2) (after0_2 m c) t d
/-- Input 3's buffer holds its block after every point, -/
theorem after0_3 (c : Dev nD) (t : Fin cfg0.N) : (dats m 0 c).after 3 t = iblk m c 3 t := by dsimp only [dats]
/-- and before every point. -/
theorem before0_3 (c : Dev nD) (t : Fin cfg0.N) (d) : (dats m 0 c).before 3 t d = iblk m c 3 t :=
  before0_3_of m (dats m 0 c) (A_eq m c 3) (after0_3 m c) t d
/-- Input 4's buffer holds its block after every point, -/
theorem after0_4 (c : Dev nD) (t : Fin cfg0.N) : (dats m 0 c).after 4 t = iblk m c 4 t := by dsimp only [dats]
/-- and before every point. -/
theorem before0_4 (c : Dev nD) (t : Fin cfg0.N) (d) : (dats m 0 c).before 4 t d = iblk m c 4 t :=
  before0_4_of m (dats m 0 c) (A_eq m c 4) (after0_4 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d))

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun c => Entails.refl _) (hout := fun c => Entails.refl _)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_forget m ρ (fun c => (dats m 0 c).toRForget forgets0) (A_eq m) (run_main m ρ)

/-- Every run ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelDx.Run

end
-- ==== Proof.DxTripIdeal.lean ====
/-
  One trip of the loop over the sixteen column chunks of `_dx_body`, for the program `KernelDxIdeal`.

  `trip` runs one trip: what it leaves in the weight rows (`.1`) and the pieces that it stores into the sums (`.2.1`) are
  the run's own finds, as functions of what the two buffers held.
-/
module

public import proofs.«01_k».proof.Proof.Gen.KernelDxIdeal.Loops

@[expose] public section

set_option maxRecDepth 60000
set_option maxHeartbeats 8000000

noncomputable section

namespace Cert.KernelDxIdeal.RowLoop

open Cert.KernelDxIdeal Cert.KernelDxIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords)
  (arg1 : Memref sig .tc .vmem S1152x1024 .fp8e5m2) (harg1 : arg1.IsWhole)
  (arg2 : Memref sig .tc .vmem S2x1024x512 .i8) (harg2 : arg2.IsWhole)
  (arg3 : Memref sig .tc .vmem S2x4x2x8x128 .i32) (harg3 : arg3.IsWhole)
  (arg4 : Memref sig .tc .vmem S1x1024 .f32) (harg4 : arg4.IsWhole)
  (arg5 : Memref sig .tc .vmem S1152x128 .f32) (harg5 : arg5.IsWhole)
  (arg6 : Memref sig .tc .hbm S1x2048 .f32) (harg6 : arg6.IsWhole)
  (arg7 : Memref sig .tc .vmem S1152x4096 .bf16) (harg7 : arg7.IsWhole)
  (arg8 : Memref sig .tc .vmem S16x1152x256 .f32) (harg8 : arg8.IsWhole)
  (arg9 : Memref sig .tc .vmem S1152x1024 .bf16) (harg9 : arg9.IsWhole)
  (arg10 : Memref sig .tc .vmem S512x1024 .i32) (harg10 : arg10.IsWhole)
  (arg11 : Memref sig .tc .vmem S8x256x128 .bf16) (harg11 : arg11.IsWhole)
  (X3 : BufTy.Contents (Elt F) arg3.view.ty) (X4 : BufTy.Contents (Elt F) arg4.view.ty)
  (X9 : BufTy.Contents (Elt F) arg9.view.ty) (X10 : BufTy.Contents (Elt F) arg10.view.ty)

/-- What a trip holds: the four buffers it reads at their contents, the sums it adds to, and the rows it writes. -/
abbrev Held (f8 : BufTy.Contents (Elt F) arg8.view.ty) (f11 : BufTy.Contents (Elt F) arg11.view.ty) : sProp 𝕄 :=
  iprop((arg3.view.loc (c : Thread nD τ) ↦[arg3.view.set]{fullShare} X3)
    ∗ (arg4.view.loc (c : Thread nD τ) ↦[arg4.view.set]{fullShare} X4)
    ∗ (arg9.view.loc (c : Thread nD τ) ↦[arg9.view.set]{fullShare} X9)
    ∗ (arg10.view.loc (c : Thread nD τ) ↦[arg10.view.set]{fullShare} X10)
    ∗ (arg8.view.loc (c : Thread nD τ) ↦[arg8.view.set]{fullShare} f8)
    ∗ (arg11.view.loc (c : Thread nD τ) ↦[arg11.view.set]{fullShare} f11))

/-- One trip at a symbolic `k`: it leaves the weight rows `W` written, and its pieces written over the sums. -/
@[irreducible] def trip (k : Fin k0_t1_loop.trips) :
    Σ' (W : BufTy.Contents (Elt F) arg11.view.ty → BufTy.Contents (Elt F) arg11.view.ty),
      { L : BufTy.Contents (Elt F) arg8.view.ty → BufTy.Contents (Elt F) arg11.view.ty → List (View.Piece (Elt F) S16x1152x256 .f32) //
      ∀ (E : Set ℕ) (f8 : BufTy.Contents (Elt F) arg8.view.ty) (f11 : BufTy.Contents (Elt F) arg11.view.ty),
        Held c arg3 arg4 arg8 arg9 arg10 arg11 X3 X4 X9 X10 f8 f11
        ⊢ wp frame (wpE (defs₀ (F := F)) 𝒱 (c : Thread nD τ) bd) E
            (k0_t1_body (F := F) i arg1 harg1 arg2 harg2 arg3 harg3 arg4 harg4 arg5 harg5 arg6 harg6 arg7 harg7 arg8 harg8 arg9 harg9 arg10 harg10 arg11 harg11 k ())
            (fun _ => Held c arg3 arg4 arg8 arg9 arg10 arg11 X3 X4 X9 X10 (arg8.view.writes (Elt F) f8 (L f8 f11)) (W f11)) } := by
  have hk : k.val < 16 := Nat.lt_of_lt_of_le k.isLt k0_t1_abs.2.1
  refine ⟨?_, ?_, fun E f8 f11 => ?run⟩
  case run =>
    unfold k0_t1_body
    iintro ⟨H3, H4, H9, H10, H8, H11⟩
    sl_exec
    sl_step
    sl_close

end Cert.KernelDxIdeal.RowLoop
-- ==== Proof.DxRowsIdeal.lean ====
/-
  What one trip of the loop over column chunks leaves in the weight rows and adds to the sums, for `KernelDxIdeal`.

  A trip decodes 256 columns of the weight for 1024 rows of the gradient: `rowEven` and `rowOdd` are the tiles of an even
  and of an odd column, `weightRows` what stands at an index of the weight rows afterwards (whatever stood there before),
  `product` the trip's product with the gradient, and `sumPiece` the piece of the sums that it stores.
-/
module

public import proofs.«01_k».proof.Proof.DxTripIdeal
public import proofs.«01_k».proof.Proof.TripIdeal
public import Idealize.ShloMosaic.Lib.Pointwise
public import Idealize.ShloMosaic.Lib.Pipeline.Value

@[expose] public section

set_option maxRecDepth 60000

noncomputable section

namespace Cert.KernelDxIdeal.Rows

open Cert.KernelDxIdeal Cert.KernelDxIdeal.Gen Cert.KernelDxIdeal.RowLoop
open Cert.KernelIdeal.Tile (decodeEven decodeOdd)
open Idealize.ShloMosaic Idealize.ShloMosaic.TcCoe

variable {F : FTy → Type} [FloatOps F]

/-- Where a trip loads the code words of row tile `l` and sublane group `q`, as the program computes it. -/
def wordOff (k : Fin k0_t1_loop.trips) (l : Fin 8) (q : Fin 4) : Fin 2 → ℕ :=
  match l with
  | 0 => k0_off1 k (BitVec.ofNat 32 (8 * q.val))
  | 1 => k0_off2 k (BitVec.ofNat 32 (8 * q.val))
  | 2 => k0_off3 k (BitVec.ofNat 32 (8 * q.val))
  | 3 => k0_off4 k (BitVec.ofNat 32 (8 * q.val))
  | 4 => k0_off5 k (BitVec.ofNat 32 (8 * q.val))
  | 5 => k0_off6 k (BitVec.ofNat 32 (8 * q.val))
  | 6 => k0_off7 k (BitVec.ofNat 32 (8 * q.val))
  | 7 => k0_off8 k (BitVec.ofNat 32 (8 * q.val))

/-- The tile lies within the code words. -/
theorem inb_word (k : Fin k0_t1_loop.trips) (l : Fin 8) (q : Fin 4) :
    ∀ a, wordOff k l q a + S8x128.size a ≤ S512x1024.size a :=
  match l with
  | 0 => k0_off1_inb k q
  | 1 => k0_off2_inb k q
  | 2 => k0_off3_inb k q
  | 3 => k0_off4_inb k q
  | 4 => k0_off5_inb k q
  | 5 => k0_off6_inb k q
  | 6 => k0_off7_inb k q
  | 7 => k0_off8_inb k q

/-- A half table lies within the tables. -/
theorem inb_tab (m : Fin 2) (jj : Fin 4) (h : Fin 2) :
    ∀ a, (![m.val, jj.val, h.val, 0, 0] : Fin 5 → ℕ) a + S1x1x1x8x128.size a ≤ S2x4x2x8x128.size a := by
  revert m jj h; decide

/-- A tile of row scales lies within the row scales. -/
theorem inb_scale (l : Fin 8) : ∀ a, (![0, 128 * l.val] : Fin 2 → ℕ) a + S1x128.size a ≤ S1x1024.size a := by
  revert l; decide

/-- The rectangle of the weight rows for row tile `l`, sublane group `q` and column pair `jj`: every fourth pair of rows. -/
theorem inb_row (l : Fin 8) (q jj : Fin 4) : ∀ a, S1x8x2x128.size a = 0
    ∨ (![l.val, 32 * q.val + jj.val, 0, 0] : Fin 4 → ℕ) a + (![1, 4, 1, 1] : Fin 4 → ℕ) a * (S1x8x2x128.size a - 1)
      < S8x128x2x128.size a := by
  revert l q jj; decide

/-- A row tile of the weight rows lies within them. -/
theorem inb_slab (l : Fin 8) : ∀ a, (![l.val, 0, 0] : Fin 3 → ℕ) a + S1x256x128.size a ≤ S8x256x128.size a := by
  revert l; decide

section Loads

variable (arg3 : Memref sig .tc .vmem S2x4x2x8x128 .i32) (arg4 : Memref sig .tc .vmem S1x1024 .f32)
  (arg9 : Memref sig .tc .vmem S1152x1024 .bf16) (arg10 : Memref sig .tc .vmem S512x1024 .i32)
  (X3 : BufTy.Contents (Elt F) arg3.view.ty) (X4 : BufTy.Contents (Elt F) arg4.view.ty)
  (X9 : BufTy.Contents (Elt F) arg9.view.ty) (X10 : BufTy.Contents (Elt F) arg10.view.ty)
  (k : Fin k0_t1_loop.trips)

/-- The half tables as loaded. -/
def tabOf (m : Fin 2) (jj : Fin 4) (h : Fin 2) : Vec F S1x1x1x8x128 .i32 :=
  arg3.view.readAt (Elt F) (Rect.unit (s := S2x4x2x8x128) ![m.val, jj.val, h.val, 0, 0] S1x1x1x8x128.size (inb_tab m jj h)).toLoadRect X3

/-- The code words of a row tile and sublane group as loaded. -/
def wordsOf (l : Fin 8) (q : Fin 4) : Vec F S8x128 .i32 :=
  arg10.view.readAt (Elt F) (Rect.unit (s := S512x1024) (wordOff k l q) S8x128.size (inb_word k l q)).toLoadRect X10

/-- The row scales of a row tile, on every sublane. -/
def scaleOf (l : Fin 8) : FVec F S8x128 .f32 :=
  broadcastTo S8x128 (shapeCast S1x128
    (arg4.view.readAt (Elt F) (Rect.unit (s := S1x1024) ![0, 128 * l.val] S1x128.size (inb_scale l)).toLoadRect X4)
    shapeCasts_S1x128_S1x128) broadcasts_S1x128_S8x128

/-- A tile of the even column `2 * jj` of the weight, rounded to bf16. -/
def rowEven (l : Fin 8) (q jj : Fin 4) : FVec F S8x128 .bf16 :=
  truncf .bf16 (mulf (decodeEven (wordsOf arg10 X10 k l q) (tabOf arg3 X3) jj) (scaleOf arg4 X4 l))

/-- A tile of the odd column `2 * jj + 1` of the weight, rounded to bf16. -/
def rowOdd (l : Fin 8) (q jj : Fin 4) : FVec F S8x128 .bf16 :=
  truncf .bf16 (mulf (decodeOdd (wordsOf arg10 X10 k l q) (tabOf arg3 X3) jj) (scaleOf arg4 X4 l))

/-- The piece of the weight rows that a trip stores for a row tile, sublane group and column pair. -/
def rowPiece (l : Fin 8) (q jj : Fin 4) : View.Piece (Elt F) S8x128x2x128 .bf16 :=
  ⟨⟨(⟨![l.val, 32 * q.val + jj.val, 0, 0], S1x8x2x128.size, ![1, 4, 1, 1], inb_row l q jj⟩ : LoadRect S8x128x2x128), spos_1_4_1_1⟩,
    interleaveRows S1x8x2x128
      (shapeCast S1x8x1x128 (shapeCast S1x8x128 (rowEven arg3 arg4 arg10 X3 X4 X10 k l q jj) shapeCasts_S8x128_S1x8x128) shapeCasts_S1x8x128_S1x8x1x128)
      (shapeCast S1x8x1x128 (shapeCast S1x8x128 (rowOdd arg3 arg4 arg10 X3 X4 X10 k l q jj) shapeCasts_S8x128_S1x8x128) shapeCasts_S1x8x128_S1x8x1x128)
      bitcasts_S1x8x2x128_w16_S1x8x1x128_w32⟩

/-- The pieces of a trip, last first. -/
def rowPieces : List (View.Piece (Elt F) S8x128x2x128 .bf16) :=
  [7, 6, 5, 4, 3, 2, 1, 0].flatMap fun l => [3, 2, 1, 0].flatMap fun q => [3, 2, 1, 0].map fun jj =>
    rowPiece arg3 arg4 arg10 X3 X4 X10 k l q jj

/-- What stands in the weight rows after a trip: at row tile `l` and row pair `32 * q + 4 * s + jj`, lane by lane, the even
    column's tile at sublane `s` in the first row and the odd column's in the second. -/
def weightRows (x : S8x128x2x128.Idx) : F .bf16 :=
  if (x 2).val = 0 then
    rowEven arg3 arg4 arg10 X3 X4 X10 k (x 0) ⟨(x 1).val / 32, by have h : (x 1).val < 128 := (x 1).isLt; omega⟩ ⟨(x 1).val % 4, by omega⟩
      (ix2 ⟨(x 1).val % 32 / 4, by omega⟩ (x 3))
  else
    rowOdd arg3 arg4 arg10 X3 X4 X10 k (x 0) ⟨(x 1).val / 32, by have h : (x 1).val < 128 := (x 1).isLt; omega⟩ ⟨(x 1).val % 4, by omega⟩
      (ix2 ⟨(x 1).val % 32 / 4, by omega⟩ (x 3))

/-- A row tile of the weight rows as the product loads it. -/
def weightsTile (l : Fin 8) : Vec F S1x256x128 .bf16 := fun x =>
  weightRows arg3 arg4 arg10 X3 X4 X10 k
    (ix4 l ⟨(x 1).val / 2, by have h : (x 1).val < 256 := (x 1).isLt; omega⟩ ⟨(x 1).val % 2, by omega⟩ (x 2))

/-- A trip's product of the gradient with its weight rows. -/
def product : FVec F S1152x256 .f32 :=
  k0_pay1457 (weightsTile arg3 arg4 arg10 X3 X4 X10 k 0) (weightsTile arg3 arg4 arg10 X3 X4 X10 k 1) (weightsTile arg3 arg4 arg10 X3 X4 X10 k 2) (weightsTile arg3 arg4 arg10 X3 X4 X10 k 3) (weightsTile arg3 arg4 arg10 X3 X4 X10 k 4) (weightsTile arg3 arg4 arg10 X3 X4 X10 k 5) (weightsTile arg3 arg4 arg10 X3 X4 X10 k 6) (weightsTile arg3 arg4 arg10 X3 X4 X10 k 7)
    (arg9.view.readAt (Elt F) (Rect.unit (s := S1152x1024) ![0, 0] S1152x1024.size inb_S1152x1024_S1152x1024_0_0).toLoadRect X9)

/-- The piece of the sums that a trip stores, over what the sums held before. -/
def sumPiece (arg8 : Memref sig .tc .vmem S16x1152x256 .f32) (f8 : BufTy.Contents (Elt F) arg8.view.ty) :
    View.Piece (Elt F) S16x1152x256 .f32 :=
  ⟨Rect.unit (s := S16x1152x256) (k0_off9 k) S1x1152x256.size (k0_off9_inb k),
    k0_pay4 (product arg3 arg4 arg9 arg10 X3 X4 X9 X10 k) (arg8.view.readAt (Elt F)
      (Rect.unit (s := S16x1152x256) (k0_off9 k) S1x1152x256.size (k0_off9_inb k)).toLoadRect f8)⟩

end Loads

/-- Two tiles laid row by row into pairs of rows: the first row of a pair is the first tile's, the second the second's. -/
theorem pack_apply {α : Type} (lo hi : S8x128.Idx → α) (x : S1x8x2x128.Idx) :
    interleaveRows S1x8x2x128
      (shapeCast S1x8x1x128 (shapeCast S1x8x128 lo shapeCasts_S8x128_S1x8x128) shapeCasts_S1x8x128_S1x8x1x128)
      (shapeCast S1x8x1x128 (shapeCast S1x8x128 hi shapeCasts_S8x128_S1x8x128) shapeCasts_S1x8x128_S1x8x1x128)
      bitcasts_S1x8x2x128_w16_S1x8x1x128_w32 x
      = if (x 2).val = 0 then lo (ix2 (x 1) (x 3)) else hi (ix2 (x 1) (x 3)) := by
  obtain ⟨a, s, h, n, rfl⟩ : ∃ (a : Fin 1) (s : Fin 8) (h : Fin 2) (n : Fin 128), x = ix4 a s h n :=
    ⟨x 0, x 1, x 2, x 3, by funext t; fin_cases t <;> rfl⟩
  obtain rfl : a = 0 := Subsingleton.elim _ _
  fin_cases h <;> simp only [pointwise] <;> rfl

section Back

variable (arg3 : Memref sig .tc .vmem S2x4x2x8x128 .i32) (arg4 : Memref sig .tc .vmem S1x1024 .f32)
  (arg10 : Memref sig .tc .vmem S512x1024 .i32)
  (X3 : BufTy.Contents (Elt F) arg3.view.ty) (X4 : BufTy.Contents (Elt F) arg4.view.ty)
  (X10 : BufTy.Contents (Elt F) arg10.view.ty)
  (k : Fin k0_t1_loop.trips)

/-- Every piece of the weight rows holds what `weightRows` says at its indices. -/
theorem rowPiece_apply (l : Fin 8) (q jj : Fin 4) (x : (rowPiece arg3 arg4 arg10 X3 X4 X10 k l q jj).1.shape.Idx) :
    (rowPiece arg3 arg4 arg10 X3 X4 X10 k l q jj).2 x
      = weightRows arg3 arg4 arg10 X3 X4 X10 k ((rowPiece arg3 arg4 arg10 X3 X4 X10 k l q jj).1.emb x) := by
  have hx0 : (x 0).val < 1 := (x 0).isLt
  have hx1 : (x 1).val < 8 := (x 1).isLt
  have e0 : (rowPiece arg3 arg4 arg10 X3 X4 X10 k l q jj).1.emb x 0 = l :=
    Fin.ext (show l.val + 1 * (x 0).val = l.val by omega)
  have e1 : ((rowPiece arg3 arg4 arg10 X3 X4 X10 k l q jj).1.emb x 1).val = 32 * q.val + jj.val + 4 * (x 1).val := rfl
  have e2 : ((rowPiece arg3 arg4 arg10 X3 X4 X10 k l q jj).1.emb x 2).val = (x 2).val :=
    show 0 + 1 * (x 2).val = (x 2).val by omega
  have e3 : (rowPiece arg3 arg4 arg10 X3 X4 X10 k l q jj).1.emb x 3 = x 3 :=
    Fin.ext (show 0 + 1 * (x 3).val = (x 3).val by omega)
  have hq : ∀ h, (⟨((rowPiece arg3 arg4 arg10 X3 X4 X10 k l q jj).1.emb x 1).val / 32, h⟩ : Fin 4) = q :=
    fun _ => Fin.ext (show _ / 32 = q.val by rw [e1]; omega)
  have hj : ∀ h, (⟨((rowPiece arg3 arg4 arg10 X3 X4 X10 k l q jj).1.emb x 1).val % 4, h⟩ : Fin 4) = jj :=
    fun _ => Fin.ext (show _ % 4 = jj.val by rw [e1]; omega)
  have hs : ∀ h, (⟨((rowPiece arg3 arg4 arg10 X3 X4 X10 k l q jj).1.emb x 1).val % 32 / 4, h⟩ : Fin 8) = x 1 :=
    fun _ => Fin.ext (show _ % 32 / 4 = (x 1).val by rw [e1]; omega)
  unfold weightRows
  rw [e0, e2, e3, hq, hj, hs]
  exact pack_apply _ _ x

/-- Every index of the weight rows lies in one of a trip's pieces. -/
theorem rowPieces_cover (y : S8x128x2x128.Idx) : ∃ p ∈ rowPieces arg3 arg4 arg10 X3 X4 X10 k, y ∈ p.1.set := by
  have h1 : (y 1).val < 128 := (y 1).isLt
  have hl : ∀ l : Fin 8, l ∈ ([7, 6, 5, 4, 3, 2, 1, 0] : List (Fin 8)) := by decide
  have hq : ∀ l : Fin 4, l ∈ ([3, 2, 1, 0] : List (Fin 4)) := by decide
  refine ⟨rowPiece arg3 arg4 arg10 X3 X4 X10 k (y 0) ⟨(y 1).val / 32, by omega⟩ ⟨(y 1).val % 4, by omega⟩, ?_, ?_⟩
  · exact List.mem_flatMap.2 ⟨_, hl _, List.mem_flatMap.2 ⟨_, hq _, List.mem_map.2 ⟨_, hq _, rfl⟩⟩⟩
  · rw [LoadRect.mem_set]
    intro a
    match a with
    | ⟨0, _⟩ => exact ⟨0, Nat.one_pos, show (y 0).val = (y 0).val + 1 * 0 by omega⟩
    | ⟨1, _⟩ => exact ⟨(y 1).val % 32 / 4, show _ < 8 by omega,
        show (y 1).val = 32 * ((y 1).val / 32) + (y 1).val % 4 + 4 * ((y 1).val % 32 / 4) by omega⟩
    | ⟨2, _⟩ => exact ⟨(y 2).val, (y 2).isLt, show (y 2).val = 0 + 1 * (y 2).val by omega⟩
    | ⟨3, _⟩ => exact ⟨(y 3).val, (y 3).isLt, show (y 3).val = 0 + 1 * (y 3).val by omega⟩

/-- The weight rows read a row tile at a time after a trip's stores, whatever they held before. -/
theorem read_slab (arg11 : Memref sig .tc .vmem S8x256x128 .bf16) (harg11 : arg11.IsWhole)
    (f11 : BufTy.Contents (Elt F) arg11.view.ty) (l : Fin 8) :
    arg11.view.readAt (Elt F) (Rect.unit (s := S8x256x128) ![l.val, 0, 0] S1x256x128.size (inb_slab l)).toLoadRect
        ((arg11.reshape S8x128x2x128 reshapes_S8x256x128_S8x128x2x128.1 reshapes_S8x256x128_S8x128x2x128.2
          harg11.contiguous).view.writes (Elt F) f11 (rowPieces arg3 arg4 arg10 X3 X4 X10 k))
      = weightsTile arg3 arg4 arg10 X3 X4 X10 k l := by
  funext x
  have hx0 : (x 0).val < 1 := (x 0).isLt
  have hx1 : (x 1).val < 256 := (x 1).isLt
  unfold weightsTile
  rw [← View.read_writes_apply_of_pieces (v := (arg11.reshape S8x128x2x128 reshapes_S8x256x128_S8x128x2x128.1
      reshapes_S8x256x128_S8x128x2x128.2 harg11.contiguous).view) (f := f11)
      (weightRows arg3 arg4 arg10 X3 X4 X10 k) (rowPieces arg3 arg4 arg10 X3 X4 X10 k) ?_ _
      (rowPieces_cover arg3 arg4 arg10 X3 X4 X10 k _)]
  · show arg11.view.read (Elt F) _ _ = arg11.view.read (Elt F) _ (Shape.reshapeEquiv reshapes_S8x256x128_S8x128x2x128.1 _)
    refine congrArg _ (Eq.symm ?_)
    refine Shape.reshapeEquiv_eq_of_vals _ _ _ _ _ (rowMajor_val3 _ 32768 128 rfl rfl) (rowMajor_val4 _ 32768 256 128 rfl rfl rfl) ?_
    show (l.val + 1 * (x 0).val) * 32768 + (0 + 1 * (x 1).val) * 128 + (0 + 1 * (x 2).val)
      = l.val * 32768 + (x 1).val / 2 * 256 + (x 1).val % 2 * 128 + (x 2).val
    omega
  · intro p hp x
    obtain ⟨l, _, hp⟩ := List.mem_flatMap.1 hp
    obtain ⟨q, _, hp⟩ := List.mem_flatMap.1 hp
    obtain ⟨jj, _, rfl⟩ := List.mem_map.1 hp
    exact rowPiece_apply arg3 arg4 arg10 X3 X4 X10 k l q jj x

end Back

variable (𝒱 : Variants) (c : Dev nD) (bd : Option 𝒱.V) (i : grid0.Coords)
  (arg1 : Memref sig .tc .vmem S1152x1024 .fp8e5m2) (harg1 : arg1.IsWhole)
  (arg2 : Memref sig .tc .vmem S2x1024x512 .i8) (harg2 : arg2.IsWhole)
  (arg3 : Memref sig .tc .vmem S2x4x2x8x128 .i32) (harg3 : arg3.IsWhole)
  (arg4 : Memref sig .tc .vmem S1x1024 .f32) (harg4 : arg4.IsWhole)
  (arg5 : Memref sig .tc .vmem S1152x128 .f32) (harg5 : arg5.IsWhole)
  (arg6 : Memref sig .tc .hbm S1x2048 .f32) (harg6 : arg6.IsWhole)
  (arg7 : Memref sig .tc .vmem S1152x4096 .bf16) (harg7 : arg7.IsWhole)
  (arg8 : Memref sig .tc .vmem S16x1152x256 .f32) (harg8 : arg8.IsWhole)
  (arg9 : Memref sig .tc .vmem S1152x1024 .bf16) (harg9 : arg9.IsWhole)
  (arg10 : Memref sig .tc .vmem S512x1024 .i32) (harg10 : arg10.IsWhole)
  (arg11 : Memref sig .tc .vmem S8x256x128 .bf16) (harg11 : arg11.IsWhole)
  (X3 : BufTy.Contents (Elt F) arg3.view.ty) (X4 : BufTy.Contents (Elt F) arg4.view.ty)
  (X9 : BufTy.Contents (Elt F) arg9.view.ty) (X10 : BufTy.Contents (Elt F) arg10.view.ty)

set_option maxHeartbeats 8000000 in
/-- A trip stores the 128 pieces of the weight rows. -/
theorem trip_rows (k : Fin k0_t1_loop.trips) (f11 : BufTy.Contents (Elt F) arg11.view.ty) :
    (trip (F := F) 𝒱 c bd i arg1 harg1 arg2 harg2 arg3 harg3 arg4 harg4 arg5 harg5 arg6 harg6 arg7 harg7 arg8 harg8 arg9 harg9 arg10 harg10 arg11 harg11 X3 X4 X9 X10 k).1 f11
      = (arg11.reshape S8x128x2x128 reshapes_S8x256x128_S8x128x2x128.1 reshapes_S8x256x128_S8x128x2x128.2
          harg11.contiguous).view.writes (Elt F) f11 (rowPieces arg3 arg4 arg10 X3 X4 X10 k) := by
  unfold trip
  with_unfolding_all rfl

set_option maxHeartbeats 8000000 in
/-- A trip stores one piece of the sums, which does not depend on what the weight rows held before. -/
theorem trip_sums (k : Fin k0_t1_loop.trips) (f8 : BufTy.Contents (Elt F) arg8.view.ty) (f11 : BufTy.Contents (Elt F) arg11.view.ty) :
    (trip (F := F) 𝒱 c bd i arg1 harg1 arg2 harg2 arg3 harg3 arg4 harg4 arg5 harg5 arg6 harg6 arg7 harg7 arg8 harg8 arg9 harg9 arg10 harg10 arg11 harg11 X3 X4 X9 X10 k).2.1 f8 f11 = [sumPiece arg3 arg4 arg9 arg10 X3 X4 X9 X10 k arg8 f8] := by
  have h : (trip (F := F) 𝒱 c bd i arg1 harg1 arg2 harg2 arg3 harg3 arg4 harg4 arg5 harg5 arg6 harg6 arg7 harg7 arg8 harg8 arg9 harg9 arg10 harg10 arg11 harg11 X3 X4 X9 X10 k).2.1 f8 f11
      = [⟨Rect.unit (s := S16x1152x256) (k0_off9 k) S1x1152x256.size (k0_off9_inb k),
    k0_pay4 (k0_pay1457
      (arg11.view.readAt (Elt F) (Rect.unit (s := S8x256x128) ![((0 : Fin 8)).val, 0, 0] S1x256x128.size (inb_slab 0)).toLoadRect ((trip (F := F) 𝒱 c bd i arg1 harg1 arg2 harg2 arg3 harg3 arg4 harg4 arg5 harg5 arg6 harg6 arg7 harg7 arg8 harg8 arg9 harg9 arg10 harg10 arg11 harg11 X3 X4 X9 X10 k).1 f11))
      (arg11.view.readAt (Elt F) (Rect.unit (s := S8x256x128) ![((1 : Fin 8)).val, 0, 0] S1x256x128.size (inb_slab 1)).toLoadRect ((trip (F := F) 𝒱 c bd i arg1 harg1 arg2 harg2 arg3 harg3 arg4 harg4 arg5 harg5 arg6 harg6 arg7 harg7 arg8 harg8 arg9 harg9 arg10 harg10 arg11 harg11 X3 X4 X9 X10 k).1 f11))
      (arg11.view.readAt (Elt F) (Rect.unit (s := S8x256x128) ![((2 : Fin 8)).val, 0, 0] S1x256x128.size (inb_slab 2)).toLoadRect ((trip (F := F) 𝒱 c bd i arg1 harg1 arg2 harg2 arg3 harg3 arg4 harg4 arg5 harg5 arg6 harg6 arg7 harg7 arg8 harg8 arg9 harg9 arg10 harg10 arg11 harg11 X3 X4 X9 X10 k).1 f11))
      (arg11.view.readAt (Elt F) (Rect.unit (s := S8x256x128) ![((3 : Fin 8)).val, 0, 0] S1x256x128.size (inb_slab 3)).toLoadRect ((trip (F := F) 𝒱 c bd i arg1 harg1 arg2 harg2 arg3 harg3 arg4 harg4 arg5 harg5 arg6 harg6 arg7 harg7 arg8 harg8 arg9 harg9 arg10 harg10 arg11 harg11 X3 X4 X9 X10 k).1 f11))
      (arg11.view.readAt (Elt F) (Rect.unit (s := S8x256x128) ![((4 : Fin 8)).val, 0, 0] S1x256x128.size (inb_slab 4)).toLoadRect ((trip (F := F) 𝒱 c bd i arg1 harg1 arg2 harg2 arg3 harg3 arg4 harg4 arg5 harg5 arg6 harg6 arg7 harg7 arg8 harg8 arg9 harg9 arg10 harg10 arg11 harg11 X3 X4 X9 X10 k).1 f11))
      (arg11.view.readAt (Elt F) (Rect.unit (s := S8x256x128) ![((5 : Fin 8)).val, 0, 0] S1x256x128.size (inb_slab 5)).toLoadRect ((trip (F := F) 𝒱 c bd i arg1 harg1 arg2 harg2 arg3 harg3 arg4 harg4 arg5 harg5 arg6 harg6 arg7 harg7 arg8 harg8 arg9 harg9 arg10 harg10 arg11 harg11 X3 X4 X9 X10 k).1 f11))
      (arg11.view.readAt (Elt F) (Rect.unit (s := S8x256x128) ![((6 : Fin 8)).val, 0, 0] S1x256x128.size (inb_slab 6)).toLoadRect ((trip (F := F) 𝒱 c bd i arg1 harg1 arg2 harg2 arg3 harg3 arg4 harg4 arg5 harg5 arg6 harg6 arg7 harg7 arg8 harg8 arg9 harg9 arg10 harg10 arg11 harg11 X3 X4 X9 X10 k).1 f11))
      (arg11.view.readAt (Elt F) (Rect.unit (s := S8x256x128) ![((7 : Fin 8)).val, 0, 0] S1x256x128.size (inb_slab 7)).toLoadRect ((trip (F := F) 𝒱 c bd i arg1 harg1 arg2 harg2 arg3 harg3 arg4 harg4 arg5 harg5 arg6 harg6 arg7 harg7 arg8 harg8 arg9 harg9 arg10 harg10 arg11 harg11 X3 X4 X9 X10 k).1 f11))
      (arg9.view.readAt (Elt F) (Rect.unit (s := S1152x1024) ![0, 0] S1152x1024.size inb_S1152x1024_S1152x1024_0_0).toLoadRect X9))
      (arg8.view.readAt (Elt F) (Rect.unit (s := S16x1152x256) (k0_off9 k) S1x1152x256.size (k0_off9_inb k)).toLoadRect f8)⟩] := by
    unfold trip
    with_unfolding_all rfl
  rw [h, trip_rows]
  unfold sumPiece product
  rw [read_slab arg3 arg4 arg10 X3 X4 X10 k arg11 harg11 f11 0, read_slab arg3 arg4 arg10 X3 X4 X10 k arg11 harg11 f11 1, read_slab arg3 arg4 arg10 X3 X4 X10 k arg11 harg11 f11 2, read_slab arg3 arg4 arg10 X3 X4 X10 k arg11 harg11 f11 3, read_slab arg3 arg4 arg10 X3 X4 X10 k arg11 harg11 f11 4, read_slab arg3 arg4 arg10 X3 X4 X10 k arg11 harg11 f11 5, read_slab arg3 arg4 arg10 X3 X4 X10 k arg11 harg11 f11 6, read_slab arg3 arg4 arg10 X3 X4 X10 k arg11 harg11 f11 7]

end Cert.KernelDxIdeal.Rows

end
-- ==== Proof.DxLoopIdeal.lean ====
/-
  The loop over column chunks of `KernelDxIdeal` by its invariant: the sums hold the pieces of the trips before, one for
  each trip, and the weight rows hold something.
-/
module

public import proofs.«01_k».proof.Proof.DxRowsIdeal

@[expose] public section

set_option maxRecDepth 60000
set_option backward.proofsInPublic true

noncomputable section

namespace Cert.KernelDxIdeal.RowLoop

open Cert.KernelDxIdeal Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame. -/
local notation "𝕄" => MT nD τ sig Unit (Elt F) ℕ (UR sig nD τ) ℕ

section Pieces

variable (arg3 : Memref sig .tc .vmem S2x4x2x8x128 .i32) (arg4 : Memref sig .tc .vmem S1x1024 .f32)
  (arg8 : Memref sig .tc .vmem S16x1152x256 .f32)
  (arg9 : Memref sig .tc .vmem S1152x1024 .bf16) (arg10 : Memref sig .tc .vmem S512x1024 .i32)
  (X3 : BufTy.Contents (Elt F) arg3.view.ty) (X4 : BufTy.Contents (Elt F) arg4.view.ty)
  (X9 : BufTy.Contents (Elt F) arg9.view.ty) (X10 : BufTy.Contents (Elt F) arg10.view.ty)
  (G8 : BufTy.Contents (Elt F) arg8.view.ty)

/-- The pieces of the sums after one more trip. -/
def sumsStep (k : ℕ) (prev : List (View.Piece (Elt F) S16x1152x256 .f32)) : List (View.Piece (Elt F) S16x1152x256 .f32) :=
  if h : k < k0_t1_loop.trips then
    Rows.sumPiece arg3 arg4 arg9 arg10 X3 X4 X9 X10 ⟨k, h⟩ arg8 (arg8.view.writes (Elt F) G8 prev) :: prev
  else prev

/-- The pieces of the sums that the trips before `k` stored, last first, over what the sums held at the start. -/
def sums : ℕ → List (View.Piece (Elt F) S16x1152x256 .f32)
  | 0 => []
  | k + 1 => sumsStep arg3 arg4 arg8 arg9 arg10 X3 X4 X9 X10 G8 k (sums k)

/-- One more trip stores one more piece. -/
theorem sums_succ (k : Fin k0_t1_loop.trips) : sums arg3 arg4 arg8 arg9 arg10 X3 X4 X9 X10 G8 (k.val + 1)
    = Rows.sumPiece arg3 arg4 arg9 arg10 X3 X4 X9 X10 k arg8
        (arg8.view.writes (Elt F) G8 (sums arg3 arg4 arg8 arg9 arg10 X3 X4 X9 X10 G8 k.val))
      :: sums arg3 arg4 arg8 arg9 arg10 X3 X4 X9 X10 G8 k.val := by
  rw [sums.eq_2]; unfold sumsStep; exact dif_pos k.isLt

end Pieces

variable (𝒱 : Variants) (c : Dev nD) (bd : Option 𝒱.V) (i : grid0.Coords)
  (arg1 : Memref sig .tc .vmem S1152x1024 .fp8e5m2) (harg1 : arg1.IsWhole)
  (arg2 : Memref sig .tc .vmem S2x1024x512 .i8) (harg2 : arg2.IsWhole)
  (arg3 : Memref sig .tc .vmem S2x4x2x8x128 .i32) (harg3 : arg3.IsWhole)
  (arg4 : Memref sig .tc .vmem S1x1024 .f32) (harg4 : arg4.IsWhole)
  (arg5 : Memref sig .tc .vmem S1152x128 .f32) (harg5 : arg5.IsWhole)
  (arg6 : Memref sig .tc .hbm S1x2048 .f32) (harg6 : arg6.IsWhole)
  (arg7 : Memref sig .tc .vmem S1152x4096 .bf16) (harg7 : arg7.IsWhole)
  (arg8 : Memref sig .tc .vmem S16x1152x256 .f32) (harg8 : arg8.IsWhole)
  (arg9 : Memref sig .tc .vmem S1152x1024 .bf16) (harg9 : arg9.IsWhole)
  (arg10 : Memref sig .tc .vmem S512x1024 .i32) (harg10 : arg10.IsWhole)
  (arg11 : Memref sig .tc .vmem S8x256x128 .bf16) (harg11 : arg11.IsWhole)
  (X3 : BufTy.Contents (Elt F) arg3.view.ty) (X4 : BufTy.Contents (Elt F) arg4.view.ty)
  (X9 : BufTy.Contents (Elt F) arg9.view.ty) (X10 : BufTy.Contents (Elt F) arg10.view.ty)

/-- The invariant before trip `k`: the four buffers the loop reads at their contents, the sums at the pieces of the trips before, the
    weight rows at something. -/
abbrev inv (G8 : BufTy.Contents (Elt F) arg8.view.ty) (k : ℕ) (_u : PUnit) : sProp 𝕄 :=
  iprop((arg3.view.loc (c : Thread nD τ) ↦[arg3.view.set]{fullShare} X3)
    ∗ (arg4.view.loc (c : Thread nD τ) ↦[arg4.view.set]{fullShare} X4)
    ∗ (arg9.view.loc (c : Thread nD τ) ↦[arg9.view.set]{fullShare} X9)
    ∗ (arg10.view.loc (c : Thread nD τ) ↦[arg10.view.set]{fullShare} X10)
    ∗ (∃ f, (arg8.view.loc (c : Thread nD τ) ↦[arg8.view.set]{fullShare} f) ∗ ⌜f = arg8.view.writes (Elt F) G8 (sums arg3 arg4 arg8 arg9 arg10 X3 X4 X9 X10 G8 k)⌝)
    ∗ (∃ f, arg11.view.loc (c : Thread nD τ) ↦[arg11.view.set]{fullShare} f))

set_option warn.classDefReducibility false in
/-- The loop by its invariant. -/
@[sl_loop] def loopInv (E : Set ℕ) (G8 : BufTy.Contents (Elt F) arg8.view.ty) :
    LoopInvTy_k0_t1 (F := F) Unit ℕ (UR sig nD τ) ℕ 𝒱 c bd E i arg1 harg1 arg2 harg2 arg3 harg3 arg4 harg4 arg5 harg5 arg6
      harg6 arg7 harg7 arg8 harg8 arg9 harg9 arg10 harg10 arg11 harg11 where
  inv := inv c arg3 arg4 arg8 arg9 arg10 arg11 X3 X4 X9 X10 G8
  step k acc := by
    iintro ⟨H3, H4, H9, H10, ⟨%f8, H8, %h8⟩, ⟨%f11, H11⟩⟩
    iapply (wp_wand_r Idealize.ShloMosaic.frame (wpE (defs₀ (F := F)) 𝒱 (c : Thread nD τ) bd) E)
    isplitl [H3 H4 H9 H10 H8 H11]
    · iapply ((trip (F := F) 𝒱 c bd i arg1 harg1 arg2 harg2 arg3 harg3 arg4 harg4 arg5 harg5 arg6
      harg6 arg7 harg7 arg8 harg8 arg9 harg9 arg10 harg10 arg11 harg11 X3 X4 X9 X10 k).2.2 E f8 f11)
      isplitl [H3]; · iexact H3
      isplitl [H4]; · iexact H4
      isplitl [H9]; · iexact H9
      isplitl [H10]; · iexact H10
      isplitl [H8]; · iexact H8
      iexact H11
    · iintro %_ ⟨H3, H4, H9, H10, H8, H11⟩
      isplitl [H3]; · iexact H3
      isplitl [H4]; · iexact H4
      isplitl [H9]; · iexact H9
      isplitl [H10]; · iexact H10
      isplitl [H8]
      · iexists _; isplitl [H8]; · iexact H8
        ipureintro
        rw [sums_succ, Rows.trip_sums, h8]
        rfl
      iexists _; iexact H11

end Cert.KernelDxIdeal.RowLoop

end
-- ==== Proof.DxPointIdeal.lean ====
/-
  The grid points of `KernelDxIdeal`: which branches a point takes, where the output is idle, and the buffers a point runs on.
-/
module

public import proofs.«01_k».proof.Proof.DxLoopIdeal
public import proofs.«01_k».proof.Proof.Gen.KernelDxIdeal.Frame
public import Idealize.ShloMosaic.Lib.Claim

@[expose] public section

set_option maxRecDepth 60000

noncomputable section

namespace Cert.KernelDxIdeal.Run

open Cert.KernelDxIdeal Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the frame. -/
local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond0_1, k0_cond2, e0]
    word_cmp
   : ∀ t : Fin grid0.N, cond0_1 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 5, through which its contents are stated (`View.read_writes_of_cover`: the
    choice does not matter). -/
abbrev VO0_5 : View sig .tc .vmem S1152x4096 .bf16 := (Memref.whole cc0_stg5_0 : Memref sig .tc .vmem S1152x4096 .bf16).view
/-- Each window's current staging memref at point `t`, spelled as the pipeline passes it (`bodyAt0`), and its wholeness. -/
abbrev ms0_0 (t : Fin cfg0.N) : Memref sig .tc .vmem S1152x1024 .fp8e5m2 := win0_0.stage (cfg0.slots t 0)
/-- That memref is whole. -/
abbrev hs0_0 (t : Fin cfg0.N) : (ms0_0 t).IsWhole := hstage0_0 ((cfg0.slots t 0).cast nbuf0_0)
/-- The next one. -/
abbrev ms0_1 (t : Fin cfg0.N) : Memref sig .tc .vmem S2x1024x512 .i8 := win0_1.stage (cfg0.slots t 1)
/-- That memref is whole. -/
abbrev hs0_1 (t : Fin cfg0.N) : (ms0_1 t).IsWhole := hstage0_1 ((cfg0.slots t 1).cast nbuf0_1)
/-- The next one. -/
abbrev ms0_2 (t : Fin cfg0.N) : Memref sig .tc .vmem S2x4x2x8x128 .i32 := win0_2.stage (cfg0.slots t 2)
/-- That memref is whole. -/
abbrev hs0_2 (t : Fin cfg0.N) : (ms0_2 t).IsWhole := hstage0_2 ((cfg0.slots t 2).cast nbuf0_2)
/-- The next one. -/
abbrev ms0_3 (t : Fin cfg0.N) : Memref sig .tc .vmem S1x1024 .f32 := win0_3.stage (cfg0.slots t 3)
/-- That memref is whole. -/
abbrev hs0_3 (t : Fin cfg0.N) : (ms0_3 t).IsWhole := hstage0_3 ((cfg0.slots t 3).cast nbuf0_3)
/-- The next one. -/
abbrev ms0_4 (t : Fin cfg0.N) : Memref sig .tc .vmem S1152x128 .f32 := win0_4.stage (cfg0.slots t 4)
/-- That memref is whole. -/
abbrev hs0_4 (t : Fin cfg0.N) : (ms0_4 t).IsWhole := hstage0_4 ((cfg0.slots t 4).cast nbuf0_4)
/-- The next one. -/
abbrev ms0_5 (t : Fin cfg0.N) : Memref sig .tc .vmem S1152x4096 .bf16 := win0_5.stage (cfg0.slots t 5)
/-- That memref is whole. -/
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S16x1152x256 .f32 := Memref.whole cc0_scratch0
/-- The next one. -/
abbrev scM0_1 : Memref sig .tc .vmem S1152x1024 .bf16 := Memref.whole cc0_scratch1
/-- The next one. -/
abbrev scM0_2 : Memref sig .tc .vmem S512x1024 .i32 := Memref.whole cc0_scratch2
/-- The next one. -/
abbrev scM0_3 : Memref sig .tc .vmem S8x256x128 .bf16 := Memref.whole cc0_scratch3
/-- The scratch `arg8` the kernel carries between points, as a view: what it holds is stated through it. -/
abbrev VS0_0 : View sig .tc .vmem S16x1152x256 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelDxIdeal.Run

end
-- ==== Proof.DxRunIdeal.lean ====
/-
  The body of `KernelDxIdeal` run at the first point, at a point between, and at the last point: the pieces it stores over the
  sums and, at the last point, over the output.
-/
module

public import proofs.«01_k».proof.Proof.DxPointIdeal

@[expose] public section

set_option maxRecDepth 60000

noncomputable section

namespace Cert.KernelDxIdeal.Run

open Cert.KernelDxIdeal Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the frame. -/
local notation "𝕄" => MT nD τ sig Unit (Elt F) ℕ (UR sig nD τ) ℕ

set_option maxHeartbeats 8000000 in
/-- The body at the first point: the sums are zeroed and the loop adds to them. On whole buffers, the inputs at their contents, it runs
    to the inputs as they were, its pieces written over the sums, the rest at something. -/
def kernelRun0_A (c : Dev nD) (i : grid0.Coords) (arg1 : Memref sig .tc .vmem S1152x1024 .fp8e5m2) (harg1 : arg1.IsWhole) (arg2 : Memref sig .tc .vmem S2x1024x512 .i8) (harg2 : arg2.IsWhole) (arg3 : Memref sig .tc .vmem S2x4x2x8x128 .i32) (harg3 : arg3.IsWhole) (arg4 : Memref sig .tc .vmem S1x1024 .f32) (harg4 : arg4.IsWhole) (arg5 : Memref sig .tc .vmem S1152x128 .f32) (harg5 : arg5.IsWhole) (arg7 : Memref sig .tc .vmem S1152x4096 .bf16) (harg7 : arg7.IsWhole) (arg8 : Memref sig .tc .vmem S16x1152x256 .f32) (harg8 : arg8.IsWhole) (arg9 : Memref sig .tc .vmem S1152x1024 .bf16) (harg9 : arg9.IsWhole) (arg10 : Memref sig .tc .vmem S512x1024 .i32) (harg10 : arg10.IsWhole) (arg11 : Memref sig .tc .vmem S8x256x128 .bf16) (harg11 : arg11.IsWhole) (hc0 : cond0_0 i) (hc1 : ¬cond0_1 i)
    (x0 : Vec F S1152x1024 .fp8e5m2) (x1 : Vec F S2x1024x512 .i8) (x2 : Vec F S2x4x2x8x128 .i32) (x3 : Vec F S1x1024 .f32) (x4 : Vec F S1152x128 .f32) :
    Σ' (L5 : List (View.Piece (Elt F) S1152x4096 .bf16)), { LS0 : List (View.Piece (Elt F) S16x1152x256 .f32) //
      ∀ (xi5 : Vec F S1152x4096 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare xi5 ∗ (∃ f, arg8.view.loc (c : Thread nD τ) ↦[arg8.view.set]{fullShare} arg8.view.writes (Elt F) f LS0) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_dx i arg1 harg1 arg2 harg2 arg3 harg3 arg4 harg4 arg5 harg5 (Memref.whole main_arg5) (Memref.isWhole_whole _) arg7 harg7 arg8 harg8 arg9 harg9 arg10 harg10 arg11 harg11) K } := by
  refine ⟨[], ?_, fun xi5 E K => ?run⟩
  case run =>
    simp only [cc0_dx_eq_skeleton]; unfold cc0_dx_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg7.read_unread _
      iexact H5
    isplitl [HS0]; · iexists _; iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

set_option maxHeartbeats 8000000 in
/-- The body at a point between: the loop adds to the sums of the point before. On whole buffers, the inputs at their contents, it runs
    to the inputs as they were, its pieces written over the sums, the rest at something. -/
def kernelRun0_B (c : Dev nD) (i : grid0.Coords) (arg1 : Memref sig .tc .vmem S1152x1024 .fp8e5m2) (harg1 : arg1.IsWhole) (arg2 : Memref sig .tc .vmem S2x1024x512 .i8) (harg2 : arg2.IsWhole) (arg3 : Memref sig .tc .vmem S2x4x2x8x128 .i32) (harg3 : arg3.IsWhole) (arg4 : Memref sig .tc .vmem S1x1024 .f32) (harg4 : arg4.IsWhole) (arg5 : Memref sig .tc .vmem S1152x128 .f32) (harg5 : arg5.IsWhole) (arg7 : Memref sig .tc .vmem S1152x4096 .bf16) (harg7 : arg7.IsWhole) (arg8 : Memref sig .tc .vmem S16x1152x256 .f32) (harg8 : arg8.IsWhole) (arg9 : Memref sig .tc .vmem S1152x1024 .bf16) (harg9 : arg9.IsWhole) (arg10 : Memref sig .tc .vmem S512x1024 .i32) (harg10 : arg10.IsWhole) (arg11 : Memref sig .tc .vmem S8x256x128 .bf16) (harg11 : arg11.IsWhole) (hc0 : ¬cond0_0 i) (hc1 : ¬cond0_1 i)
    (x0 : Vec F S1152x1024 .fp8e5m2) (x1 : Vec F S2x1024x512 .i8) (x2 : Vec F S2x4x2x8x128 .i32) (x3 : Vec F S1x1024 .f32) (x4 : Vec F S1152x128 .f32) (xs0 : Vec F S16x1152x256 .f32) :
    Σ' (L5 : List (View.Piece (Elt F) S1152x4096 .bf16)), { LS0 : List (View.Piece (Elt F) S16x1152x256 .f32) //
      ∀ (xi5 : Vec F S1152x4096 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare xi5 ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare xi5 ∗ (∃ f, arg8.view.loc (c : Thread nD τ) ↦[arg8.view.set]{fullShare} arg8.view.writes (Elt F) f LS0) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_dx i arg1 harg1 arg2 harg2 arg3 harg3 arg4 harg4 arg5 harg5 (Memref.whole main_arg5) (Memref.isWhole_whole _) arg7 harg7 arg8 harg8 arg9 harg9 arg10 harg10 arg11 harg11) K } := by
  refine ⟨[], ?_, fun xi5 E K => ?run⟩
  case run =>
    simp only [cc0_dx_eq_skeleton]; unfold cc0_dx_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf5; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg7.read_unread _
      iexact H5
    isplitl [HS0]; · iexists _; iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

set_option maxHeartbeats 8000000 in
/-- The body at the last point: the loop adds to the sums of the point before, and the output is stored. On whole buffers, the inputs at their contents, it runs
    to the inputs as they were, its pieces written over the sums and over the output, the rest at something. -/
def kernelRun0_C (c : Dev nD) (i : grid0.Coords) (arg1 : Memref sig .tc .vmem S1152x1024 .fp8e5m2) (harg1 : arg1.IsWhole) (arg2 : Memref sig .tc .vmem S2x1024x512 .i8) (harg2 : arg2.IsWhole) (arg3 : Memref sig .tc .vmem S2x4x2x8x128 .i32) (harg3 : arg3.IsWhole) (arg4 : Memref sig .tc .vmem S1x1024 .f32) (harg4 : arg4.IsWhole) (arg5 : Memref sig .tc .vmem S1152x128 .f32) (harg5 : arg5.IsWhole) (arg7 : Memref sig .tc .vmem S1152x4096 .bf16) (harg7 : arg7.IsWhole) (arg8 : Memref sig .tc .vmem S16x1152x256 .f32) (harg8 : arg8.IsWhole) (arg9 : Memref sig .tc .vmem S1152x1024 .bf16) (harg9 : arg9.IsWhole) (arg10 : Memref sig .tc .vmem S512x1024 .i32) (harg10 : arg10.IsWhole) (arg11 : Memref sig .tc .vmem S8x256x128 .bf16) (harg11 : arg11.IsWhole) (hc0 : ¬cond0_0 i) (hc1 : cond0_1 i)
    (x0 : Vec F S1152x1024 .fp8e5m2) (x1 : Vec F S2x1024x512 .i8) (x2 : Vec F S2x4x2x8x128 .i32) (x3 : Vec F S1x1024 .f32) (x4 : Vec F S1152x128 .f32) (xs0 : Vec F S16x1152x256 .f32) :
    Σ' (L5 : List (View.Piece (Elt F) S1152x4096 .bf16)), { LS0 : List (View.Piece (Elt F) S16x1152x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_dx i arg1 harg1 arg2 harg2 arg3 harg3 arg4 harg4 arg5 harg5 (Memref.whole main_arg5) (Memref.isWhole_whole _) arg7 harg7 arg8 harg8 arg9 harg9 arg10 harg10 arg11 harg11) K } := by
  refine ⟨?_, ?_, fun E K => ?run⟩
  case run =>
    simp only [cc0_dx_eq_skeleton]; unfold cc0_dx_skel
    simp only [k0_part249_eq_skeleton, k0_part250_eq_skeleton, k0_part251_eq_skeleton, k0_part252_eq_skeleton, k0_part253_eq_skeleton, k0_part254_eq_skeleton, k0_part255_eq_skeleton, k0_part256_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelDxIdeal.Run

end
-- ==== Proof.DxFrameIdeal.lean ====
/-
  What the sums and the output of `KernelDxIdeal` hold point by point, and its frame: every run ends, with the argument arrays
  as they were.
-/
module

public import proofs.«01_k».proof.Proof.DxRunIdeal

@[expose] public section

set_option maxRecDepth 60000

noncomputable section

namespace Cert.KernelDxIdeal.Run

open Cert.KernelDxIdeal Cert.KernelDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the frame. -/
local notation "𝕄" => MT nD τ sig Unit (Elt F) ℕ (UR sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg1 : Memref sig .tc .vmem S1152x1024 .fp8e5m2) (harg1 : arg1.IsWhole) (arg2 : Memref sig .tc .vmem S2x1024x512 .i8) (harg2 : arg2.IsWhole) (arg3 : Memref sig .tc .vmem S2x4x2x8x128 .i32) (harg3 : arg3.IsWhole) (arg4 : Memref sig .tc .vmem S1x1024 .f32) (harg4 : arg4.IsWhole) (arg5 : Memref sig .tc .vmem S1152x128 .f32) (harg5 : arg5.IsWhole) (arg7 : Memref sig .tc .vmem S1152x4096 .bf16) (harg7 : arg7.IsWhole) (arg8 : Memref sig .tc .vmem S16x1152x256 .f32) (harg8 : arg8.IsWhole) (arg9 : Memref sig .tc .vmem S1152x1024 .bf16) (harg9 : arg9.IsWhole) (arg10 : Memref sig .tc .vmem S512x1024 .i32) (harg10 : arg10.IsWhole) (arg11 : Memref sig .tc .vmem S8x256x128 .bf16) (harg11 : arg11.IsWhole) (hc0 : cond0_0 i) (hc1 : ¬cond0_1 i)
    (x0 : Vec F S1152x1024 .fp8e5m2) (x1 : Vec F S2x1024x512 .i8) (x2 : Vec F S2x4x2x8x128 .i32) (x3 : Vec F S1x1024 .f32) (x4 : Vec F S1152x128 .f32) : Vec F S1152x4096 .bf16 :=
  VO0_5.read (Elt F) (VO0_5.writes (Elt F) VO0_5.junk (kernelRun0_A c i arg1 harg1 arg2 harg2 arg3 harg3 arg4 harg4 arg5 harg5 arg7 harg7 arg8 harg8 arg9 harg9 arg10 harg10 arg11 harg11 hc0 hc1 x0 x1 x2 x3 x4).1)

/-- Case A's pieces for scratch `arg8`, which the kernel carries between points, cover it: one of them a store of the WHOLE buffer . -/
theorem scover0_A_0 (c : Dev nD) (i : grid0.Coords) (arg1 : Memref sig .tc .vmem S1152x1024 .fp8e5m2) (harg1 : arg1.IsWhole) (arg2 : Memref sig .tc .vmem S2x1024x512 .i8) (harg2 : arg2.IsWhole) (arg3 : Memref sig .tc .vmem S2x4x2x8x128 .i32) (harg3 : arg3.IsWhole) (arg4 : Memref sig .tc .vmem S1x1024 .f32) (harg4 : arg4.IsWhole) (arg5 : Memref sig .tc .vmem S1152x128 .f32) (harg5 : arg5.IsWhole) (arg7 : Memref sig .tc .vmem S1152x4096 .bf16) (harg7 : arg7.IsWhole) (arg8 : Memref sig .tc .vmem S16x1152x256 .f32) (harg8 : arg8.IsWhole) (arg9 : Memref sig .tc .vmem S1152x1024 .bf16) (harg9 : arg9.IsWhole) (arg10 : Memref sig .tc .vmem S512x1024 .i32) (harg10 : arg10.IsWhole) (arg11 : Memref sig .tc .vmem S8x256x128 .bf16) (harg11 : arg11.IsWhole) (hc0 : cond0_0 i) (hc1 : ¬cond0_1 i)
    (x0 : Vec F S1152x1024 .fp8e5m2) (x1 : Vec F S2x1024x512 .i8) (x2 : Vec F S2x4x2x8x128 .i32) (x3 : Vec F S1x1024 .f32) (x4 : Vec F S1152x128 .f32) (y : S16x1152x256.Idx) :
    ∃ pc ∈ (kernelRun0_A c i arg1 harg1 arg2 harg2 arg3 harg3 arg4 harg4 arg5 harg5 arg7 harg7 arg8 harg8 arg9 harg9 arg10 harg10 arg11 harg11 hc0 hc1 x0 x1 x2 x3 x4).2.1, y ∈ pc.1.set :=
  View.cover_of_wholeMem (kernelRun0_A c i arg1 harg1 arg2 harg2 arg3 harg3 arg4 harg4 arg5 harg5 arg7 harg7 arg8 harg8 arg9 harg9 arg10 harg10 arg11 harg11 hc0 hc1 x0 x1 x2 x3 x4).2.1 (by sl_whole_mem) y

/-- What case A leaves in scratch `arg8`: its pieces read back over junk. -/
def sout0_A_0 (c : Dev nD) (i : grid0.Coords) (arg1 : Memref sig .tc .vmem S1152x1024 .fp8e5m2) (harg1 : arg1.IsWhole) (arg2 : Memref sig .tc .vmem S2x1024x512 .i8) (harg2 : arg2.IsWhole) (arg3 : Memref sig .tc .vmem S2x4x2x8x128 .i32) (harg3 : arg3.IsWhole) (arg4 : Memref sig .tc .vmem S1x1024 .f32) (harg4 : arg4.IsWhole) (arg5 : Memref sig .tc .vmem S1152x128 .f32) (harg5 : arg5.IsWhole) (arg7 : Memref sig .tc .vmem S1152x4096 .bf16) (harg7 : arg7.IsWhole) (arg8 : Memref sig .tc .vmem S16x1152x256 .f32) (harg8 : arg8.IsWhole) (arg9 : Memref sig .tc .vmem S1152x1024 .bf16) (harg9 : arg9.IsWhole) (arg10 : Memref sig .tc .vmem S512x1024 .i32) (harg10 : arg10.IsWhole) (arg11 : Memref sig .tc .vmem S8x256x128 .bf16) (harg11 : arg11.IsWhole) (hc0 : cond0_0 i) (hc1 : ¬cond0_1 i)
    (x0 : Vec F S1152x1024 .fp8e5m2) (x1 : Vec F S2x1024x512 .i8) (x2 : Vec F S2x4x2x8x128 .i32) (x3 : Vec F S1x1024 .f32) (x4 : Vec F S1152x128 .f32) : Vec F S16x1152x256 .f32 :=
  VS0_0.read (Elt F) (VS0_0.writes (Elt F) VS0_0.junk (kernelRun0_A c i arg1 harg1 arg2 harg2 arg3 harg3 arg4 harg4 arg5 harg5 arg7 harg7 arg8 harg8 arg9 harg9 arg10 harg10 arg11 harg11 hc0 hc1 x0 x1 x2 x3 x4).2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg1 : Memref sig .tc .vmem S1152x1024 .fp8e5m2) (harg1 : arg1.IsWhole) (arg2 : Memref sig .tc .vmem S2x1024x512 .i8) (harg2 : arg2.IsWhole) (arg3 : Memref sig .tc .vmem S2x4x2x8x128 .i32) (harg3 : arg3.IsWhole) (arg4 : Memref sig .tc .vmem S1x1024 .f32) (harg4 : arg4.IsWhole) (arg5 : Memref sig .tc .vmem S1152x128 .f32) (harg5 : arg5.IsWhole) (arg7 : Memref sig .tc .vmem S1152x4096 .bf16) (harg7 : arg7.IsWhole) (arg8 : Memref sig .tc .vmem S16x1152x256 .f32) (harg8 : arg8.IsWhole) (arg9 : Memref sig .tc .vmem S1152x1024 .bf16) (harg9 : arg9.IsWhole) (arg10 : Memref sig .tc .vmem S512x1024 .i32) (harg10 : arg10.IsWhole) (arg11 : Memref sig .tc .vmem S8x256x128 .bf16) (harg11 : arg11.IsWhole) (hc0 : ¬cond0_0 i) (hc1 : ¬cond0_1 i)
    (x0 : Vec F S1152x1024 .fp8e5m2) (x1 : Vec F S2x1024x512 .i8) (x2 : Vec F S2x4x2x8x128 .i32) (x3 : Vec F S1x1024 .f32) (x4 : Vec F S1152x128 .f32) (xs0 : Vec F S16x1152x256 .f32) : Vec F S1152x4096 .bf16 :=
  VO0_5.read (Elt F) (VO0_5.writes (Elt F) VO0_5.junk (kernelRun0_B c i arg1 harg1 arg2 harg2 arg3 harg3 arg4 harg4 arg5 harg5 arg7 harg7 arg8 harg8 arg9 harg9 arg10 harg10 arg11 harg11 hc0 hc1 x0 x1 x2 x3 x4 xs0).1)

/-- Case B's pieces for scratch `arg8`, which the kernel carries between points, cover it: 16 pieces of `S1x1152x256` tiling it. -/
theorem scover0_B_0 (c : Dev nD) (i : grid0.Coords) (arg1 : Memref sig .tc .vmem S1152x1024 .fp8e5m2) (harg1 : arg1.IsWhole) (arg2 : Memref sig .tc .vmem S2x1024x512 .i8) (harg2 : arg2.IsWhole) (arg3 : Memref sig .tc .vmem S2x4x2x8x128 .i32) (harg3 : arg3.IsWhole) (arg4 : Memref sig .tc .vmem S1x1024 .f32) (harg4 : arg4.IsWhole) (arg5 : Memref sig .tc .vmem S1152x128 .f32) (harg5 : arg5.IsWhole) (arg7 : Memref sig .tc .vmem S1152x4096 .bf16) (harg7 : arg7.IsWhole) (arg8 : Memref sig .tc .vmem S16x1152x256 .f32) (harg8 : arg8.IsWhole) (arg9 : Memref sig .tc .vmem S1152x1024 .bf16) (harg9 : arg9.IsWhole) (arg10 : Memref sig .tc .vmem S512x1024 .i32) (harg10 : arg10.IsWhole) (arg11 : Memref sig .tc .vmem S8x256x128 .bf16) (harg11 : arg11.IsWhole) (hc0 : ¬cond0_0 i) (hc1 : ¬cond0_1 i)
    (x0 : Vec F S1152x1024 .fp8e5m2) (x1 : Vec F S2x1024x512 .i8) (x2 : Vec F S2x4x2x8x128 .i32) (x3 : Vec F S1x1024 .f32) (x4 : Vec F S1152x128 .f32) (xs0 : Vec F S16x1152x256 .f32) (y : S16x1152x256.Idx) :
    ∃ pc ∈ (kernelRun0_B c i arg1 harg1 arg2 harg2 arg3 harg3 arg4 harg4 arg5 harg5 arg7 harg7 arg8 harg8 arg9 harg9 arg10 harg10 arg11 harg11 hc0 hc1 x0 x1 x2 x3 x4 xs0).2.1, y ∈ pc.1.set :=
  View.cover_of_tiledL (kernelRun0_B c i arg1 harg1 arg2 harg2 arg3 harg3 arg4 harg4 arg5 harg5 arg7 harg7 arg8 harg8 arg9 harg9 arg10 harg10 arg11 harg11 hc0 hc1 x0 x1 x2 x3 x4 xs0).2.1 S1x1152x256.size (by sl_kernel_rfl) y

/-- What case B leaves in scratch `arg8`: its pieces read back over junk. -/
def sout0_B_0 (c : Dev nD) (i : grid0.Coords) (arg1 : Memref sig .tc .vmem S1152x1024 .fp8e5m2) (harg1 : arg1.IsWhole) (arg2 : Memref sig .tc .vmem S2x1024x512 .i8) (harg2 : arg2.IsWhole) (arg3 : Memref sig .tc .vmem S2x4x2x8x128 .i32) (harg3 : arg3.IsWhole) (arg4 : Memref sig .tc .vmem S1x1024 .f32) (harg4 : arg4.IsWhole) (arg5 : Memref sig .tc .vmem S1152x128 .f32) (harg5 : arg5.IsWhole) (arg7 : Memref sig .tc .vmem S1152x4096 .bf16) (harg7 : arg7.IsWhole) (arg8 : Memref sig .tc .vmem S16x1152x256 .f32) (harg8 : arg8.IsWhole) (arg9 : Memref sig .tc .vmem S1152x1024 .bf16) (harg9 : arg9.IsWhole) (arg10 : Memref sig .tc .vmem S512x1024 .i32) (harg10 : arg10.IsWhole) (arg11 : Memref sig .tc .vmem S8x256x128 .bf16) (harg11 : arg11.IsWhole) (hc0 : ¬cond0_0 i) (hc1 : ¬cond0_1 i)
    (x0 : Vec F S1152x1024 .fp8e5m2) (x1 : Vec F S2x1024x512 .i8) (x2 : Vec F S2x4x2x8x128 .i32) (x3 : Vec F S1x1024 .f32) (x4 : Vec F S1152x128 .f32) (xs0 : Vec F S16x1152x256 .f32) : Vec F S16x1152x256 .f32 :=
  VS0_0.read (Elt F) (VS0_0.writes (Elt F) VS0_0.junk (kernelRun0_B c i arg1 harg1 arg2 harg2 arg3 harg3 arg4 harg4 arg5 harg5 arg7 harg7 arg8 harg8 arg9 harg9 arg10 harg10 arg11 harg11 hc0 hc1 x0 x1 x2 x3 x4 xs0).2.1)

/-- Case C's pieces for output 5 tile its block (32 stores of `S1152x128`), so they cover it. -/
theorem cover0_C_5 (c : Dev nD) (i : grid0.Coords) (arg1 : Memref sig .tc .vmem S1152x1024 .fp8e5m2) (harg1 : arg1.IsWhole) (arg2 : Memref sig .tc .vmem S2x1024x512 .i8) (harg2 : arg2.IsWhole) (arg3 : Memref sig .tc .vmem S2x4x2x8x128 .i32) (harg3 : arg3.IsWhole) (arg4 : Memref sig .tc .vmem S1x1024 .f32) (harg4 : arg4.IsWhole) (arg5 : Memref sig .tc .vmem S1152x128 .f32) (harg5 : arg5.IsWhole) (arg7 : Memref sig .tc .vmem S1152x4096 .bf16) (harg7 : arg7.IsWhole) (arg8 : Memref sig .tc .vmem S16x1152x256 .f32) (harg8 : arg8.IsWhole) (arg9 : Memref sig .tc .vmem S1152x1024 .bf16) (harg9 : arg9.IsWhole) (arg10 : Memref sig .tc .vmem S512x1024 .i32) (harg10 : arg10.IsWhole) (arg11 : Memref sig .tc .vmem S8x256x128 .bf16) (harg11 : arg11.IsWhole) (hc0 : ¬cond0_0 i) (hc1 : cond0_1 i)
    (x0 : Vec F S1152x1024 .fp8e5m2) (x1 : Vec F S2x1024x512 .i8) (x2 : Vec F S2x4x2x8x128 .i32) (x3 : Vec F S1x1024 .f32) (x4 : Vec F S1152x128 .f32) (xs0 : Vec F S16x1152x256 .f32) (y : S1152x4096.Idx) :
    ∃ pc ∈ (kernelRun0_C c i arg1 harg1 arg2 harg2 arg3 harg3 arg4 harg4 arg5 harg5 arg7 harg7 arg8 harg8 arg9 harg9 arg10 harg10 arg11 harg11 hc0 hc1 x0 x1 x2 x3 x4 xs0).1, y ∈ pc.1.set :=
  View.cover_of_tiledL (kernelRun0_C c i arg1 harg1 arg2 harg2 arg3 harg3 arg4 harg4 arg5 harg5 arg7 harg7 arg8 harg8 arg9 harg9 arg10 harg10 arg11 harg11 hc0 hc1 x0 x1 x2 x3 x4 xs0).1 S1152x128.size (by sl_kernel_rfl) y

/-- What case C leaves in output 5's staging buffer: its pieces read back over junk. -/
def out0_C_5 (c : Dev nD) (i : grid0.Coords) (arg1 : Memref sig .tc .vmem S1152x1024 .fp8e5m2) (harg1 : arg1.IsWhole) (arg2 : Memref sig .tc .vmem S2x1024x512 .i8) (harg2 : arg2.IsWhole) (arg3 : Memref sig .tc .vmem S2x4x2x8x128 .i32) (harg3 : arg3.IsWhole) (arg4 : Memref sig .tc .vmem S1x1024 .f32) (harg4 : arg4.IsWhole) (arg5 : Memref sig .tc .vmem S1152x128 .f32) (harg5 : arg5.IsWhole) (arg7 : Memref sig .tc .vmem S1152x4096 .bf16) (harg7 : arg7.IsWhole) (arg8 : Memref sig .tc .vmem S16x1152x256 .f32) (harg8 : arg8.IsWhole) (arg9 : Memref sig .tc .vmem S1152x1024 .bf16) (harg9 : arg9.IsWhole) (arg10 : Memref sig .tc .vmem S512x1024 .i32) (harg10 : arg10.IsWhole) (arg11 : Memref sig .tc .vmem S8x256x128 .bf16) (harg11 : arg11.IsWhole) (hc0 : ¬cond0_0 i) (hc1 : cond0_1 i)
    (x0 : Vec F S1152x1024 .fp8e5m2) (x1 : Vec F S2x1024x512 .i8) (x2 : Vec F S2x4x2x8x128 .i32) (x3 : Vec F S1x1024 .f32) (x4 : Vec F S1152x128 .f32) (xs0 : Vec F S16x1152x256 .f32) : Vec F S1152x4096 .bf16 :=
  VO0_5.read (Elt F) (VO0_5.writes (Elt F) VO0_5.junk (kernelRun0_C c i arg1 harg1 arg2 harg2 arg3 harg3 arg4 harg4 arg5 harg5 arg7 harg7 arg8 harg8 arg9 harg9 arg10 harg10 arg11 harg11 hc0 hc1 x0 x1 x2 x3 x4 xs0).1)

/-- Case C's pieces for scratch `arg8`, which the kernel carries between points, cover it: 16 pieces of `S1x1152x256` tiling it. -/
theorem scover0_C_0 (c : Dev nD) (i : grid0.Coords) (arg1 : Memref sig .tc .vmem S1152x1024 .fp8e5m2) (harg1 : arg1.IsWhole) (arg2 : Memref sig .tc .vmem S2x1024x512 .i8) (harg2 : arg2.IsWhole) (arg3 : Memref sig .tc .vmem S2x4x2x8x128 .i32) (harg3 : arg3.IsWhole) (arg4 : Memref sig .tc .vmem S1x1024 .f32) (harg4 : arg4.IsWhole) (arg5 : Memref sig .tc .vmem S1152x128 .f32) (harg5 : arg5.IsWhole) (arg7 : Memref sig .tc .vmem S1152x4096 .bf16) (harg7 : arg7.IsWhole) (arg8 : Memref sig .tc .vmem S16x1152x256 .f32) (harg8 : arg8.IsWhole) (arg9 : Memref sig .tc .vmem S1152x1024 .bf16) (harg9 : arg9.IsWhole) (arg10 : Memref sig .tc .vmem S512x1024 .i32) (harg10 : arg10.IsWhole) (arg11 : Memref sig .tc .vmem S8x256x128 .bf16) (harg11 : arg11.IsWhole) (hc0 : ¬cond0_0 i) (hc1 : cond0_1 i)
    (x0 : Vec F S1152x1024 .fp8e5m2) (x1 : Vec F S2x1024x512 .i8) (x2 : Vec F S2x4x2x8x128 .i32) (x3 : Vec F S1x1024 .f32) (x4 : Vec F S1152x128 .f32) (xs0 : Vec F S16x1152x256 .f32) (y : S16x1152x256.Idx) :
    ∃ pc ∈ (kernelRun0_C c i arg1 harg1 arg2 harg2 arg3 harg3 arg4 harg4 arg5 harg5 arg7 harg7 arg8 harg8 arg9 harg9 arg10 harg10 arg11 harg11 hc0 hc1 x0 x1 x2 x3 x4 xs0).2.1, y ∈ pc.1.set :=
  View.cover_of_tiledL (kernelRun0_C c i arg1 harg1 arg2 harg2 arg3 harg3 arg4 harg4 arg5 harg5 arg7 harg7 arg8 harg8 arg9 harg9 arg10 harg10 arg11 harg11 hc0 hc1 x0 x1 x2 x3 x4 xs0).2.1 S1x1152x256.size (by sl_kernel_rfl) y

/-- What case C leaves in scratch `arg8`: its pieces read back over junk. -/
def sout0_C_0 (c : Dev nD) (i : grid0.Coords) (arg1 : Memref sig .tc .vmem S1152x1024 .fp8e5m2) (harg1 : arg1.IsWhole) (arg2 : Memref sig .tc .vmem S2x1024x512 .i8) (harg2 : arg2.IsWhole) (arg3 : Memref sig .tc .vmem S2x4x2x8x128 .i32) (harg3 : arg3.IsWhole) (arg4 : Memref sig .tc .vmem S1x1024 .f32) (harg4 : arg4.IsWhole) (arg5 : Memref sig .tc .vmem S1152x128 .f32) (harg5 : arg5.IsWhole) (arg7 : Memref sig .tc .vmem S1152x4096 .bf16) (harg7 : arg7.IsWhole) (arg8 : Memref sig .tc .vmem S16x1152x256 .f32) (harg8 : arg8.IsWhole) (arg9 : Memref sig .tc .vmem S1152x1024 .bf16) (harg9 : arg9.IsWhole) (arg10 : Memref sig .tc .vmem S512x1024 .i32) (harg10 : arg10.IsWhole) (arg11 : Memref sig .tc .vmem S8x256x128 .bf16) (harg11 : arg11.IsWhole) (hc0 : ¬cond0_0 i) (hc1 : cond0_1 i)
    (x0 : Vec F S1152x1024 .fp8e5m2) (x1 : Vec F S2x1024x512 .i8) (x2 : Vec F S2x4x2x8x128 .i32) (x3 : Vec F S1x1024 .f32) (x4 : Vec F S1152x128 .f32) (xs0 : Vec F S16x1152x256 .f32) : Vec F S16x1152x256 .f32 :=
  VS0_0.read (Elt F) (VS0_0.writes (Elt F) VS0_0.junk (kernelRun0_C c i arg1 harg1 arg2 harg2 arg3 harg3 arg4 harg4 arg5 harg5 arg7 harg7 arg8 harg8 arg9 harg9 arg10 harg10 arg11 harg11 hc0 hc1 x0 x1 x2 x3 x4 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1152x4096 .bf16 × Vec F S16x1152x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 14 = 0 then
      if h1 : (n + 1) % 14 = 13 then
        False.elim (by have hN : n + 1 < 14 := lt_of_lt_of_eq hn (show cfg0.N = 14 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 14 = 13 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

/-- `outsAt0` at a point of case A: that case's contents. -/
theorem outsAt0_A (c : Dev nD) (t : Fin cfg0.N) (h0 : t.val % 14 = 0) (h1 : ¬t.val % 14 = 13) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 14 = 0) (h1 : ¬t.val % 14 = 13) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 14 = 0) (h1 : t.val % 14 = 13) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

/-- Before the first point. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- The same for the next window. -/
theorem after0_1 (c : Dev nD) (t : Fin cfg0.N) : (dats m 0 c).after 1 t = iblk m c 1 t := by dsimp only [dats]
/-- The same for the next window. -/
theorem after0_2 (c : Dev nD) (t : Fin cfg0.N) : (dats m 0 c).after 2 t = iblk m c 2 t := by dsimp only [dats]
/-- The same for the next window. -/
theorem after0_3 (c : Dev nD) (t : Fin cfg0.N) : (dats m 0 c).after 3 t = iblk m c 3 t := by dsimp only [dats]
/-- The same for the next window. -/
theorem after0_4 (c : Dev nD) (t : Fin cfg0.N) : (dats m 0 c).after 4 t = iblk m c 4 t := by dsimp only [dats]
/-- The same for the next window. -/
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The same for the next window. -/
theorem before0_1 (c : Dev nD) (t : Fin cfg0.N) (d) : (dats m 0 c).before 1 t d = iblk m c 1 t :=
  before0_1_of m (dats m 0 c) (A_eq m c 1) (after0_1 m c) t d
/-- The same for the next window. -/
theorem before0_2 (c : Dev nD) (t : Fin cfg0.N) (d) : (dats m 0 c).before 2 t d = iblk m c 2 t :=
  before0_2_of m (dats m 0 c) (A_eq m c 2) (after0_2 m c) t d
/-- The same for the next window. -/
theorem before0_3 (c : Dev nD) (t : Fin cfg0.N) (d) : (dats m 0 c).before 3 t d = iblk m c 3 t :=
  before0_3_of m (dats m 0 c) (A_eq m c 3) (after0_3 m c) t d
/-- The same for the next window. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 14 := lt_of_lt_of_eq t.isLt (show cfg0.N = 14 from N_0)
  by_cases h0 : t.val % 14 = 0
  · by_cases h1 : t.val % 14 = 13
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, HS1, HS2, HS3⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · exfalso; have hN : t.val < 14 := lt_of_lt_of_eq t.isLt (show cfg0.N = 14 from N_0); omega
  · by_cases h1 : t.val % 14 = 13
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      by_cases hz : t.val = 0
      · exfalso; have hN : t.val < 14 := lt_of_lt_of_eq t.isLt (show cfg0.N = 14 from N_0); omega
      · rw [PhiS_castSucc m c t, PhiS_pos m c _ _ hz]
        rw [outsAt0_C m c t h0 h1]
        unfold out0_C_5 sout0_C_0; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        iintro ⟨H0, H1, H2, H3, H4, ⟨%e5, H5⟩, ⟨%es0, HS0⟩, HS1, HS2, HS3⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      by_cases hz : t.val = 0
      · exfalso; have hN : t.val < 14 := lt_of_lt_of_eq t.isLt (show cfg0.N = 14 from N_0); omega
      · rw [PhiS_castSucc m c t, PhiS_pos m c _ _ hz]
        rw [outsAt0_B m c t h0 h1]
        unfold sout0_B_0; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, HS1, HS2, HS3⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 14 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- Every run ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelDxIdeal.Run

end
-- ==== Proof.DxValueIdeal.lean ====
/-
  The input gradient's loop read at an index: a trip's weight rows, its product with the output gradient, and the sums
  after all trips, from the elements of the buffers that the trips read.
-/
module

public import proofs.«01_k».proof.Proof.LoopValueIdeal
public import proofs.«01_k».proof.Proof.DxLoopIdeal
public import Idealize.ShloMosaic.Lib.Pipeline.ValueKit
public import Idealize.ShloMosaic.Lib.WritesUnit

@[expose] public section

set_option maxRecDepth 60000
set_option backward.proofsInPublic true

noncomputable section

open scoped BigOperators

namespace Cert.KernelDxIdeal.LoopValue

open Cert.KernelDxIdeal Cert.KernelDxIdeal.Gen Cert.KernelDxIdeal.RowLoop Cert.KernelDxIdeal.Rows
open Cert.KernelIdeal.Decode Cert.Words
open Idealize.ShloMosaic Idealize.ShloMosaic.TcCoe

/-- The loop runs sixteen trips. -/
theorem trip_lt (k : Fin k0_t1_loop.trips) : k.val < 16 := Nat.lt_of_lt_of_le k.isLt k0_t1_abs.2.1

/-- A plain load of a unit-stride rectangle, at an index. -/
theorem readAt_unit {s : Shape} {e : EltTy} (M : Memref sig .tc .vmem s e) (X : BufTy.Contents (Elt Ideal) M.view.ty)
    (V : Vec Ideal s e) (hV : M.view.read (Elt Ideal) X = V) (off off' sz : Fin s.rank → ℕ) (h) (x) (y : s.Idx)
    (hoff : off = off') (hy : ∀ a, (y a).val = off' a + (x a).val) :
    M.view.readAt (Elt Ideal) (Rect.unit (s := s) off sz h).toLoadRect X x = V y := by
  subst hoff
  rw [View.readAt_apply, hV]
  refine congrArg V (funext fun a => Fin.ext ?_)
  rw [hy a]
  simp [Rect.unit]

/-- The weight at a code group `g` of an output row `col` and a column `j` of the group: the decoded entry times the row's
    scale. -/
def weight (cb : Books) (cA cB : Fin 512 → Fin 1024 → BitVec 8) (S : FVec Ideal S1x1024 .f32) (g : Fin 512) (j : Fin 8)
    (col : Fin 1024) : EReal := decoded cb (cA g col) (cB g col) j * S (ix2 0 col)

/-- Group of row `r` of chunk `k`. -/
def groupAt (k : Fin 16) (r : Fin 256) : Fin 512 := ⟨32 * k.val + r.val / 8, by omega⟩

/-- Column of a row in its group. -/
def colAt (r : Fin 256) : Fin 8 := ⟨r.val % 8, Nat.mod_lt _ (by decide)⟩

/-- A trip as one of the sixteen. -/
def chunkOf (k : Fin k0_t1_loop.trips) : Fin 16 := ⟨k.val, trip_lt k⟩

/-- Eight tiles side by side. -/
def tiles {α : Type} (f : Fin 8 → S256x128.Idx → α) : S256x1024.Idx → α :=
  concatenate S256x1024 1 [⟨S256x128, f 0⟩, ⟨S256x128, f 1⟩, ⟨S256x128, f 2⟩, ⟨S256x128, f 3⟩, ⟨S256x128, f 4⟩,
    ⟨S256x128, f 5⟩, ⟨S256x128, f 6⟩, ⟨S256x128, f 7⟩]
    concatenates_S256x128_S256x128_S256x128_S256x128_S256x128_S256x128_S256x128_S256x128_S256x1024_d1

/-- Eight tiles side by side, at an index: the tile that the column names. -/
theorem tiles_apply {α : Type} (f : Fin 8 → S256x128.Idx → α) (r : Fin 256) (col : Fin 1024) :
    tiles f (ix2 r col) = f ⟨col.val / 128, by omega⟩ (ix2 r ⟨col.val % 128, by omega⟩) := by
  refine concatenate_ofFn_apply (t := S256x1024) (s₁ := S256x128) 1 f _ rfl 128 rfl (ix2 r col) ⟨col.val / 128, by omega⟩ rfl
    (ix2 r ⟨col.val % 128, by omega⟩) rfl fun b hb => ?_
  match b with
  | ⟨0, _⟩ => rfl
  | ⟨1, _⟩ => exact absurd rfl hb

section Loads

variable (arg3 : Memref sig .tc .vmem S2x4x2x8x128 .i32) (arg4 : Memref sig .tc .vmem S1x1024 .f32)
  (arg8 : Memref sig .tc .vmem S16x1152x256 .f32)
  (arg9 : Memref sig .tc .vmem S1152x1024 .bf16) (arg10 : Memref sig .tc .vmem S512x1024 .i32)
  (X3 : BufTy.Contents (Elt Ideal) arg3.view.ty) (X4 : BufTy.Contents (Elt Ideal) arg4.view.ty)
  (X9 : BufTy.Contents (Elt Ideal) arg9.view.ty) (X10 : BufTy.Contents (Elt Ideal) arg10.view.ty)
  (G8 : BufTy.Contents (Elt Ideal) arg8.view.ty)
  (B : Vec Ideal S2x4x2x8x128 .i32) (hB : arg3.view.read (Elt Ideal) X3 = B)
  (S : FVec Ideal S1x1024 .f32) (hS : arg4.view.read (Elt Ideal) X4 = S)
  (D : FVec Ideal S1152x1024 .bf16) (hD : arg9.view.read (Elt Ideal) X9 = D)
  (W : Vec Ideal S512x1024 .i32) (hW : arg10.view.read (Elt Ideal) X10 = W)
  (cb : Books)
  (hcb : ∀ (m : Fin 2) (jj : Fin 4) (h : Fin 2) (s : Fin 8) (p : Fin 128), B (ix5 m jj h s p)
    = pairWord (cb m ⟨128 * h.val + p.val, by omega⟩ ⟨2 * jj.val, by omega⟩)
        (cb m ⟨128 * h.val + p.val, by omega⟩ ⟨2 * jj.val + 1, by omega⟩))
  (cA cB : Fin 512 → Fin 1024 → BitVec 8) (hcw : ∀ g col, W (ix2 g col) = codeWord (cA g col) (cB g col))
  (k : Fin k0_t1_loop.trips)

include hB hcb in
/-- The half tables of a trip hold the books. -/
theorem tabOf_holds : Holds (tabOf (F := Ideal) arg3 X3) cb := by
  intro m jj h s p
  refine (readAt_unit arg3 X3 B hB _ _ _ _ _ (ix5 m jj h s p) rfl fun a => ?_).trans (hcb m jj h s p)
  match a with
  | ⟨0, _⟩ => rfl
  | ⟨1, _⟩ => rfl
  | ⟨2, _⟩ => rfl
  | ⟨3, _⟩ => exact (Nat.zero_add _).symm
  | ⟨4, _⟩ => exact (Nat.zero_add _).symm

/-- Where a trip's code words lie. -/
theorem wordOff_eq (l : Fin 8) (q : Fin 4) : wordOff k l q = ![32 * k.val + 8 * q.val, 128 * l.val] := by
  match l with
  | 0 => exact k0_off1_eq k q
  | 1 => exact k0_off2_eq k q
  | 2 => exact k0_off3_eq k q
  | 3 => exact k0_off4_eq k q
  | 4 => exact k0_off5_eq k q
  | 5 => exact k0_off6_eq k q
  | 6 => exact k0_off7_eq k q
  | 7 => exact k0_off8_eq k q

include hW in
/-- The code words of a trip. -/
theorem wordsOf_apply (l : Fin 8) (q : Fin 4) (s : Fin 8) (n : Fin 128) :
    wordsOf (F := Ideal) arg10 X10 k l q (ix2 s n)
      = W (ix2 ⟨32 * k.val + 8 * q.val + s.val, by have := trip_lt k; omega⟩ ⟨128 * l.val + n.val, by omega⟩) := by
  refine readAt_unit arg10 X10 W hW _ _ _ _ _ _ (wordOff_eq k l q) fun a => ?_
  match a with
  | ⟨0, _⟩ => rfl
  | ⟨1, _⟩ => rfl

include hS in
/-- The row scales of a trip. -/
theorem scaleOf_apply (l : Fin 8) (s : Fin 8) (n : Fin 128) :
    scaleOf (F := Ideal) arg4 X4 l (ix2 s n) = S (ix2 0 ⟨128 * l.val + n.val, by omega⟩) := by
  unfold scaleOf
  simp only [pointwise]
  refine readAt_unit arg4 X4 S hS _ _ _ _ _ _ rfl fun a => ?_
  match a with
  | ⟨0, _⟩ => rfl
  | ⟨1, _⟩ => rfl

include hB hS hW hcb hcw in
/-- A tile of an even column of the weight. -/
theorem rowEven_apply (l : Fin 8) (q jj : Fin 4) (s : Fin 8) (n : Fin 128) :
    rowEven (F := Ideal) arg3 arg4 arg10 X3 X4 X10 k l q jj (ix2 s n)
      = weight cb cA cB S ⟨32 * k.val + 8 * q.val + s.val, by have := trip_lt k; omega⟩ ⟨2 * jj.val, by omega⟩
          ⟨128 * l.val + n.val, by omega⟩ := by
  refine congrArg₂ (fun a b : EReal => a * b) ?_ (scaleOf_apply arg4 X4 S hS l s n)
  exact decodeEven_apply _ _ cb (tabOf_holds arg3 X3 B hB cb hcb) s n _ _
    ((wordsOf_apply arg10 X10 W hW k l q s n).trans (hcw _ _)) jj

include hB hS hW hcb hcw in
/-- A tile of an odd column of the weight. -/
theorem rowOdd_apply (l : Fin 8) (q jj : Fin 4) (s : Fin 8) (n : Fin 128) :
    rowOdd (F := Ideal) arg3 arg4 arg10 X3 X4 X10 k l q jj (ix2 s n)
      = weight cb cA cB S ⟨32 * k.val + 8 * q.val + s.val, by have := trip_lt k; omega⟩ ⟨2 * jj.val + 1, by omega⟩
          ⟨128 * l.val + n.val, by omega⟩ := by
  refine congrArg₂ (fun a b : EReal => a * b) ?_ (scaleOf_apply arg4 X4 S hS l s n)
  exact decodeOdd_apply _ _ cb (tabOf_holds arg3 X3 B hB cb hcb) s n _ _
    ((wordsOf_apply arg10 X10 W hW k l q s n).trans (hcw _ _)) jj

include hB hS hW hcb hcw in
/-- A row tile of the weight. -/
theorem weightsTile_apply (l : Fin 8) (r : Fin 256) (n : Fin 128) :
    weightsTile (F := Ideal) arg3 arg4 arg10 X3 X4 X10 k l (ix3 0 r n)
      = weight cb cA cB S (groupAt (chunkOf k) r) (colAt r) ⟨128 * l.val + n.val, by omega⟩ := by
  unfold weightsTile weightRows
  have hr := r.isLt
  by_cases h : r.val % 2 = 0
  · refine (if_pos h).trans ?_
    refine (rowEven_apply arg3 arg4 arg10 X3 X4 X10 B hB S hS W hW cb hcb cA cB hcw k l _ _ _ n).trans ?_
    refine congrArg₂ (fun g j => weight cb cA cB S g j _) (Fin.ext ?_) (Fin.ext ?_)
    · show 32 * k.val + 8 * (r.val / 2 / 32) + r.val / 2 % 32 / 4 = 32 * k.val + r.val / 8
      omega
    · show 2 * (r.val / 2 % 4) = r.val % 8
      omega
  · refine (if_neg h).trans ?_
    refine (rowOdd_apply arg3 arg4 arg10 X3 X4 X10 B hB S hS W hW cb hcb cA cB hcw k l _ _ _ n).trans ?_
    refine congrArg₂ (fun g j => weight cb cA cB S g j _) (Fin.ext ?_) (Fin.ext ?_)
    · show 32 * k.val + 8 * (r.val / 2 / 32) + r.val / 2 % 32 / 4 = 32 * k.val + r.val / 8
      omega
    · show 2 * (r.val / 2 % 4) + 1 = r.val % 8
      omega

/-- The product of a gradient block with the weight at a token and a row of a chunk. -/
def prod (D : FVec Ideal S1152x1024 .bf16) (S : FVec Ideal S1x1024 .f32) (cb : Books) (cA cB : Fin 512 → Fin 1024 → BitVec 8)
    (k : Fin 16) (n : Fin 1152) (r : Fin 256) : EReal :=
  ∑ col : Fin 1024, D (ix2 n col) * weight cb cA cB S (groupAt k r) (colAt r) col

include hB hS hD hW hcb hcw in
/-- A trip's product. -/
theorem product_apply (n : Fin 1152) (r : Fin 256) :
    product (F := Ideal) arg3 arg4 arg9 arg10 X3 X4 X9 X10 k (ix2 n r) = prod D S cb cA cB (chunkOf k) n r := by
  unfold product k0_pay1457 prod
  show matmul dot_S1152x1024_S256x1024_S1152x256_1_1_0_0_n_n none _
    (tiles (α := Ideal .bf16) fun l => shapeCast S256x128 (weightsTile (F := Ideal) arg3 arg4 arg10 X3 X4 X10 k l : FVec Ideal S1x256x128 .bf16) shapeCasts_S1x256x128_S256x128)
    (constant S1152x256 .f32 0x00000000#32) (ix2 n r) = _
  simp only [pointwise]
  rw [zero_add]
  refine Finset.sum_congr rfl fun col _ => ?_
  refine congrArg₂ (fun a b : EReal => a * b) ?_ ?_
  · refine readAt_unit arg9 X9 D hD _ _ _ _ _ _ rfl fun a => ?_
    match a with
    | ⟨0, _⟩ => exact (Nat.zero_add _).symm
    | ⟨1, _⟩ => exact (Nat.zero_add _).symm
  · refine (tiles_apply (α := Ideal .bf16) (fun l => shapeCast S256x128 (weightsTile (F := Ideal) arg3 arg4 arg10 X3 X4 X10 k l : FVec Ideal S1x256x128 .bf16) shapeCasts_S1x256x128_S256x128) r col).trans ?_
    simp only [pointwise]
    refine (weightsTile_apply arg3 arg4 arg10 X3 X4 X10 B hB S hS W hW cb hcb cA cB hcw k _ r _).trans ?_
    refine congrArg (weight cb cA cB S _ _) (Fin.ext ?_)
    show 128 * (col.val / 128) + col.val % 128 = col.val
    omega

include hB hS hD hW hcb hcw in
/-- What a trip stores in the sums: what they held and its product. -/
theorem sumPiece_apply (f8 : BufTy.Contents (Elt Ideal) arg8.view.ty) (n : Fin 1152) (r : Fin 256) :
    (sumPiece (F := Ideal) arg3 arg4 arg9 arg10 X3 X4 X9 X10 k arg8 f8).2 (ix3 (0 : Fin 1) n r)
      = (arg8.view.read (Elt Ideal) f8 (ix3 (chunkOf k) n r) : EReal) + prod D S cb cA cB (chunkOf k) n r := by
  unfold sumPiece k0_pay4
  dsimp only
  simp only [pointwise]
  refine congrArg₂ (fun a b : EReal => a + b) ?_ (product_apply arg3 arg4 arg9 arg10 X3 X4 X9 X10 B hB S hS D hD W hW cb hcb cA cB hcw k n r)
  refine readAt_unit arg8 f8 _ rfl _ _ _ _ _ _ (k0_off9_eq k) fun a => ?_
  match a with
  | ⟨0, _⟩ => rfl
  | ⟨1, _⟩ => exact (Nat.zero_add _).symm
  | ⟨2, _⟩ => exact (Nat.zero_add _).symm

include hB hS hD hW hcb hcw in
/-- The sums after the trips before `K`: the chunks below `K` have their products added, the others are as they were. -/
theorem sums_apply (K : ℕ) (hK : K ≤ 16) (q : Fin 16) (n : Fin 1152) (r : Fin 256) :
    arg8.view.read (Elt Ideal) (arg8.view.writes (Elt Ideal) G8 (sums (F := Ideal) arg3 arg4 arg8 arg9 arg10 X3 X4 X9 X10 G8 K)) (ix3 q n r)
      = if q.val < K then (arg8.view.read (Elt Ideal) G8 (ix3 q n r) : EReal) + prod D S cb cA cB q n r
        else arg8.view.read (Elt Ideal) G8 (ix3 q n r) := by
  induction K with
  | zero => rfl
  | succ K ih =>
    have hk : K < k0_t1_loop.trips := Nat.lt_of_lt_of_le hK (by decide +kernel)
    rw [sums_succ arg3 arg4 arg8 arg9 arg10 X3 X4 X9 X10 G8 ⟨K, hk⟩]
    by_cases hq : q.val = K
    · obtain rfl : q = chunkOf ⟨K, hk⟩ := Fin.ext hq
      refine (View.read_writes_cons_unit_of_mem arg8.view _ _ _ _ (ix3 (chunkOf ⟨K, hk⟩) n r) (ix3 (0 : Fin 1) n r) (k0_off9_eq ⟨K, hk⟩) ?_).trans ?_
      · intro a
        match a with
        | ⟨0, _⟩ => rfl
        | ⟨1, _⟩ => exact (Nat.zero_add _).symm
        | ⟨2, _⟩ => exact (Nat.zero_add _).symm
      · refine (sumPiece_apply arg3 arg4 arg8 arg9 arg10 X3 X4 X9 X10 B hB S hS D hD W hW cb hcb cA cB hcw ⟨K, hk⟩ _ n r).trans ?_
        rw [ih (by omega), if_neg (by show ¬K < K; omega), if_pos (by show K < K + 1; omega)]
    · refine (View.read_writes_cons_unit_of_not_mem arg8.view _ _ _ _ (ix3 q n r) (k0_off9_eq ⟨K, hk⟩) 0 ?_).trans ?_
      · show q.val < K ∨ K + 1 ≤ q.val
        omega
      · refine (ih (by omega)).trans ?_
        by_cases h : q.val < K
        · rw [if_pos h, if_pos (by omega)]
        · rw [if_neg h, if_neg (by omega)]

end Loads

end Cert.KernelDxIdeal.LoopValue

end
-- ==== Proof.DxBlockIdeal.lean ====
/-
  What the body leaves in the sums and in the block of the input gradient, from the blocks of its inputs.
-/
module

public import proofs.«01_k».proof.Proof.DxValueIdeal
public import proofs.«01_k».proof.Proof.DxFrameIdeal
public import Idealize.ShloMosaic.Lib.VecWindow

@[expose] public section

set_option maxRecDepth 60000
set_option backward.proofsInPublic true

noncomputable section

open scoped BigOperators

namespace Cert.KernelDxIdeal.Block

open Cert.KernelDxIdeal Cert.KernelDxIdeal.Gen Cert.KernelDxIdeal.RowLoop Cert.KernelDxIdeal.LoopValue Cert.KernelDxIdeal.Run
open Cert.KernelIdeal.Decode Cert.Words
open Idealize.ShloMosaic Idealize.ShloMosaic.TcCoe Idealize.ShloMosaic.Tactic

variable (c : Dev nD) (i : grid0.Coords)
  (arg1 : Memref sig .tc .vmem S1152x1024 .fp8e5m2) (harg1 : arg1.IsWhole)
  (arg2 : Memref sig .tc .vmem S2x1024x512 .i8) (harg2 : arg2.IsWhole)
  (arg3 : Memref sig .tc .vmem S2x4x2x8x128 .i32) (harg3 : arg3.IsWhole)
  (arg4 : Memref sig .tc .vmem S1x1024 .f32) (harg4 : arg4.IsWhole)
  (arg5 : Memref sig .tc .vmem S1152x128 .f32) (harg5 : arg5.IsWhole)
  (arg7 : Memref sig .tc .vmem S1152x4096 .bf16) (harg7 : arg7.IsWhole)
  (arg8 : Memref sig .tc .vmem S16x1152x256 .f32) (harg8 : arg8.IsWhole)
  (arg9 : Memref sig .tc .vmem S1152x1024 .bf16) (harg9 : arg9.IsWhole)
  (arg10 : Memref sig .tc .vmem S512x1024 .i32) (harg10 : arg10.IsWhole)
  (arg11 : Memref sig .tc .vmem S8x256x128 .bf16) (harg11 : arg11.IsWhole)
  (x0 : Vec Ideal S1152x1024 .fp8e5m2) (x1 : Vec Ideal S2x1024x512 .i8) (x2 : Vec Ideal S2x4x2x8x128 .i32) (x3 : Vec Ideal S1x1024 .f32) (x4 : Vec Ideal S1152x128 .f32)
  (xs0 : Vec Ideal S16x1152x256 .f32)

/-- The store of the widened gradient block. -/
def gradPieces : List (View.Piece (Elt Ideal) S1152x1024 .bf16) :=
  [⟨Rect.unit (s := S1152x1024) ![0, 0] S1152x1024.size inb_S1152x1024_S1152x1024_0_0,
    k0_pay2 (arg1.view.readAt (Elt Ideal) (Rect.unit (s := S1152x1024) ![0, 0] S1152x1024.size inb_S1152x1024_S1152x1024_0_0).toLoadRect (harg1.unread x0))⟩]

/-- The store of the code words. -/
def wordPieces : List (View.Piece (Elt Ideal) S512x1024 .i32) :=
  [⟨Rect.unit (s := S512x1024) ![0, 0] S512x1024.size inb_S512x1024_S512x1024_0_0,
    k0_pay1 (arg2.view.readAt (Elt Ideal) (Rect.unit (s := S2x1024x512) ![0, 0, 0] S1x1024x512.size inb_S2x1024x512_S1x1024x512_0_0_0).toLoadRect (harg2.unread x1))
      (arg2.view.readAt (Elt Ideal) (Rect.unit (s := S2x1024x512) ![1, 0, 0] S1x1024x512.size inb_S2x1024x512_S1x1024x512_1_0_0).toLoadRect (harg2.unread x1))⟩]

/-- The store of zeros in the sums at the first point. -/
def zeroPieces : List (View.Piece (Elt Ideal) S16x1152x256 .f32) :=
  [⟨Rect.unit (s := S16x1152x256) ![0, 0, 0] S16x1152x256.size inb_S16x1152x256_S16x1152x256_0_0_0, k0_pay3 (F := Ideal)⟩]

/-- The gradient block, widened: over the extended reals the same values. -/
def grad : FVec Ideal S1152x1024 .bf16 := fun y => (x0 y : EReal)

/-- The gradient as the loop finds it. -/
theorem read_grad : arg9.view.read (Elt Ideal) (arg9.view.writes (Elt Ideal) arg9.view.junk (gradPieces arg1 harg1 x0)) = grad x0 := by
  refine (View.read_writes_full arg9.view _ _ _ []).trans (funext fun y => ?_)
  unfold k0_pay2
  simp only [pointwise]
  refine readAt_unit arg1 _ x0 (harg1.read_unread x0) _ _ _ _ _ _ rfl fun a => ?_
  match a with
  | ⟨0, _⟩ => exact (Nat.zero_add _).symm
  | ⟨1, _⟩ => exact (Nat.zero_add _).symm

/-- The code words as the loop finds them. -/
theorem read_words (g : Fin 512) (col : Fin 1024) :
    arg10.view.read (Elt Ideal) (arg10.view.writes (Elt Ideal) arg10.view.junk (wordPieces arg2 harg2 x1)) (ix2 g col)
      = codeWord (x1 (ix3 0 col g)) (x1 (ix3 1 col g)) := by
  refine (congrFun (View.read_writes_full arg10.view _ _ _ []) (ix2 g col)).trans ?_
  unfold k0_pay1
  simp only [pointwise]
  have h0 : ∀ (m : Fin 2) (off : Fin 3 → ℕ) (hoff : off = ![m.val, 0, 0]) (h),
      arg2.view.readAt (Elt Ideal) (Rect.unit (s := S2x1024x512) off S1x1024x512.size h).toLoadRect (harg2.unread x1)
        (ix3 (0 : Fin 1) col g) = x1 (ix3 m col g) := by
    intro m off hoff h
    refine readAt_unit arg2 _ x1 (harg2.read_unread x1) _ _ _ _ _ _ hoff fun a => ?_
    match a with
    | ⟨0, _⟩ => rfl
    | ⟨1, _⟩ => exact (Nat.zero_add _).symm
    | ⟨2, _⟩ => exact (Nat.zero_add _).symm
  refine (congrArg₂ (fun a b : BitVec 8 => IntOp.ori (a.setWidth 32) (IntOp.shli .vector (b.setWidth 32) 8#32))
    (h0 0 _ rfl inb_S2x1024x512_S1x1024x512_0_0_0) (h0 1 _ rfl inb_S2x1024x512_S1x1024x512_1_0_0)).trans ?_
  rw [shli_vector _ _ (by decide)]
  rfl

section Value

variable (cb : Books)
  (hcb : ∀ (m : Fin 2) (jj : Fin 4) (h : Fin 2) (s : Fin 8) (p : Fin 128), x2 (ix5 m jj h s p)
    = pairWord (cb m ⟨128 * h.val + p.val, by omega⟩ ⟨2 * jj.val, by omega⟩)
        (cb m ⟨128 * h.val + p.val, by omega⟩ ⟨2 * jj.val + 1, by omega⟩))

/-- What a point adds to the sums at a chunk, a token and a row of the chunk. -/
def pointTerm (x0 : Vec Ideal S1152x1024 .fp8e5m2) (x1 : Vec Ideal S2x1024x512 .i8) (x3 : Vec Ideal S1x1024 .f32) (cb : Books)
    (q : Fin 16) (n : Fin 1152) (r : Fin 256) : EReal :=
  prod (grad x0) x3 cb (fun g col => x1 (ix3 0 col g)) (fun g col => x1 (ix3 1 col g)) q n r

include hcb in
/-- The sums after the loop, over whatever they held before. -/
theorem sums_read (G8 : BufTy.Contents (Elt Ideal) arg8.view.ty) (q : Fin 16) (n : Fin 1152) (r : Fin 256) :
    arg8.view.read (Elt Ideal) (arg8.view.writes (Elt Ideal) G8 (sums (F := Ideal) arg3 arg4 arg8 arg9 arg10 (harg3.unread x2) (harg4.unread x3)
    (arg9.view.writes (Elt Ideal) arg9.view.junk (gradPieces arg1 harg1 x0)) (arg10.view.writes (Elt Ideal) arg10.view.junk (wordPieces arg2 harg2 x1)) G8 16)) (ix3 q n r)
      = (arg8.view.read (Elt Ideal) G8 (ix3 q n r) : EReal) + pointTerm x0 x1 x3 cb q n r := by
  refine (sums_apply arg3 arg4 arg8 arg9 arg10 _ _ _ _ G8 x2 (harg3.read_unread x2) x3 (harg4.read_unread x3) (grad x0)
    (read_grad arg1 harg1 arg9 x0) _ rfl cb hcb _ _ (read_words arg2 harg2 arg10 x1) 16 (Nat.le_refl _) q n r).trans ?_
  exact if_pos q.isLt

include hcb in
/-- The sums at a point of case A: the point's own terms. -/
theorem sout_A (hc0 : cond0_0 i) (hc1 : ¬cond0_1 i) (q : Fin 16) (n : Fin 1152) (r : Fin 256) :
    sout0_A_0 (F := Ideal) c i arg1 harg1 arg2 harg2 arg3 harg3 arg4 harg4 arg5 harg5 arg7 harg7 arg8 harg8 arg9 harg9 arg10 harg10 arg11 harg11 hc0 hc1 x0 x1 x2 x3 x4 (ix3 q n r) = pointTerm x0 x1 x3 cb q n r := by
  unfold sout0_A_0
  rw [View.read_writes_junk_eq_canon, ← View.read_writes_junk_eq_canon arg8.view]
  unfold kernelRun0_A
  dsimp only
  show arg8.view.read (Elt Ideal) (arg8.view.writes (Elt Ideal) arg8.view.junk (sums (F := Ideal) arg3 arg4 arg8 arg9 arg10 (harg3.unread x2) (harg4.unread x3)
    (arg9.view.writes (Elt Ideal) arg9.view.junk (gradPieces arg1 harg1 x0)) (arg10.view.writes (Elt Ideal) arg10.view.junk (wordPieces arg2 harg2 x1)) (arg8.view.writes (Elt Ideal) arg8.view.junk zeroPieces) 16 ++ zeroPieces)) (ix3 q n r) = _
  rw [View.writes_append]
  refine (sums_read arg1 harg1 arg2 harg2 arg3 harg3 arg4 harg4 arg8 arg9 arg10 x0 x1 x2 x3 cb hcb _ q n r).trans ?_
  refine (congrArg (· + pointTerm x0 x1 x3 cb q n r) ?_).trans (zero_add _)
  refine (congrFun (View.read_writes_full arg8.view _ _ _ []) (ix3 q n r)).trans ?_
  unfold k0_pay3
  simp only [pointwise]

include hcb in
/-- The sums at a point of case B: what the point before left, and the point's own terms. -/
theorem sout_B (hc0 : ¬cond0_0 i) (hc1 : ¬cond0_1 i) (q : Fin 16) (n : Fin 1152) (r : Fin 256) :
    sout0_B_0 (F := Ideal) c i arg1 harg1 arg2 harg2 arg3 harg3 arg4 harg4 arg5 harg5 arg7 harg7 arg8 harg8 arg9 harg9 arg10 harg10 arg11 harg11 hc0 hc1 x0 x1 x2 x3 x4 xs0 (ix3 q n r)
      = (xs0 (ix3 q n r) : EReal) + pointTerm x0 x1 x3 cb q n r := by
  unfold sout0_B_0
  have hcov := scover0_B_0 (F := Ideal) c i arg1 harg1 arg2 harg2 arg3 harg3 arg4 harg4 arg5 harg5 arg7 harg7 arg8 harg8 arg9 harg9 arg10 harg10 arg11 harg11 hc0 hc1 x0 x1 x2 x3 x4 xs0 (ix3 q n r)
  rw [View.read_writes_junk_eq_canon, ← View.read_writes_apply_eq_canon arg8.view (harg8.unread xs0) _ _ hcov]
  unfold kernelRun0_B
  dsimp only
  show arg8.view.read (Elt Ideal) (arg8.view.writes (Elt Ideal) (harg8.unread xs0) (sums (F := Ideal) arg3 arg4 arg8 arg9 arg10 (harg3.unread x2) (harg4.unread x3)
    (arg9.view.writes (Elt Ideal) arg9.view.junk (gradPieces arg1 harg1 x0)) (arg10.view.writes (Elt Ideal) arg10.view.junk (wordPieces arg2 harg2 x1)) (harg8.unread xs0) 16)) (ix3 q n r) = _
  refine (sums_read arg1 harg1 arg2 harg2 arg3 harg3 arg4 harg4 arg8 arg9 arg10 x0 x1 x2 x3 cb hcb _ q n r).trans ?_
  rw [harg8.read_unread]

include hcb in
/-- The sums at a point of case C: what the point before left, and the point's own terms. -/
theorem sout_C (hc0 : ¬cond0_0 i) (hc1 : cond0_1 i) (q : Fin 16) (n : Fin 1152) (r : Fin 256) :
    sout0_C_0 (F := Ideal) c i arg1 harg1 arg2 harg2 arg3 harg3 arg4 harg4 arg5 harg5 arg7 harg7 arg8 harg8 arg9 harg9 arg10 harg10 arg11 harg11 hc0 hc1 x0 x1 x2 x3 x4 xs0 (ix3 q n r)
      = (xs0 (ix3 q n r) : EReal) + pointTerm x0 x1 x3 cb q n r := by
  unfold sout0_C_0
  have hcov := scover0_C_0 (F := Ideal) c i arg1 harg1 arg2 harg2 arg3 harg3 arg4 harg4 arg5 harg5 arg7 harg7 arg8 harg8 arg9 harg9 arg10 harg10 arg11 harg11 hc0 hc1 x0 x1 x2 x3 x4 xs0 (ix3 q n r)
  rw [View.read_writes_junk_eq_canon, ← View.read_writes_apply_eq_canon arg8.view (harg8.unread xs0) _ _ hcov]
  unfold kernelRun0_C
  dsimp only
  show arg8.view.read (Elt Ideal) (arg8.view.writes (Elt Ideal) (harg8.unread xs0) (sums (F := Ideal) arg3 arg4 arg8 arg9 arg10 (harg3.unread x2) (harg4.unread x3)
    (arg9.view.writes (Elt Ideal) arg9.view.junk (gradPieces arg1 harg1 x0)) (arg10.view.writes (Elt Ideal) arg10.view.junk (wordPieces arg2 harg2 x1)) (harg8.unread xs0) 16)) (ix3 q n r) = _
  refine (sums_read arg1 harg1 arg2 harg2 arg3 harg3 arg4 harg4 arg8 arg9 arg10 x0 x1 x2 x3 cb hcb _ q n r).trans ?_
  rw [harg8.read_unread]

end Value

/-- A column tile of the sums lies within them. -/
theorem inb_sums (j : Fin 32) : ∀ a, (![j.val / 2, 0, 128 * (j.val % 2)] : Fin 3 → ℕ) a + S1x1152x128.size a ≤ S16x1152x256.size a := by
  revert j; decide

/-- A column tile of the result lies within it. -/
theorem inb_out (j : Fin 32) : ∀ a, (![0, 128 * j.val] : Fin 2 → ℕ) a + S1152x128.size a ≤ S1152x4096.size a := by
  revert j; decide

/-- The store of column tile `j` of the result: the sums' tile times the token scales. -/
def outPiece (L : List (View.Piece (Elt Ideal) S16x1152x256 .f32)) (j : Fin 32) : View.Piece (Elt Ideal) S1152x4096 .bf16 :=
  ⟨Rect.unit (s := S1152x4096) ![0, 128 * j.val] S1152x128.size (inb_out j),
    k0_pay1458 (arg8.view.readCov L (Rect.unit (s := S16x1152x256) ![j.val / 2, 0, 128 * (j.val % 2)] S1x1152x128.size (inb_sums j)).toLoadRect)
      (arg5.view.readAt (Elt Ideal) (Rect.unit (s := S1152x128) ![0, 0] S1152x128.size inb_S1152x128_S1152x128_0_0).toLoadRect (harg5.unread x4))⟩

/-- The block of the result: the sums' element times its token's scale. -/
def scaledSums (acc : Vec Ideal S16x1152x256 .f32) (x4 : Vec Ideal S1152x128 .f32) : Vec Ideal S1152x4096 .bf16 := fun y =>
  ((acc (ix3 ⟨(y 1).val / 256, by have h : (y 1).val < 4096 := (y 1).isLt; omega⟩ (y 0) ⟨(y 1).val % 256, Nat.mod_lt _ (by decide)⟩) : EReal)
    * (x4 (ix2 (y 0) ⟨(y 1).val % 128, Nat.mod_lt _ (by decide)⟩) : EReal) : EReal)

/-- A stored tile is its part of that block. -/
theorem outPiece_apply (L : List (View.Piece (Elt Ideal) S16x1152x256 .f32)) (j : Fin 32) (x : (outPiece arg5 harg5 arg8 x4 L j).1.shape.Idx) :
    (outPiece arg5 harg5 arg8 x4 L j).2 x = scaledSums (View.canon L) x4 ((outPiece arg5 harg5 arg8 x4 L j).1.emb x) := by
  obtain ⟨n, l, rfl⟩ : ∃ (n : Fin 1152) (l : Fin 128), x = ix2 n l := ⟨x 0, x 1, by funext a; fin_cases a <;> rfl⟩
  have e0 : (outPiece arg5 harg5 arg8 x4 L j).1.emb (ix2 n l) 0 = n := Fin.ext (show 0 + 1 * n.val = n.val by omega)
  have e1 : ((outPiece arg5 harg5 arg8 x4 L j).1.emb (ix2 n l) 1).val = 128 * j.val + l.val :=
    show 128 * j.val + 1 * l.val = 128 * j.val + l.val by omega
  unfold scaledSums
  rw [e0]
  unfold outPiece k0_pay1458
  dsimp only
  simp only [pointwise]
  refine congrArg₂ (fun a b : EReal => a * b) ?_ ?_
  · rw [View.readCov_eq_canon']
    refine congrArg (View.canon L) (funext fun a => Fin.ext ?_)
    match a with
    | ⟨0, _⟩ =>
      show j.val / 2 + 1 * 0 = ((outPiece arg5 harg5 arg8 x4 L j).1.emb (ix2 n l) 1).val / 256
      rw [e1]; omega
    | ⟨1, _⟩ => show 0 + 1 * n.val = n.val; omega
    | ⟨2, _⟩ =>
      show 128 * (j.val % 2) + 1 * l.val = ((outPiece arg5 harg5 arg8 x4 L j).1.emb (ix2 n l) 1).val % 256
      rw [e1]; omega
  · refine readAt_unit arg5 _ x4 (harg5.read_unread x4) _ _ _ _ _ _ rfl fun a => ?_
    match a with
    | ⟨0, _⟩ => exact (Nat.zero_add _).symm
    | ⟨1, _⟩ =>
      show ((outPiece arg5 harg5 arg8 x4 L j).1.emb (ix2 n l) 1).val % 128 = 0 + l.val
      rw [e1]; omega

/-- The stores of the result at the last point, over the sums it leaves. -/
theorem pieces_C (hc0 : ¬cond0_0 i) (hc1 : cond0_1 i) :
    (kernelRun0_C (F := Ideal) c i arg1 harg1 arg2 harg2 arg3 harg3 arg4 harg4 arg5 harg5 arg7 harg7 arg8 harg8 arg9 harg9 arg10 harg10 arg11 harg11 hc0 hc1 x0 x1 x2 x3 x4 xs0).1
      = [31, 30, 29, 28, 27, 26, 25, 24, 23, 22, 21, 20, 19, 18, 17, 16, 15, 14, 13, 12, 11, 10, 9, 8, 7, 6, 5, 4, 3, 2, 1, 0].map (outPiece arg5 harg5 arg8 x4 (kernelRun0_C (F := Ideal) c i arg1 harg1 arg2 harg2 arg3 harg3 arg4 harg4 arg5 harg5 arg7 harg7 arg8 harg8 arg9 harg9 arg10 harg10 arg11 harg11 hc0 hc1 x0 x1 x2 x3 x4 xs0).2.1) := by
  unfold kernelRun0_C
  dsimp only
  with_unfolding_all rfl

/-- The block stored by those tiles, read back. -/
theorem read_tiles (L5 : List (View.Piece (Elt Ideal) S1152x4096 .bf16)) (L : List (View.Piece (Elt Ideal) S16x1152x256 .f32)) (js : List (Fin 32))
    (h : L5 = js.map (outPiece arg5 harg5 arg8 x4 L)) (y : S1152x4096.Idx) (hcov : ∃ pc ∈ L5, y ∈ pc.1.set) :
    VO0_5.read (Elt Ideal) (VO0_5.writes (Elt Ideal) VO0_5.junk L5) y
      = scaledSums (VS0_0.read (Elt Ideal) (VS0_0.writes (Elt Ideal) VS0_0.junk L)) x4 y := by
  rw [View.read_writes_junk_eq_canon VS0_0]
  refine View.read_writes_apply_of_pieces _ _ _ _ ?_ y hcov
  rw [h]
  intro p hp x
  obtain ⟨j, -, rfl⟩ := List.mem_map.1 hp
  exact outPiece_apply arg5 harg5 arg8 x4 _ j x

/-- The block of the result at the last point: the sums it leaves, times the token scales. -/
theorem out_C (hc0 : ¬cond0_0 i) (hc1 : cond0_1 i) (y : S1152x4096.Idx) :
    out0_C_5 (F := Ideal) c i arg1 harg1 arg2 harg2 arg3 harg3 arg4 harg4 arg5 harg5 arg7 harg7 arg8 harg8 arg9 harg9 arg10 harg10 arg11 harg11 hc0 hc1 x0 x1 x2 x3 x4 xs0 y
      = scaledSums (sout0_C_0 (F := Ideal) c i arg1 harg1 arg2 harg2 arg3 harg3 arg4 harg4 arg5 harg5 arg7 harg7 arg8 harg8 arg9 harg9 arg10 harg10 arg11 harg11 hc0 hc1 x0 x1 x2 x3 x4 xs0) x4 y := by
  unfold out0_C_5 sout0_C_0
  exact read_tiles arg5 harg5 arg8 x4 (kernelRun0_C (F := Ideal) c i arg1 harg1 arg2 harg2 arg3 harg3 arg4 harg4 arg5 harg5 arg7 harg7 arg8 harg8 arg9 harg9 arg10 harg10 arg11 harg11 hc0 hc1 x0 x1 x2 x3 x4 xs0).1
    (kernelRun0_C (F := Ideal) c i arg1 harg1 arg2 harg2 arg3 harg3 arg4 harg4 arg5 harg5 arg7 harg7 arg8 harg8 arg9 harg9 arg10 harg10 arg11 harg11 hc0 hc1 x0 x1 x2 x3 x4 xs0).2.1 _ (pieces_C c i arg1 harg1 arg2 harg2 arg3 harg3 arg4 harg4 arg5 harg5 arg7 harg7 arg8 harg8 arg9 harg9 arg10 harg10 arg11 harg11 x0 x1 x2 x3 x4 xs0 hc0 hc1) y
    (cover0_C_5 (F := Ideal) c i arg1 harg1 arg2 harg2 arg3 harg3 arg4 harg4 arg5 harg5 arg7 harg7 arg8 harg8 arg9 harg9 arg10 harg10 arg11 harg11 hc0 hc1 x0 x1 x2 x3 x4 xs0 y)

end Cert.KernelDxIdeal.Block

end
-- ==== Proof.DxGridIdeal.lean ====
/-
  The input gradient, element by element, from the kernel's arguments: the operations before the call, the blocks the grid
  hands the body, the sums point by point, and the block the last point leaves.
-/
module

public import proofs.«01_k».proof.Proof.DxBlockIdeal
public import Idealize.ShloMosaic.Lib.StableHlo.RunRead
public import Idealize.ShloMosaic.Lib.Pipeline.ValueKit

@[expose] public section

set_option maxRecDepth 60000
set_option backward.proofsInPublic true

noncomputable section

open scoped BigOperators

namespace Cert.KernelDxIdeal.Grid

open Cert.KernelDxIdeal Cert.KernelDxIdeal.Gen Cert.KernelDxIdeal.LoopValue
open Cert.KernelDxIdeal.Run Cert.KernelDxIdeal.Block
open Cert.KernelIdeal.Decode Cert.Words
open Idealize.ShloMosaic Idealize.ShloMosaic.TcCoe Idealize.ShloMosaic.Tactic

variable (m : (ℓ : Loc nD τ sig) → Buf (Elt Ideal) ℓ) (c : Dev nD)

/-! ## The operations before the call -/

/-- The output gradient's codes, batch and sequence as one axis. -/
theorem V_dy : V m c main_v0 = shapeCast S1152x14336 (m ((c.tc : Thread nD τ).loc main_arg0)) shapeCasts_S3x384x14336_S1152x14336 := by
  show StableHlo.after hostOps0 (fun b => m (c, b)) (Proc.devRef .tc main_v0) = _
  after_reads_simp
  rfl

/-- The token scales, repeated over the lanes. -/
theorem V_sc : V m c main_v2 = broadcastInDim S1152x128 ![0, 1] bcast_S1152x1_S1152x128_0_1
    (shapeCast S1152x1 (m ((c.tc : Thread nD τ).loc main_arg1)) shapeCasts_S3x384_S1152x1) := by
  show StableHlo.after hostOps0 (fun b => m (c, b)) (Proc.devRef .tc main_v2) = _
  after_reads_simp
  rfl

/-- The packed tables as the operations before the call write them. -/
def tabArr (bits : IVec S2x256x8 16) : IVec S2x4x2x8x128 32 :=
  broadcastInDim S2x4x2x8x128 ![0, 1, 2, 3, 4] bcast_S2x4x2x1x128_S2x4x2x8x128_0_1_2_3_4
    (shapeCast S2x4x2x1x128 (transpose S2x4x256 [0, 2, 1]
      (ori (Host.slice S2x256x4 ![0, 0, 0] ![1, 1, 2] (extui 32 bits natLt_16_32) slicesBy_S2x256x8_S2x256x4_0s1_0s1_0s2)
        (Host.shli (Host.slice S2x256x4 ![0, 0, 1] ![1, 1, 2] (extui 32 bits natLt_16_32) slicesBy_S2x256x8_S2x256x4_0s1_0s1_1s2)
          (broadcastInDim S2x256x4 ![] bcast_S_S2x256x4 (constantI S_ 32 16#32))))
      transposes_S2x256x4_S2x4x256_0_2_1) shapeCasts_S2x4x256_S2x4x2x1x128)

/-- The table operand is the packed table of the codebook words. -/
theorem V_tab : V m c main_v12 = tabArr (m ((c.tc : Thread nD τ).loc main_arg3)) := by
  show StableHlo.after hostOps0 (fun b => m (c, b)) (Proc.devRef .tc main_v12) = _
  after_reads_simp
  rfl

/-- The row scales, as one row. -/
theorem V_rs : V m c main_v13 = shapeCast S1x14336 (m ((c.tc : Thread nD τ).loc main_arg4)) shapeCasts_S14336_S1x14336 := by
  show StableHlo.after hostOps0 (fun b => m (c, b)) (Proc.devRef .tc main_v13) = _
  after_reads_simp
  rfl

/-- The gradient's codes at a token and an output row. -/
theorem dy_apply (n : Fin 1152) (o : Fin 14336) :
    V m c main_v0 (ix2 n o) = (m ((c.tc : Thread nD τ).loc main_arg0)) (ix3 ⟨n.val / 384, by omega⟩ ⟨n.val % 384, by omega⟩ o) := by
  rw [V_dy]
  simp only [pointwise]

/-- The repeated scale at a token, whatever the lane. -/
theorem sc_apply (n : Fin 1152) (l : Fin 128) :
    V m c main_v2 (ix2 n l) = (m ((c.tc : Thread nD τ).loc main_arg1)) (ix2 ⟨n.val / 384, by omega⟩ ⟨n.val % 384, by omega⟩) := by
  rw [V_sc]
  simp only [pointwise]
  rfl

/-- The row scale of an output row. -/
theorem rs_apply (o : Fin 14336) : V m c main_v13 (ix2 0 o) = (m ((c.tc : Thread nD τ).loc main_arg4)) (ix1 o) := by
  rw [V_rs]
  simp only [pointwise]

/-- A word of the packed table holds the entry's even column in its low half and the odd one in its high half. -/
theorem tab_apply (e : Fin 2) (jj : Fin 4) (h : Fin 2) (s : Fin 8) (p : Fin 128) :
    V m c main_v12 (ix5 e jj h s p)
      = pairWord ((m ((c.tc : Thread nD τ).loc main_arg3)) (ix3 e ⟨128 * h.val + p.val, by omega⟩ ⟨2 * jj.val, by omega⟩))
          ((m ((c.tc : Thread nD τ).loc main_arg3)) (ix3 e ⟨128 * h.val + p.val, by omega⟩ ⟨2 * jj.val + 1, by omega⟩)) := by
  rw [V_tab]
  unfold tabArr
  simp only [pointwise]
  unfold pairWord
  have hA : ∀ (d : ℕ) (hd : d < 2) (h0 h1 h2), (ix3 (⟨0 + 1 * e.val, h0⟩ : Fin 2) (⟨0 + 1 * (h.val * 128 + p.val), h1⟩ : Fin 256) (⟨d + 2 * jj.val, h2⟩ : Fin 8))
      = ix3 e ⟨128 * h.val + p.val, by omega⟩ ⟨2 * jj.val + d, by omega⟩ := fun d hd h0 h1 h2 => by
    rw [ix3_inj]
    refine ⟨Fin.ext ?_, Fin.ext ?_, Fin.ext ?_⟩
    · show 0 + 1 * e.val = e.val; omega
    · show 0 + 1 * (h.val * 128 + p.val) = 128 * h.val + p.val; omega
    · show d + 2 * jj.val = 2 * jj.val + d; omega
  exact congrArg₂ (fun a b : BitVec 16 => IntOp.ori (a.setWidth 32) (IntOp.shli .host (b.setWidth 32) 16#32))
    (congrArg (m ((c.tc : Thread nD τ).loc main_arg3)) (hA 0 (by decide) _ _ _))
    (congrArg (m ((c.tc : Thread nD τ).loc main_arg3)) (hA 1 (by decide) _ _ _))

/-! ## The blocks the body is given -/

/-- The block index of window 0 at each grid point. -/
theorem i0 : ∀ t : Fin cfg0.N, win0_0.index t = ![0, t.val] := (by decide +kernel : ∀ t : Fin grid0.N, _)
/-- The block index of window 1 at each grid point. -/
theorem i1 : ∀ t : Fin cfg0.N, win0_1.index t = ![0, t.val, 0] := (by decide +kernel : ∀ t : Fin grid0.N, _)
/-- The block index of window 2 at each grid point. -/
theorem i2 : ∀ t : Fin cfg0.N, win0_2.index t = ![0, 0, 0, 0, 0] := (by decide +kernel : ∀ t : Fin grid0.N, _)
/-- The block index of window 3 at each grid point. -/
theorem i3 : ∀ t : Fin cfg0.N, win0_3.index t = ![0, t.val] := (by decide +kernel : ∀ t : Fin grid0.N, _)
/-- The block index of window 4 at each grid point. -/
theorem i4 : ∀ t : Fin cfg0.N, win0_4.index t = ![0, 0] := (by decide +kernel : ∀ t : Fin grid0.N, _)
/-- The block index of window 5 at each grid point. -/
theorem i5 : ∀ t : Fin cfg0.N, win0_5.index t = ![0, 0] := (by decide +kernel : ∀ t : Fin grid0.N, _)

/-- The output row of a block's column. -/
def outRow (t : Fin cfg0.N) (col : Fin 1024) : Fin 14336 := ⟨1024 * t.val + col.val, by have := t.isLt; have : cfg0.N = 14 := rfl; omega⟩

/-- A block of columns of the gradient's codes. -/
theorem blk0 (t : Fin cfg0.N) (n : Fin 1152) (col : Fin 1024) : iblk m c 0 t (ix2 n col) = V m c main_v0 (ix2 n (outRow t col)) := by
  blk_simp [iblk]
  refine congrArg (V m c main_v0) ?_
  blk_ext [i0, outRow]

/-- A block of rows of the weight codes. -/
theorem blk1 (t : Fin cfg0.N) (e : Fin 2) (col : Fin 1024) (g : Fin 512) :
    iblk m c 1 t (ix3 e col g) = V m c main_arg2 (ix3 e (outRow t col) g) := by
  blk_simp [iblk]
  refine congrArg (V m c main_arg2) ?_
  blk_ext [i1, outRow]

/-- The whole table. -/
theorem blk2 (t : Fin cfg0.N) (y : S2x4x2x8x128.Idx) : iblk m c 2 t y = V m c main_v12 y := by
  blk_simp [iblk]
  refine congrArg (V m c main_v12) ?_
  blk_ext [i2]

/-- A block of the row scales. -/
theorem blk3 (t : Fin cfg0.N) (col : Fin 1024) : iblk m c 3 t (ix2 0 col) = V m c main_v13 (ix2 0 (outRow t col)) := by
  blk_simp [iblk]
  refine congrArg (V m c main_v13) ?_
  blk_ext [i3, outRow]

/-- The whole of the token scales. -/
theorem blk4 (t : Fin cfg0.N) (y : S1152x128.Idx) : iblk m c 4 t y = V m c main_v2 y := by
  blk_simp [iblk]
  refine congrArg (V m c main_v2) ?_
  blk_ext [i4]

/-! ## The sums, point by point -/

/-- The codebook entries as 16-bit words. -/
def books : Books := fun e n j => (m ((c.tc : Thread nD τ).loc main_arg3) : IVec S2x256x8 16) (ix3 e n j)

/-- The weight of an output row, group and column of the group: the decoded entry times the row's scale. -/
def weightAt (o : Fin 14336) (g : Fin 512) (j : Fin 8) : EReal :=
  decoded (books m c) ((m ((c.tc : Thread nD τ).loc main_arg2) : IVec S2x14336x512 8) (ix3 0 o g))
    ((m ((c.tc : Thread nD τ).loc main_arg2) : IVec S2x14336x512 8) (ix3 1 o g)) j
    * ((m ((c.tc : Thread nD τ).loc main_arg4) : FVec Ideal S14336 .f32) (ix1 o) : EReal)

/-- The output gradient's code at a token and an output row. -/
def codeAt (n : Fin 1152) (o : Fin 14336) : EReal :=
  (m ((c.tc : Thread nD τ).loc main_arg0) : FVec Ideal S3x384x14336 .fp8e5m2) (ix3 ⟨n.val / 384, by omega⟩ ⟨n.val % 384, by omega⟩ o)

/-- The scale of a token. -/
def scaleAt (n : Fin 1152) : EReal :=
  (m ((c.tc : Thread nD τ).loc main_arg1) : FVec Ideal S3x384 .f32) (ix2 ⟨n.val / 384, by omega⟩ ⟨n.val % 384, by omega⟩)

/-- An output row's contribution to a token's gradient at a group and column of the group. -/
def rowTerm (n : Fin 1152) (g : Fin 512) (j : Fin 8) (o : Fin 14336) : EReal := codeAt m c n o * weightAt m c o g j

/-- A point's terms: those of the block's output rows. -/
theorem pointTerm_blk (t : Fin cfg0.N) (q : Fin 16) (n : Fin 1152) (r : Fin 256) :
    pointTerm (iblk m c 0 t) (iblk m c 1 t) (iblk m c 3 t) (books m c) q n r
      = ∑ col : Fin 1024, rowTerm m c n (groupAt q r) (colAt r) (outRow t col) := by
  unfold pointTerm prod rowTerm codeAt weightAt weight grad
  refine Finset.sum_congr rfl fun col _ => ?_
  have e1 := fun e => blk1 m c t e col (groupAt q r)
  rw [V_main_arg2 m c] at e1
  exact congrArg₂ (fun a b : EReal => a * b) ((blk0 m c t n col).trans (dy_apply m c n _))
    (congrArg₂ (fun a b : EReal => a * b) (congrArg₂ (fun a b => decoded (books m c) a b (colAt r)) (e1 0) (e1 1))
      ((blk3 m c t col).trans (rs_apply m c _)))

/-- The packed table the body is given, by the codebook words. -/
theorem table (t : Fin cfg0.N) (e : Fin 2) (jj : Fin 4) (h : Fin 2) (s : Fin 8) (p : Fin 128) :
    iblk m c 2 t (ix5 e jj h s p)
      = pairWord (books m c e ⟨128 * h.val + p.val, by omega⟩ ⟨2 * jj.val, by omega⟩)
          (books m c e ⟨128 * h.val + p.val, by omega⟩ ⟨2 * jj.val + 1, by omega⟩) :=
  (blk2 m c t _).trans (tab_apply m c e jj h s p)

/-- The sums after the first point. -/
theorem sums_A (t : Fin cfg0.N) (h0 : t.val % 14 = 0) (h1 : ¬t.val % 14 = 13) (q : Fin 16) (n : Fin 1152) (r : Fin 256) :
    (outsAt0 m c t.val t.isLt).2 (ix3 q n r)
      = pointTerm (iblk m c 0 t) (iblk m c 1 t) (iblk m c 3 t) (books m c) q n r := by
  have e := congrFun (congrArg Prod.snd (outsAt0_A m c t h0 h1)) (ix3 q n r)
  dsimp only at e
  exact e.trans (sout_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _)
      (iblk m c 0 t) (iblk m c 1 t) (iblk m c 2 t) (iblk m c 3 t) (iblk m c 4 t) (books m c) (table m c t)
      ((hcond0_0 t).mpr h0) (fun h => h1 ((hcond0_1 t).mp h)) q n r)

/-- The sums after a middle point. -/
theorem sums_B (t : Fin cfg0.N) (h0 : ¬t.val % 14 = 0) (h1 : ¬t.val % 14 = 13) (q : Fin 16) (n : Fin 1152) (r : Fin 256) :
    (outsAt0 m c t.val t.isLt).2 (ix3 q n r)
      = ((outsAt0 m c (t.val - 1) (Nat.lt_of_le_of_lt (Nat.sub_le _ _) t.isLt)).2 (ix3 q n r) : EReal) + pointTerm (iblk m c 0 t) (iblk m c 1 t) (iblk m c 3 t) (books m c) q n r := by
  have e := congrFun (congrArg Prod.snd (outsAt0_B m c t h0 h1)) (ix3 q n r)
  dsimp only at e
  exact e.trans (sout_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _)
      (iblk m c 0 t) (iblk m c 1 t) (iblk m c 2 t) (iblk m c 3 t) (iblk m c 4 t) (outsAt0 m c (t.val - 1) (Nat.lt_of_le_of_lt (Nat.sub_le _ _) t.isLt)).2 (books m c) (table m c t)
      (fun h => h0 ((hcond0_0 t).mp h)) (fun h => h1 ((hcond0_1 t).mp h)) q n r)

/-- The sums after the last point. -/
theorem sums_C (t : Fin cfg0.N) (h0 : ¬t.val % 14 = 0) (h1 : t.val % 14 = 13) (q : Fin 16) (n : Fin 1152) (r : Fin 256) :
    (outsAt0 m c t.val t.isLt).2 (ix3 q n r)
      = ((outsAt0 m c (t.val - 1) (Nat.lt_of_le_of_lt (Nat.sub_le _ _) t.isLt)).2 (ix3 q n r) : EReal) + pointTerm (iblk m c 0 t) (iblk m c 1 t) (iblk m c 3 t) (books m c) q n r := by
  have e := congrFun (congrArg Prod.snd (outsAt0_C m c t h0 h1)) (ix3 q n r)
  dsimp only at e
  exact e.trans (sout_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _)
      (iblk m c 0 t) (iblk m c 1 t) (iblk m c 2 t) (iblk m c 3 t) (iblk m c 4 t) (outsAt0 m c (t.val - 1) (Nat.lt_of_le_of_lt (Nat.sub_le _ _) t.isLt)).2 (books m c) (table m c t)
      (fun h => h0 ((hcond0_0 t).mp h)) ((hcond0_1 t).mpr h1) q n r)

/-- The block of the result after the last point: the sums it leaves, times the token scales. -/
theorem block_C (t : Fin cfg0.N) (h0 : ¬t.val % 14 = 0) (h1 : t.val % 14 = 13) (y : S1152x4096.Idx) :
    (outsAt0 m c t.val t.isLt).1 y = scaledSums (outsAt0 m c t.val t.isLt).2 (iblk m c 4 t) y := by
  have e1 := congrFun (congrArg Prod.fst (outsAt0_C m c t h0 h1)) y
  have e2 := congrArg Prod.snd (outsAt0_C m c t h0 h1)
  dsimp only at e1 e2
  rw [e1, e2]
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _)
      (iblk m c 0 t) (iblk m c 1 t) (iblk m c 2 t) (iblk m c 3 t) (iblk m c 4 t) (outsAt0 m c (t.val - 1) (Nat.lt_of_le_of_lt (Nat.sub_le _ _) t.isLt)).2
      (fun h => h0 ((hcond0_0 t).mp h)) ((hcond0_1 t).mpr h1) y

/-- The sums after a point: the terms of all output rows up to it. -/
theorem sums_at (k : ℕ) (hk : k < cfg0.N) (q : Fin 16) (n : Fin 1152) (r : Fin 256) :
    (outsAt0 m c k hk).2 (ix3 q n r)
      = ∑ s : Fin (k + 1), ∑ col : Fin 1024,
          rowTerm m c n (groupAt q r) (colAt r) (outRow ⟨s.val, Nat.lt_of_lt_of_le s.isLt hk⟩ col) := by
  have hN : cfg0.N = 14 := rfl
  induction k with
  | zero =>
    refine (sums_A m c ⟨0, hk⟩ (Nat.zero_mod _) (by show ¬ 0 % 14 = 13; decide) q n r).trans ?_
    rw [pointTerm_blk, Fin.sum_univ_one]
    rfl
  | succ k ih =>
    have hprev := ih (Nat.lt_of_succ_lt hk)
    have h0 : ¬ (k + 1) % 14 = 0 := by omega
    rw [Fin.sum_univ_castSucc]
    by_cases h1 : (k + 1) % 14 = 13
    · refine (sums_C m c ⟨k + 1, hk⟩ h0 h1 q n r).trans ?_
      rw [pointTerm_blk]
      exact congrArg (fun a : EReal => a + ∑ col : Fin 1024, rowTerm m c n (groupAt q r) (colAt r) (outRow ⟨k + 1, hk⟩ col)) hprev
    · refine (sums_B m c ⟨k + 1, hk⟩ h0 h1 q n r).trans ?_
      rw [pointTerm_blk]
      exact congrArg (fun a : EReal => a + ∑ col : Fin 1024, rowTerm m c n (groupAt q r) (colAt r) (outRow ⟨k + 1, hk⟩ col)) hprev

/-- The gradient of the input at a token and a column, in the order the kernel adds. -/
def dxAt (n : Fin 1152) (i : Fin 4096) : EReal :=
  (∑ t : Fin 14, ∑ col : Fin 1024, rowTerm m c n ⟨i.val / 8, by omega⟩ ⟨i.val % 8, by omega⟩ (outRow t col))
    * scaleAt m c n

/-- The one block of the result is written back after the last point. -/
theorem flushed : ∀ t : Fin cfg0.N, (cfg0.win 5).flush t = true → t.val = 13 := by decide +kernel

/-- The array of the input gradient the call leaves. -/
theorem array5 : (dats m 0 c).arrAt 5 cfg0.N = fun y : S1152x4096.Idx => dxAt m c (y 0) (y 1) := by
  refine (dats m 0 c).arrAt_eq_of_covers 5 _ (by decide +kernel) fun t hf y => ?_
  blk_simp
  rw [after0_5]
  have ht := flushed t hf
  have hy : (win0_5.blk t).view.emb y = y := by
    blk_ext [i5]
  rw [hy]
  have h0 : ¬ t.val % 14 = 0 := by omega
  have h1 : t.val % 14 = 13 := by omega
  refine (block_C m c t h0 h1 y).trans ?_
  have hi : (y 1).val < 4096 := (y 1).isLt
  unfold scaledSums dxAt
  obtain ⟨t, htl⟩ := t
  obtain rfl : t = 13 := ht
  refine congrArg₂ (fun a b : EReal => a * b) ?_ ((blk4 m c _ _).trans (sc_apply m c _ _))
  refine (sums_at m c 13 htl _ _ _).trans ?_
  have eg : groupAt ⟨(y 1).val / 256, by omega⟩ ⟨(y 1).val % 256, by omega⟩ = ⟨(y 1).val / 8, by omega⟩ :=
    Fin.ext (show 32 * ((y 1).val / 256) + (y 1).val % 256 / 8 = (y 1).val / 8 by omega)
  have ej : colAt ⟨(y 1).val % 256, by omega⟩ = ⟨(y 1).val % 8, by omega⟩ :=
    Fin.ext (show (y 1).val % 256 % 8 = (y 1).val % 8 by omega)
  rw [eg, ej]
  rfl

end Cert.KernelDxIdeal.Grid

end
-- ==== Proof.DxReferenceValue.lean ====
/-
  The reference's input gradient, element by element, from its arguments.
-/
module

public import proofs.«01_k».proof.Proof.ReferenceValue
public import proofs.«01_k».proof.Proof.Gen.ReferenceDxIdeal.Frame

@[expose] public section

set_option maxRecDepth 60000

noncomputable section

open scoped BigOperators

namespace Cert.ReferenceDxIdeal.Val

open Cert.ReferenceDxIdeal Cert.ReferenceDxIdeal.Gen
open Cert.ReferenceIdeal.Val (decArr decArr_apply)
open Idealize.ShloMosaic Idealize.ShloMosaic.TcCoe Idealize.ShloMosaic.Tactic

/-- The weight as the reference writes it: each decoded row times its row scale. -/
def weightArr (rs : FVec Ideal S14336 .f32) (dec : FVec Ideal S7340032x8 .f32) : FVec Ideal S14336x4096 .bf16 :=
  truncf .bf16 (shapeCast S14336x4096 (mulf
    (broadcastInDim S14336x512x8 ![0, 1, 2] bcast_S14336x1x1_S14336x512x8_0_1_2 (broadcastInDim S14336x1x1 ![0] bcast_S14336_S14336x1x1_0 rs))
    (shapeCast S14336x512x8 dec shapeCasts_S7340032x8_S14336x512x8)) shapeCasts_S14336x512x8_S14336x4096) bitsLt_bf16_f32

/-- The input gradient as the reference writes it, batch and sequence as one axis. -/
def dxArr (dy : FVec Ideal S3x384x14336 .bf16) (sc : FVec Ideal S3x384 .f32) (w : FVec Ideal S14336x4096 .bf16) :
    FVec Ideal S1152x4096 .bf16 :=
  shapeCast S1152x4096 (truncf .bf16 (mulf
    (Host.dotGeneral dot_S3x384x14336_S14336x4096_S3x384x4096_2_0_01_1_n_n none dy w)
    (broadcastInDim S3x384x4096 ![0, 1, 2] bcast_S3x384x1_S3x384x4096_0_1_2 (broadcastInDim S3x384x1 ![0, 1] bcast_S3x384_S3x384x1_0_1 sc)))
    bitsLt_bf16_f32) shapeCasts_S3x384x4096_S1152x4096

/-- The weight at an output row and an input column. -/
theorem weightArr_apply (rs : FVec Ideal S14336 .f32) (dec : FVec Ideal S7340032x8 .f32) (o : Fin 14336) (i : Fin 4096) :
    weightArr rs dec (ix2 o i) = (rs (ix1 o) : EReal) * (dec (ix2 ⟨512 * o.val + i.val / 8, by omega⟩ ⟨i.val % 8, Nat.mod_lt _ (by decide)⟩) : EReal) := by
  unfold weightArr
  simp only [pointwise]
  refine congrArg₂ (fun a b : EReal => a * b) (congrArg rs (congrArg ix1 (Fin.ext ?_)))
    (congrArg dec (congrArg₂ ix2 (Fin.ext ?_) (Fin.ext ?_)))
  · rfl
  · show o.val * 512 + i.val / 8 = 512 * o.val + i.val / 8; omega
  · rfl

/-- The input gradient at a token and an input column: the sum over the output rows, times the token's scale. -/
theorem dxArr_apply (dy : FVec Ideal S3x384x14336 .bf16) (sc : FVec Ideal S3x384 .f32) (w : FVec Ideal S14336x4096 .bf16)
    (n : Fin 1152) (i : Fin 4096) :
    dxArr dy sc w (ix2 n i)
      = (∑ o : Fin 14336, (dy (ix3 ⟨n.val / 384, by omega⟩ ⟨n.val % 384, by omega⟩ o) : EReal) * (w (ix2 o i) : EReal))
          * (sc (ix2 ⟨n.val / 384, by omega⟩ ⟨n.val % 384, by omega⟩) : EReal) := by
  unfold dxArr
  simp only [pointwise]
  rw [zero_add]
  rfl

section
variable (m : (ℓ : Loc nD τ sig) → Buf (Elt Ideal) ℓ) (c : Dev nD)

/-- What the operations leave in the result. -/
theorem tail_40 (V : Valuation τ sig (Elt Ideal)) :
    StableHlo.after ([hostOps1 (F := Ideal)].flatten) V (Proc.devRef .tc main_v40)
      = dxArr (V (Proc.devRef .tc main_v0)) (V (Proc.devRef .tc main_arg1))
          (weightArr (V (Proc.devRef .tc main_arg4)) (decArr (V (Proc.devRef .tc main_arg2)) (V (Proc.devRef .tc main_arg3)))) := by
  simp only [List.flatten_cons, List.flatten_nil, List.append_nil]
  after_reads_simp
  rfl

/-- The region widens the output gradient's codes: over the extended reals the array it leaves holds the same values. -/
theorem cast_array : (dats m 0 c).arrAt 1 cfg0.N = (fun y => (m ((c.tc : Thread nD τ).loc main_arg0) y : EReal)) := by
  refine (dats m 0 c).arrAt_eq_of_covers 1 _ (by decide +kernel) fun t hf y => ?_
  blk_simp
  rw [after0_1]
  frame_out
  show iblk m c 0 t y = _
  rfl

/-- The reference's run: its result as a function of the arguments, which end as they began. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v40)
        = dxArr (m ((c.tc : Thread nD τ).loc main_arg0)) (m ((c.tc : Thread nD τ).loc main_arg1))
            (weightArr (m ((c.tc : Thread nD τ).loc main_arg4)) (decArr (m ((c.tc : Thread nD τ).loc main_arg2)) (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h => ?_) (θ_run_and (run_main m ρ) (unchanged m ρ))
  intro c
  refine ⟨?_, h.2 c⟩
  refine ((h.1 c).2 main_v40 (Pipeline.mem_restRefs_of main_v40 (by decide) (by decide))).trans ?_
  unfold Pipeline.afterTail₀
  refine (tail_40 _).trans ?_
  have e1 := Pipeline.withArrays_of_ne (cfgs 0).spec c (V0 m c) (fun w => (dats m 0 c).arrAt w (cfgs 0).N) main_arg1 (by decide)
  have e2 := Pipeline.withArrays_of_ne (cfgs 0).spec c (V0 m c) (fun w => (dats m 0 c).arrAt w (cfgs 0).N) main_arg2 (by decide)
  have e3 := Pipeline.withArrays_of_ne (cfgs 0).spec c (V0 m c) (fun w => (dats m 0 c).arrAt w (cfgs 0).N) main_arg3 (by decide)
  have e4 := Pipeline.withArrays_of_ne (cfgs 0).spec c (V0 m c) (fun w => (dats m 0 c).arrAt w (cfgs 0).N) main_arg4 (by decide)
  have ev := Pipeline.withArrays_arr (cfgs 0).spec launch0.win.arr_inj c (V0 m c) (fun w => (dats m 0 c).arrAt w (cfgs 0).N) 1
  have ec := cast_array m c
  exact congr (congrArg₂ dxArr (ev.trans ec) e1) (congrArg₂ weightArr e4 (congrArg₂ decArr e2 e3))

end

end Cert.ReferenceDxIdeal.Val

end
-- ==== Proof.DxEqual.lean ====
/-
  The input gradient of the kernel is the reference's: the kernel's order of adding against the reference's, and the claim
  that follows.
-/
module

public import proofs.«01_k».proof.Proof.DxGridIdeal
public import proofs.«01_k».proof.Proof.DxReferenceValue
public import proofs.«01_k».proof.Proof.Equal
public import proofs.«01_k».proof.Defs

@[expose] public section

set_option maxRecDepth 60000
set_option backward.proofsInPublic true

noncomputable section

open scoped BigOperators

namespace Cert.DxEqual

open Idealize.ShloMosaic Idealize.ShloMosaic.TcCoe
open Cert.KernelDxIdeal.Grid

/-- The kernel's gradient at a token and a column is the reference's. -/
theorem dx_eq (m : (ℓ : Loc Cert.KernelDxIdeal.nD Cert.KernelDxIdeal.τ Cert.KernelDxIdeal.sig) → Buf (Elt Ideal) ℓ) (c : Dev Cert.KernelDxIdeal.nD)
    (n : Fin 1152) (i : Fin 4096) :
    Cert.ReferenceDxIdeal.Val.dxArr (m ((c.tc : Thread Cert.KernelDxIdeal.nD Cert.KernelDxIdeal.τ).loc Cert.KernelDxIdeal.main_arg0))
        (m ((c.tc : Thread Cert.KernelDxIdeal.nD Cert.KernelDxIdeal.τ).loc Cert.KernelDxIdeal.main_arg1))
        (Cert.ReferenceDxIdeal.Val.weightArr (m ((c.tc : Thread Cert.KernelDxIdeal.nD Cert.KernelDxIdeal.τ).loc Cert.KernelDxIdeal.main_arg4))
          (Cert.ReferenceIdeal.Val.decArr (m ((c.tc : Thread Cert.KernelDxIdeal.nD Cert.KernelDxIdeal.τ).loc Cert.KernelDxIdeal.main_arg2))
            (m ((c.tc : Thread Cert.KernelDxIdeal.nD Cert.KernelDxIdeal.τ).loc Cert.KernelDxIdeal.main_arg3)))) (ix2 n i)
      = dxAt m c n i := by
  refine (Cert.ReferenceDxIdeal.Val.dxArr_apply _ _ _ n i).trans ?_
  unfold dxAt
  refine congrArg₂ (fun a b : EReal => a * b) ?_ rfl
  refine Cert.Equal.sum_split 14 1024 _ (fun t col => rowTerm m c n ⟨i.val / 8, by omega⟩ ⟨i.val % 8, by omega⟩ (outRow t col)) fun t col hn => ?_
  unfold rowTerm weightAt
  refine congrArg₂ (fun a b : EReal => a * b) rfl ?_
  refine (Cert.ReferenceDxIdeal.Val.weightArr_apply _ _ _ i).trans ?_
  refine (mul_comm _ _).trans ?_
  refine congrArg₂ (fun a b : EReal => a * b) ?_ rfl
  exact Cert.ReferenceIdeal.Val.decArr_apply _ _ (outRow t col) ⟨i.val / 8, by omega⟩ ⟨i.val % 8, by omega⟩ _

/-- The two programs' results agree and their arguments are kept. -/
theorem algebraic : algebraic_KernelDxIdeal_ReferenceDxIdeal (hKernelDxIdeal := Cert.KernelDxIdeal.Gen.facts) (hReferenceDxIdeal := Cert.ReferenceDxIdeal.Gen.facts) := by
  intro m g m' g' _ hm
  refine ⟨fun c => (Cert.KernelDxIdeal.Run.dats m 0 c).arrAt 5 Cert.KernelDxIdeal.cfg0.N, ?_, ?_⟩
  · refine (θ_run _ _ _).mono (fun r h c => ?_) (θ_run_and (Cert.KernelDxIdeal.Run.run_main m g) (Cert.KernelDxIdeal.Run.unchanged m g))
    exact ⟨(h.1 c).1 5, h.2 c⟩
  · refine (θ_run _ _ _).mono (fun r h c => ?_) (Cert.ReferenceDxIdeal.Val.run m' g')
    obtain ⟨h40, hargs⟩ := h c
    obtain ⟨a0, a1, a2, a3, a4, a5⟩ := hm c
    refine ⟨h40.trans ?_, hargs⟩
    rw [a0, a1, a2, a3, a4]
    refine Eq.trans ?_ (array5 m c).symm
    refine funext fun y : Cert.ReferenceDxIdeal.S1152x4096.Idx => ?_
    obtain ⟨n, i, rfl⟩ : ∃ (n : Fin 1152) (i : Fin 4096), y = ix2 n i :=
      ⟨y 0, y 1, funext fun a => by match a with | ⟨0, _⟩ => rfl | ⟨1, _⟩ => rfl⟩
    exact dx_eq m c n i

end Cert.DxEqual

end
-- ==== Proof.DcValueIdeal.lean ====
/-
  The value of `KernelDcIdeal`: the fold of the workers' tables, element by element.
-/
module

public import proofs.«01_k».proof.Proof.ReferenceValue
public import proofs.«01_k».proof.Proof.Gen.KernelDcIdeal.Frame
public import Idealize.ShloMosaic.Lib.Pipeline.ValueKit
public import Idealize.ShloMosaic.Lib.StableHlo.RunRead

@[expose] public section

set_option maxRecDepth 60000

noncomputable section

open scoped BigOperators

namespace Cert.KernelDcIdeal.Val

open Cert.KernelDcIdeal Cert.KernelDcIdeal.Gen
open Idealize.ShloMosaic Idealize.ShloMosaic.TcCoe Idealize.ShloMosaic.Tactic

/-- The word the kernel compares to choose a lane's column: the lane over sixteen, rounded down. -/
def word (k : BitVec 32) : BitVec 32 :=
  Scalar.select
    (IntOp.andi
      (IntOp.cmpi CmpIPredicate.ne
        (IntOp.subi (BitVec.setWidth 32 (IntOp.cmpi CmpIPredicate.sgt k 0#32)) (BitVec.setWidth 32 (IntOp.cmpi CmpIPredicate.slt k 0#32)))
        (Scalar.subi (Scalar.extui (Scalar.cmpi CmpIPredicate.sgt 16#32 0#32)) (Scalar.extui (Scalar.cmpi CmpIPredicate.slt 16#32 0#32))))
      (IntOp.cmpi CmpIPredicate.ne (IntOp.remsi ArithUnit.vector k 16#32) 0#32))
    (IntOp.subi (IntOp.divsi ArithUnit.vector k 16#32) 1#32) (IntOp.divsi ArithUnit.vector k 16#32)

/-- A lane's word is its number over sixteen. -/
theorem word_eq : ∀ k : Fin 128, word (BitVec.ofNat 32 k.val) = BitVec.ofNat 32 (k.val / 16) := by
  decide +kernel

/-- The mask's bit, as a word: one where the lane's column is this one. -/
theorem mask_eq : ∀ k q : Fin 128, BitVec.setWidth 32 (IntOp.cmpi CmpIPredicate.eq (BitVec.ofNat 32 (k.val / 16)) (BitVec.ofNat 32 q.val))
    = if k.val / 16 = q.val then 1#32 else 0#32 := by
  decide +kernel

/-- The body's last payload at a row and a column: the sums of the lanes the mask chooses. -/
theorem pay1_apply (a : FVec Ideal S512x128 .f32) (b d : Vec Ideal S1x512x128 .f32) (r : Fin 512) (q : Fin 128) :
    k0_pay1 (F := Ideal) a b d (ix2 r q) = ∑ k : Fin 128, ((a (ix2 r k) : EReal) + b (ix3 0 r k) + d (ix3 0 r k)) * (if k.val / 16 = q.val then 1 else 0) := by
  unfold k0_pay1
  simp only [pointwise]
  rw [zero_add]
  refine Finset.sum_congr rfl fun k _ => congrArg₂ (fun x y : EReal => x * y) rfl ?_
  have e0 : List.foldl (fun n a => n * (![128, 128] : Fin 2 → ℕ) a + ((ix2 k q : Cert.KernelDcIdeal.S128x128.Idx) a).val) 0 [0] = k.val := by
    show 0 * 128 + k.val = k.val; omega
  have e1 : List.foldl (fun n a => n * (![128, 128] : Fin 2 → ℕ) a + ((ix2 k q : Cert.KernelDcIdeal.S128x128.Idx) a).val) 0 [1] = q.val := by
    show 0 * 128 + q.val = q.val; omega
  refine (congrArg (FloatOps.sitofp (F := Ideal) FTy.f32) (?_ : _ = if k.val / 16 = q.val then 1#32 else 0#32)).trans ?_
  · refine Eq.trans ?_ (mask_eq k q)
    refine congrArg (BitVec.setWidth 32) (congrArg₂ (IntOp.cmpi CmpIPredicate.eq) ?_ (congrArg (BitVec.ofNat 32) e1))
    refine Eq.trans ?_ (word_eq k)
    exact congrArg (fun n => word (BitVec.ofNat 32 n)) e0
  · split
    · show (((1#32).toInt : ℝ) : EReal) = 1
      norm_num
    · show (((0#32).toInt : ℝ) : EReal) = 0
      norm_num

/-- Ten slices, added one by one to the sum before. -/
theorem pay4_apply (a : FVec Ideal S512x128 .f32) (b0 b1 b2 b3 b4 b5 b6 b7 b8 b9 : Vec Ideal S1x512x128 .f32) (r : Fin 512) (k : Fin 128) :
    k0_pay4 (F := Ideal) a b0 b1 b2 b3 b4 b5 b6 b7 b8 b9 (ix2 r k) = (a (ix2 r k) : EReal) + b0 (ix3 0 r k) + b1 (ix3 0 r k) + b2 (ix3 0 r k) + b3 (ix3 0 r k) + b4 (ix3 0 r k) + b5 (ix3 0 r k) + b6 (ix3 0 r k) + b7 (ix3 0 r k) + b8 (ix3 0 r k) + b9 (ix3 0 r k) := by
  unfold k0_pay4
  simp only [pointwise]

/-- Ten slices, added one by one to the sum before. -/
theorem pay3_apply (a : FVec Ideal S512x128 .f32) (b0 b1 b2 b3 b4 b5 b6 b7 b8 b9 : Vec Ideal S1x512x128 .f32) (r : Fin 512) (k : Fin 128) :
    k0_pay3 (F := Ideal) a b0 b1 b2 b3 b4 b5 b6 b7 b8 b9 (ix2 r k) = (a (ix2 r k) : EReal) + b0 (ix3 0 r k) + b1 (ix3 0 r k) + b2 (ix3 0 r k) + b3 (ix3 0 r k) + b4 (ix3 0 r k) + b5 (ix3 0 r k) + b6 (ix3 0 r k) + b7 (ix3 0 r k) + b8 (ix3 0 r k) + b9 (ix3 0 r k) := by
  unfold k0_pay3
  simp only [pointwise]

/-- Ten slices, added one by one. -/
theorem pay2_apply (b0 b1 b2 b3 b4 b5 b6 b7 b8 b9 : Vec Ideal S1x512x128 .f32) (r : Fin 512) (k : Fin 128) :
    k0_pay2 (F := Ideal) b0 b1 b2 b3 b4 b5 b6 b7 b8 b9 (ix2 r k) = (b0 (ix3 0 r k) : EReal) + b1 (ix3 0 r k) + b2 (ix3 0 r k) + b3 (ix3 0 r k) + b4 (ix3 0 r k) + b5 (ix3 0 r k) + b6 (ix3 0 r k) + b7 (ix3 0 r k) + b8 (ix3 0 r k) + b9 (ix3 0 r k) := by
  unfold k0_pay2
  simp only [pointwise]

/-- Thirty-two terms added one by one are their sum. -/
theorem sum32 (f : Fin 32 → EReal) :
    f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 = ∑ w : Fin 32, f w := by
  simp only [Fin.sum_univ_castSucc, Fin.sum_univ_zero, zero_add]
  rfl

/-- A worker's slice lies in the tables. -/
theorem slice_inb (w : Fin 32) : ∀ a, (![w.val, 0, 0] : Fin 3 → ℕ) a + S1x512x128.size a ≤ S32x512x128.size a := by
  revert w; decide +kernel

/-- What the body stores at a row and a column. -/
theorem out_apply (x0 : Vec Ideal S32x512x128 .f32) (r : Fin 512) (q : Fin 128) :
    out0_1 (F := Ideal) x0 (ix2 r q) = ∑ k : Fin 128, (∑ w : Fin 32, (x0 (ix3 w r k) : EReal)) * (if k.val / 16 = q.val then 1 else 0) := by
  unfold out0_1
  frame_out
  refine (pay1_apply _ _ _ r q).trans ?_
  refine Finset.sum_congr rfl fun k _ => congrArg₂ (fun x y : EReal => x * y) ?_ rfl
  rw [pay4_apply, pay3_apply, pay2_apply]
  have ld : ∀ w : Fin 32, ∀ i, (View.ld x0 (Rect.unit (s := S32x512x128) ![w.val, 0, 0] S1x512x128.size i)) (ix3 0 r k) = x0 (ix3 w r k) := by
    intro w i
    refine congrArg x0 (funext fun a => Fin.ext ?_)
    match a with
    | ⟨0, _⟩ => show w.val + 1 * 0 = w.val; omega
    | ⟨1, _⟩ => show 0 + 1 * r.val = r.val; omega
    | ⟨2, _⟩ => show 0 + 1 * k.val = k.val; omega
  exact (sum32 fun w => View.ld x0 (Rect.unit (s := S32x512x128) ![w.val, 0, 0] S1x512x128.size (slice_inb w)) (ix3 0 r k)).trans
    (Finset.sum_congr rfl fun w _ => ld w _)

variable (m : (ℓ : Loc nD τ sig) → Buf (Elt Ideal) ℓ) (c : Dev nD)

/-! ## The operations before and after the call -/

/-- The tables as the call takes them: one slice of rows and lanes for each worker. -/
theorem V_tables : V m c main_v0 = shapeCast S32x512x128 (m ((c.tc : Thread nD τ).loc main_arg0)) shapeCasts_S2097152_S32x512x128 := by
  show StableHlo.after hostOps0 (fun b => m (c, b)) (Proc.devRef .tc main_v0) = _
  after_reads_simp
  rfl

/-- What the operations after the call make of the array it leaves: its first eight columns, as dC. -/
def tailArr (x : FVec Ideal S512x128 .f32) : FVec Ideal S2x256x8 .f32 :=
  transpose S2x256x8 [0, 2, 1] (shapeCast S2x8x256 (extractStridedSlice S512x8 ![0, 0] x slices_S512x128_S512x8_0_0)
    shapeCasts_S512x8_S2x8x256) transposes_S2x8x256_S2x256x8_0_2_1

/-- What the operations after the call leave in the result. -/
theorem tail_4 (V : Valuation τ sig (Elt Ideal)) :
    StableHlo.after ([hostOps1 (F := Ideal)].flatten) V (Proc.devRef .tc main_v4) = tailArr (V (Proc.devRef .tc main_v1)) := by
  simp only [List.flatten_cons, List.flatten_nil, List.append_nil]
  after_reads_simp
  rfl

/-- dC's entries in the call's array, row by row. -/
theorem tailArr_apply (x : FVec Ideal S512x128 .f32) (b : Fin 2) (n : Fin 256) (j : Fin 8) :
    tailArr x (ix3 b n j) = x (ix2 ⟨((b.val * 8 + j.val) * 256 + n.val) / 8, by omega⟩ ⟨((b.val * 8 + j.val) * 256 + n.val) % 8, by omega⟩) := by
  unfold tailArr
  simp only [pointwise]
  refine congrArg x (congrArg₂ ix2 (Fin.ext ?_) (Fin.ext ?_))
  · show 0 + (b.val * 256 + j.val * 32 + n.val / 8) = ((b.val * 8 + j.val) * 256 + n.val) / 8; omega
  · show 0 + n.val % 8 = ((b.val * 8 + j.val) * 256 + n.val) % 8; omega

/-! ## The array the call leaves -/

/-- The block index of window 0 at the grid's point. -/
theorem i0 : ∀ t : Fin cfg0.N, win0_0.index t = ![0, 0, 0] := (by decide +kernel : ∀ t : Fin grid0.N, _)
/-- The block index of window 1 at the grid's point. -/
theorem i1 : ∀ t : Fin cfg0.N, win0_1.index t = ![0, 0] := (by decide +kernel : ∀ t : Fin grid0.N, _)

/-- The body is given the whole of the tables. -/
theorem blk0 (t : Fin cfg0.N) (w : Fin 32) (r : Fin 512) (k : Fin 128) :
    iblk m c 0 t (ix3 w r k) = (m ((c.tc : Thread nD τ).loc main_arg0)) (ix1 ⟨(w.val * 512 + r.val) * 128 + k.val, by omega⟩) := by
  have e : iblk m c 0 t (ix3 w r k) = V m c main_v0 (ix3 w r k) := by
    blk_simp [iblk]
    refine congrArg (V m c main_v0) ?_
    blk_ext [i0]
  rw [e, V_tables]
  simp only [pointwise]
  refine congrArg (m ((c.tc : Thread nD τ).loc main_arg0)) (congrArg ix1 (Fin.ext ?_))
  show w.val * 65536 + r.val * 128 + k.val = (w.val * 512 + r.val) * 128 + k.val
  omega

/-- The call's array at a row and a column: the rows' lanes summed over the workers, then over the column's lanes. -/
def foldAt (x : FVec Ideal S2097152 .f32) (r : Fin 512) (q : Fin 128) : EReal :=
  ∑ k : Fin 128, (∑ w : Fin 32, (x (ix1 ⟨(w.val * 512 + r.val) * 128 + k.val, by omega⟩) : EReal)) * (if k.val / 16 = q.val then 1 else 0)

/-- The array the call leaves. -/
theorem array1 : (dats m 0 c).arrAt 1 cfg0.N
    = (fun y : S512x128.Idx => foldAt (m ((c.tc : Thread nD τ).loc main_arg0)) (y 0) (y 1)) := by
  refine (dats m 0 c).arrAt_eq_of_covers 1 _ (by decide +kernel) fun t hf y => ?_
  obtain ⟨r, q, rfl⟩ : ∃ (r : Fin 512) (q : Fin 128), y = (ix2 r q : S512x128.Idx) :=
    ⟨y 0, y 1, funext fun a => by match a with | ⟨0, _⟩ => rfl | ⟨1, _⟩ => rfl⟩
  blk_simp
  rw [after0_1]
  refine (out_apply _ r q).trans ?_
  have ey : (win0_1.blk t).view.emb (ix2 r q) = (ix2 r q : S512x128.Idx) := by
    blk_ext [i1]
  rw [ey]
  exact Finset.sum_congr rfl fun k _ => congrArg₂ (fun x y : EReal => x * y) (Finset.sum_congr rfl fun w _ => blk0 m c t w r k) rfl

/-- The program's run: its result as a function of its argument, which ends as it began. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v4)
        = tailArr (fun y : S512x128.Idx => foldAt (m ((c.tc : Thread nD τ).loc main_arg0)) (y 0) (y 1))
      ∧ r.2.mem ((c.tc : Thread nD τ).loc main_arg0) = m ((c.tc : Thread nD τ).loc main_arg0)) := by
  refine (θ_run defs _ _).mono (fun r h => ?_) (θ_run_and (run_main m ρ) (unchanged m ρ))
  intro c
  refine ⟨?_, h.2 c⟩
  refine ((h.1 c).2 main_v4 (Pipeline.mem_restRefs_of main_v4 (by decide) (by decide))).trans ?_
  unfold Pipeline.afterTail₀
  refine (tail_4 _).trans ?_
  have ev := Pipeline.withArrays_arr (cfgs 0).spec launch0.win.arr_inj c (V0 m c) (fun w => (dats m 0 c).arrAt w (cfgs 0).N) 1
  exact congrArg tailArr (ev.trans (array1 m c))

end Cert.KernelDcIdeal.Val

end
-- ==== Proof.DcReferenceValue.lean ====
/-
  The reference's dC, element by element, from the workers' tables.
-/
module

public import proofs.«01_k».proof.Proof.ReferenceValue
public import proofs.«01_k».proof.Proof.Gen.ReferenceDcIdeal.Run
public import Idealize.ShloMosaic.Lib.Quiescent

@[expose] public section

set_option maxRecDepth 60000

noncomputable section

open scoped BigOperators

namespace Cert.ReferenceDcIdeal.Val

open Cert.ReferenceDcIdeal Cert.ReferenceDcIdeal.Gen
open Idealize.ShloMosaic Idealize.ShloMosaic.TcCoe Idealize.ShloMosaic.Tactic

/-- dC as the reference writes it. -/
def dcArr (x : FVec Ideal S2097152 .f32) : FVec Ideal S2x256x8 .f32 :=
  transpose S2x256x8 [0, 2, 1] (Host.reduceAdd (Host.reduceAdd (shapeCast _ x shapeCasts_S2097152_S32x2x8x256x16)
    (constant S_ .f32 0x00000000#32) reducesTo_S32x2x8x256x16_S32x2x8x256_d4 h_S_)
    (constant S_ .f32 0x00000000#32) reducesTo_S32x2x8x256_S2x8x256_d0 h_S_) transposes_S2x8x256_S2x256x8_0_2_1

/-- dC at a codebook, a bin and a place in the group: the sum over the workers and the lanes of their tables. -/
theorem dcArr_apply (x : FVec Ideal S2097152 .f32) (b : Fin 2) (n : Fin 256) (j : Fin 8) :
    dcArr x (ix3 b n j) = ∑ w : Fin 32, ∑ l : Fin 16,
      (x (ix1 ⟨(((w.val * 2 + b.val) * 8 + j.val) * 256 + n.val) * 16 + l.val, by omega⟩) : EReal) := by
  unfold dcArr
  simp only [pointwise]
  rw [zero_add]
  refine Finset.sum_congr rfl fun w _ => (zero_add _).trans (Finset.sum_congr rfl fun l _ => ?_)
  refine congrArg x (congrArg ix1 (Fin.ext ?_))
  show w.val * 65536 + b.val * 32768 + j.val * 4096 + n.val * 16 + l.val = (((w.val * 2 + b.val) * 8 + j.val) * 256 + n.val) * 16 + l.val
  omega

/-- The reference's run: its result as a function of its argument, which ends as it began. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = dcArr (m ((c.tc : Thread nD τ).loc main_arg0))
      ∧ r.2.mem ((c.tc : Thread nD τ).loc main_arg0) = m ((c.tc : Thread nD τ).loc main_arg0)) :=
  Cert.ReferenceDcIdeal.Value.run m ρ

/-- The reference ends with its argument as it began and with no semaphore raised. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => (h c).2, sem_eq_zero_of_no_sems (by decide) r.2⟩) (run m ρ)

end Cert.ReferenceDcIdeal.Val

end
-- ==== Proof.DcEqual.lean ====
/-
  The kernel's dC is the reference's: the kernel's order of adding against the reference's, and the claim that follows.
-/
module

public import proofs.«01_k».proof.Proof.DcValueIdeal
public import proofs.«01_k».proof.Proof.DcReferenceValue
public import proofs.«01_k».proof.Proof.Equal
public import proofs.«01_k».proof.Defs

@[expose] public section

set_option maxRecDepth 60000
set_option backward.proofsInPublic true

noncomputable section

open scoped BigOperators

namespace Cert.DcEqual

open Idealize.ShloMosaic Idealize.ShloMosaic.TcCoe
open Cert.KernelDcIdeal.Val

/-- A column's masked sum over the lanes is the sum over its sixteen lanes. -/
theorem mask_sum (g : Fin 128 → EReal) (q : Fin 8) :
    (∑ k : Fin 128, g k * (if k.val / 16 = q.val then 1 else 0)) = ∑ l : Fin 16, g ⟨16 * q.val + l.val, by omega⟩ := by
  refine (Cert.Equal.sum_split 8 16 _ (fun p l => g ⟨16 * p.val + l.val, by omega⟩ * (if p = q then 1 else 0)) fun p l hn => ?_).trans ?_
  · refine congrArg₂ (fun a b : EReal => a * b) rfl ?_
    show (if (16 * p.val + l.val) / 16 = q.val then (1 : EReal) else 0) = if p = q then 1 else 0
    have e : (16 * p.val + l.val) / 16 = p.val := by omega
    rw [e]
    exact if_congr Fin.ext_iff.symm rfl rfl
  · refine (Finset.sum_eq_single q (fun p _ hp => ?_) (fun h => absurd (Finset.mem_univ q) h)).trans ?_
    · refine Finset.sum_eq_zero fun l _ => ?_
      rw [if_neg hp, mul_zero]
    · refine Finset.sum_congr rfl fun l _ => ?_
      rw [if_pos rfl, mul_one]

/-- The kernel's dC at a codebook, a bin and a place in the group is the reference's. -/
theorem dc_eq (x : FVec Ideal Cert.KernelDcIdeal.S2097152 .f32) (b : Fin 2) (n : Fin 256) (j : Fin 8) :
    Cert.ReferenceDcIdeal.Val.dcArr x (ix3 b n j)
      = tailArr (fun y : Cert.KernelDcIdeal.S512x128.Idx => foldAt x (y 0) (y 1)) (ix3 b n j) := by
  refine (Cert.ReferenceDcIdeal.Val.dcArr_apply x b n j).trans ?_
  refine Eq.trans ?_ (tailArr_apply _ b n j).symm
  refine Eq.trans ?_ (mask_sum (fun k => ∑ w : Fin 32, (x (ix1 ⟨(w.val * 512 + ((b.val * 8 + j.val) * 256 + n.val) / 8) * 128 + k.val, by omega⟩) : EReal))
    ⟨((b.val * 8 + j.val) * 256 + n.val) % 8, by omega⟩).symm
  refine Finset.sum_comm.trans ?_
  refine Finset.sum_congr rfl fun l _ => Finset.sum_congr rfl fun w _ => ?_
  refine congrArg x (congrArg ix1 (Fin.ext ?_))
  show (((w.val * 2 + b.val) * 8 + j.val) * 256 + n.val) * 16 + l.val
    = (w.val * 512 + ((b.val * 8 + j.val) * 256 + n.val) / 8) * 128 + (16 * (((b.val * 8 + j.val) * 256 + n.val) % 8) + l.val)
  omega

/-- The two programs' results agree and their arguments are kept. -/
theorem algebraic : algebraic_KernelDcIdeal_ReferenceDcIdeal (hKernelDcIdeal := Cert.KernelDcIdeal.Gen.facts) (hReferenceDcIdeal := Cert.ReferenceDcIdeal.Gen.facts) := by
  intro m g m' g' _ hm
  refine ⟨fun c => tailArr (fun y : Cert.KernelDcIdeal.S512x128.Idx => foldAt (m ((c.tc : Thread Cert.KernelDcIdeal.nD Cert.KernelDcIdeal.τ).loc Cert.KernelDcIdeal.main_arg0)) (y 0) (y 1)),
    Cert.KernelDcIdeal.Val.run m g, ?_⟩
  refine (θ_run _ _ _).mono (fun r h c => ?_) (Cert.ReferenceDcIdeal.Val.run m' g')
  obtain ⟨h3, hargs⟩ := h c
  refine ⟨h3.trans ?_, hargs⟩
  rw [hm c]
  refine funext fun y : Cert.ReferenceDcIdeal.S2x256x8.Idx => ?_
  obtain ⟨b, n, j, rfl⟩ : ∃ (b : Fin 2) (n : Fin 256) (j : Fin 8), y = ix3 b n j :=
    ⟨y 0, y 1, y 2, funext fun a => by match a with | ⟨0, _⟩ => rfl | ⟨1, _⟩ => rfl | ⟨2, _⟩ => rfl⟩
  exact dc_eq _ b n j

end Cert.DcEqual

end
-- ==== Proof.lean ====
/-
  The certificate, for each of the three calls (the weight gradient's, the input gradient's and the codebook gradient's fold): the frames of the three
  programs, that the kernel at the device's numbers and at exact ones is one program up to the rewrites listed, and that
  over the extended reals the kernel's results are the reference's.
-/
module

public import proofs.«01_k».proof.Defs
public import proofs.«01_k».proof.Proof.Gen.Kernel
public import proofs.«01_k».proof.Proof.Gen.KernelIdeal
public import proofs.«01_k».proof.Proof.Gen.KernelDx
public import proofs.«01_k».proof.Proof.Gen.KernelDx.Loops
public import proofs.«01_k».proof.Proof.Gen.KernelDx.Frame
public import proofs.«01_k».proof.Proof.Gen.KernelDxIdeal
public import proofs.«01_k».proof.Proof.Gen.KernelDxIdeal.Loops
public import proofs.«01_k».proof.Proof.Gen.KernelDxIdeal.Frame
public import proofs.«01_k».proof.Proof.Gen.ReferenceDxIdeal
public import proofs.«01_k».proof.Proof.Gen.ReferenceDxIdeal.Frame
public import proofs.«01_k».proof.Proof.Gen.KernelDc
public import proofs.«01_k».proof.Proof.Gen.KernelDc.Frame
public import proofs.«01_k».proof.Proof.Gen.KernelDcIdeal
public import proofs.«01_k».proof.Proof.Gen.KernelDcIdeal.Frame
public import proofs.«01_k».proof.Proof.Gen.ReferenceDcIdeal
public import proofs.«01_k».proof.Proof.Gen.ReferenceDcIdeal.Run
public import proofs.«01_k».proof.Proof.RunBits
public import proofs.«01_k».proof.Proof.RunIdeal
public import proofs.«01_k».proof.Proof.Equal
public import proofs.«01_k».proof.Proof.DxFrameBits
public import proofs.«01_k».proof.Proof.DxFrameIdeal
public import proofs.«01_k».proof.Proof.DxEqual
public import proofs.«01_k».proof.Proof.DcEqual
public import Idealize.ShloMosaic.Lib.Bf16Pair

@[expose] public section

noncomputable section

namespace Cert.Proof

open Idealize.ShloMosaic

/-- The certificate's claim. -/
theorem claim : Cert.Claim :=
  ⟨Cert.Kernel.Gen.facts, Cert.KernelIdeal.Gen.facts, Cert.ReferenceIdeal.Gen.facts, Cert.KernelDx.Gen.facts,
    Cert.KernelDxIdeal.Gen.facts, Cert.ReferenceDxIdeal.Gen.facts, Cert.KernelDc.Gen.facts, Cert.KernelDcIdeal.Gen.facts,
    Cert.ReferenceDcIdeal.Gen.facts, fun m ρ _ => Cert.Kernel.Run.frame m ρ,
    fun m ρ _ => Cert.KernelIdeal.Run.frame m ρ, fun m ρ _ => Cert.ReferenceIdeal.Gen.frame m ρ,
    fun m ρ _ => Cert.KernelDx.Run.frame m ρ, fun m ρ _ => Cert.KernelDxIdeal.Run.frame m ρ,
    fun m ρ _ => Cert.ReferenceDxIdeal.Gen.frame m ρ, fun m ρ _ => Cert.KernelDc.Gen.frame m ρ,
    fun m ρ _ => Cert.KernelDcIdeal.Gen.frame m ρ, fun m ρ _ => Cert.ReferenceDcIdeal.Val.frame m ρ, trivial, Cert.Equal.algebraic,
    ⟨IdealRules.bf16_pair.packStatement _, IdealRules.bf16_pair.statement _ _⟩, Cert.DxEqual.algebraic,
    trivial, Cert.DcEqual.algebraic⟩

end Cert.Proof

end
